-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def preserves_Kernel_KernelIdeal : Prop :=
  IdealRules.named_const.Statement Cert.KernelIdeal.κ "c" .f32 0x3D372713#32 ((8943 / 200000 : ℝ) : EReal)
  ∧ IdealRules.named_const.Statement Cert.KernelIdeal.κ "three_c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)) (v4 : (c : Dev Cert.KernelIdeal.nD) → Buf (Elt Ideal) ((c.tc : Thread Cert.KernelIdeal.nD Cert.KernelIdeal.τ).loc Cert.KernelIdeal.main_v37_4)) (v5 : (c : Dev Cert.KernelIdeal.nD) → Buf (Elt Ideal) ((c.tc : Thread Cert.KernelIdeal.nD Cert.KernelIdeal.τ).loc Cert.KernelIdeal.main_v37_5)) (v6 : (c : Dev Cert.KernelIdeal.nD) → Buf (Elt Ideal) ((c.tc : Thread Cert.KernelIdeal.nD Cert.KernelIdeal.τ).loc Cert.KernelIdeal.main_v37_6)) (v7 : (c : Dev Cert.KernelIdeal.nD) → Buf (Elt Ideal) ((c.tc : Thread Cert.KernelIdeal.nD Cert.KernelIdeal.τ).loc Cert.KernelIdeal.main_v37_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_v37_4) = v4 c
          ∧ r.2.mem ((c.tc : Thread Cert.KernelIdeal.nD Cert.KernelIdeal.τ).loc Cert.KernelIdeal.main_v37_5) = v5 c
          ∧ r.2.mem ((c.tc : Thread Cert.KernelIdeal.nD Cert.KernelIdeal.τ).loc Cert.KernelIdeal.main_v37_6) = v6 c
          ∧ r.2.mem ((c.tc : Thread Cert.KernelIdeal.nD Cert.KernelIdeal.τ).loc Cert.KernelIdeal.main_v37_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_v180) = v5 c
          ∧ r.2.mem ((c.tc : Thread Cert.ReferenceIdeal.nD Cert.ReferenceIdeal.τ).loc Cert.ReferenceIdeal.main_v181) = v6 c
          ∧ r.2.mem ((c.tc : Thread Cert.ReferenceIdeal.nD Cert.ReferenceIdeal.τ).loc Cert.ReferenceIdeal.main_v182) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_v54) = v4 c
          ∧ r.2.mem ((c.tc : Thread Cert.Reference2Ideal.nD Cert.Reference2Ideal.τ).loc Cert.Reference2Ideal.main_v55) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_v24) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "c" .f32 0x3D372713#32 ((8943 / 200000 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v18_0)) (v1 : (c : Dev Cert.Kernel8Ideal.nD) → Buf (Elt Ideal) ((c.tc : Thread Cert.Kernel8Ideal.nD Cert.Kernel8Ideal.τ).loc Cert.Kernel8Ideal.main_v18_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18_0) = v0 c
          ∧ r.2.mem ((c.tc : Thread Cert.Kernel8Ideal.nD Cert.Kernel8Ideal.τ).loc Cert.Kernel8Ideal.main_v18_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v66) = v0 c
          ∧ r.2.mem ((c.tc : Thread Cert.Reference8Ideal.nD Cert.Reference8Ideal.τ).loc Cert.Reference8Ideal.main_v67) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v10_0)) (v1 : (c : Dev Cert.Kernel11Ideal.nD) → Buf (Elt Ideal) ((c.tc : Thread Cert.Kernel11Ideal.nD Cert.Kernel11Ideal.τ).loc Cert.Kernel11Ideal.main_v10_1)) (v2 : (c : Dev Cert.Kernel11Ideal.nD) → Buf (Elt Ideal) ((c.tc : Thread Cert.Kernel11Ideal.nD Cert.Kernel11Ideal.τ).loc Cert.Kernel11Ideal.main_v10_2)) (v3 : (c : Dev Cert.Kernel11Ideal.nD) → Buf (Elt Ideal) ((c.tc : Thread Cert.Kernel11Ideal.nD Cert.Kernel11Ideal.τ).loc Cert.Kernel11Ideal.main_v10_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10_0) = v0 c
          ∧ r.2.mem ((c.tc : Thread Cert.Kernel11Ideal.nD Cert.Kernel11Ideal.τ).loc Cert.Kernel11Ideal.main_v10_1) = v1 c
          ∧ r.2.mem ((c.tc : Thread Cert.Kernel11Ideal.nD Cert.Kernel11Ideal.τ).loc Cert.Kernel11Ideal.main_v10_2) = v2 c
          ∧ r.2.mem ((c.tc : Thread Cert.Kernel11Ideal.nD Cert.Kernel11Ideal.τ).loc Cert.Kernel11Ideal.main_v10_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v20) = v1 c
          ∧ r.2.mem ((c.tc : Thread Cert.Reference11Ideal.nD Cert.Reference11Ideal.τ).loc Cert.Reference11Ideal.main_v21) = v2 c
          ∧ r.2.mem ((c.tc : Thread Cert.Reference11Ideal.nD Cert.Reference11Ideal.τ).loc Cert.Reference11Ideal.main_v24) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x1024 : Shape := ⟨2, ![4096, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S2048x1024 : S_.BroadcastsInDim S2048x1024 (![] : Fin 0 → Fin S2048x1024.rank)

variable [Facts]

def fn_part1 {F : FTy → Type} [FloatOps F] (main_arg6 : FVec F S8x128x128 .f32) (main_arg7 : FVec F S8x128 .f32) (main_arg8 : FVec F S2048x1024 .f32) (main_v2 : IVec S4096x1024 1) (main_v5 : IVec S4096x1024 1) (main_v8 : IVec S1024 1) (main_v11 : IVec S1024x4096 1) (main_v14 : IVec S2048 1) (main_v17 : IVec S2048 1) : IVec S4096x1024 1 × IVec S4096x1024 1 × IVec S1024 1 × IVec S1024x4096 1 × IVec S2048 1 × IVec S2048 1 × IVec S8x128x128 1 × IVec S8x128 1 × IVec S2048x1024 1 :=
  let main_v18 : FVec F S8x128x128 .f32 := Host.absf main_arg6
  let main_cst_5 : FVec F S_ .f32 := constant S_ .f32 0x7F800000#32
  let main_v19 : FVec F S8x128x128 .f32 := broadcastInDim S8x128x128 ![] bcast_S_S8x128x128 main_cst_5
  let main_v20 : IVec S8x128x128 1 := cmpf .olt main_v18 main_v19
  let main_v21 : FVec F S8x128 .f32 := Host.absf main_arg7
  let main_cst_6 : FVec F S_ .f32 := constant S_ .f32 0x7F800000#32
  let main_v22 : FVec F S8x128 .f32 := broadcastInDim S8x128 ![] bcast_S_S8x128 main_cst_6
  let main_v23 : IVec S8x128 1 := cmpf .olt main_v21 main_v22
  let main_v24 : FVec F S2048x1024 .f32 := Host.absf main_arg8
  let main_cst_7 : FVec F S_ .f32 := constant S_ .f32 0x7F800000#32
  let main_v25 : FVec F S2048x1024 .f32 := broadcastInDim S2048x1024 ![] bcast_S_S2048x1024 main_cst_7
  let main_v26 : IVec S2048x1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x1024 .f32) (main_arg2 : FVec F S1024 .f32) (main_arg3 : FVec F S1024x4096 .f32) (main_arg4 : FVec F S2048 .f32) (main_arg5 : FVec F S2048 .f32) (main_arg6 : FVec F S8x128x128 .f32) (main_arg7 : FVec F S8x128 .f32) (main_arg8 : FVec F S2048x1024 .f32) : IVec S4096x1024 1 × IVec S4096x1024 1 × IVec S1024 1 × IVec S1024x4096 1 × IVec S2048 1 × IVec S2048 1 × IVec S8x128x128 1 × IVec S8x128 1 × IVec S2048x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S2048 .f32 := Host.absf main_arg5
  let main_cst_4 : FVec F S_ .f32 := constant S_ .f32 0x7F800000#32
  let main_v16 : FVec F S2048 .f32 := broadcastInDim S2048 ![] bcast_S_S2048 main_cst_4
  let main_v17 : IVec S2048 1 := cmpf .olt main_v15 main_v16
  fn_part1 (F := F) main_arg6 main_arg7 main_arg8 main_v2 main_v5 main_v8 main_v11 main_v14 main_v17
-- ==== Pre_finite2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S4096x1024 .f32) (main_arg2 : FVec F S1024 .f32) (main_arg3 : FVec F S1024x4096 .f32) (main_arg4 : FVec F S4096x1024 .f32) : IVec S4096x1024 1 × IVec S4096x1024 1 × IVec S1024 1 × IVec S1024x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x1024 : Shape := ⟨2, ![4096, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024x4x1024 : Shape := ⟨3, ![1024, 4, 1024]⟩
abbrev S4x1024x1024 : Shape := ⟨3, ![4, 1024, 1024]⟩
abbrev S4x512x1024 : Shape := ⟨3, ![4, 512, 1024]⟩
abbrev S_ : Shape := ⟨0, ![]⟩
abbrev S4x2048x1024 : Shape := ⟨3, ![4, 2048, 1024]⟩
abbrev S4x4096x1024 : Shape := ⟨3, ![4, 4096, 1024]⟩
abbrev S128x128 : Shape := ⟨2, ![128, 128]⟩
abbrev S1x128x128 : Shape := ⟨3, ![1, 128, 128]⟩
abbrev S128x8 : Shape := ⟨2, ![128, 8]⟩
abbrev S128x8x256 : Shape := ⟨3, ![128, 8, 256]⟩
abbrev S128x2048 : Shape := ⟨2, ![128, 2048]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1x2048 : Shape := ⟨2, ![1, 2048]⟩
abbrev S8x2048 : Shape := ⟨2, ![8, 2048]⟩
abbrev S8x1024 : Shape := ⟨2, ![8, 1024]⟩
abbrev S256x1024 : Shape := ⟨2, ![256, 1024]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x256 : Shape := ⟨2, ![128, 256]⟩
abbrev S1x1024x1024 : Shape := ⟨3, ![1, 1024, 1024]⟩
abbrev S1024x1024 : Shape := ⟨2, ![1024, 1024]⟩

abbrev nBuf : Space → Nat
  | .hbm => 68
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S2048, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S2048x1024, .f32⟩
  | .hbm, ⟨9, _⟩ => ⟨S1024x4x1024, .f32⟩
  | .hbm, ⟨10, _⟩ => ⟨S4x1024x1024, .f32⟩
  | .hbm, ⟨11, _⟩ => ⟨S4x512x1024, .f32⟩
  | .hbm, ⟨12, _⟩ => ⟨S_, .bf16⟩
  | .hbm, ⟨13, _⟩ => ⟨S4x2048x1024, .bf16⟩
  | .hbm, ⟨14, _⟩ => ⟨S4x1024x1024, .bf16⟩
  | .hbm, ⟨15, _⟩ => ⟨S4x512x1024, .bf16⟩
  | .hbm, ⟨16, _⟩ => ⟨S_, .bf16⟩
  | .hbm, ⟨17, _⟩ => ⟨S4x512x1024, .bf16⟩
  | .hbm, ⟨18, _⟩ => ⟨S4x4096x1024, .bf16⟩
  | .hbm, ⟨19, _⟩ => ⟨S_, .f32⟩
  | .hbm, ⟨20, _⟩ => ⟨S128x128, .f32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S1x128x128, .f32⟩
  | .hbm, ⟨31, _⟩ => ⟨S8x128x128, .f32⟩
  | .hbm, ⟨32, _⟩ => ⟨S8x128x128, .f32⟩
  | .hbm, ⟨33, _⟩ => ⟨S8x128x128, .bf16⟩
  | .hbm, ⟨34, _⟩ => ⟨S8x128x128, .bf16⟩
  | .hbm, ⟨35, _⟩ => ⟨S128x8, .f32⟩
  | .hbm, ⟨36, _⟩ => ⟨S128x8x256, .f32⟩
  | .hbm, ⟨37, _⟩ => ⟨S128x2048, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x4096, .f32⟩
  | .hbm, ⟨55, _⟩ => ⟨S4096x4096, .bf16⟩
  | .hbm, ⟨56, _⟩ => ⟨S4096x1024, .bf16⟩
  | .hbm, ⟨57, _⟩ => ⟨S1x1024, .f32⟩
  | .hbm, ⟨58, _⟩ => ⟨S1x2048, .f32⟩
  | .hbm, ⟨59, _⟩ => ⟨S1x2048, .f32⟩
  | .hbm, ⟨60, _⟩ => ⟨S4096x1024, .f32⟩
  | .hbm, ⟨61, _⟩ => ⟨S4096x1024, .bf16⟩
  | .hbm, ⟨62, _⟩ => ⟨S4096x4096, .bf16⟩
  | .hbm, ⟨63, _⟩ => ⟨S8x128x128, .f32⟩
  | .hbm, ⟨64, _⟩ => ⟨S128x2048, .f32⟩
  | .hbm, ⟨65, _⟩ => ⟨S8x2048, .f32⟩
  | .hbm, ⟨66, _⟩ => ⟨S8x2048, .f32⟩
  | .hbm, ⟨67, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .vmem, ⟨8, _⟩ => ⟨S1x1024, .f32⟩
  | .local _ .vmem, ⟨9, _⟩ => ⟨S4x1024x1024, .bf16⟩
  | .local _ .vmem, ⟨10, _⟩ => ⟨S1x2048, .f32⟩
  | .local _ .vmem, ⟨11, _⟩ => ⟨S1x2048, .f32⟩
  | .local _ .vmem, ⟨12, _⟩ => ⟨S8x128x128, .bf16⟩
  | .local _ .vmem, ⟨13, _⟩ => ⟨S8x128x128, .bf16⟩
  | .local _ .vmem, ⟨14, _⟩ => ⟨S128x2048, .f32⟩
  | .local _ .vmem, ⟨15, _⟩ => ⟨S4x512x1024, .bf16⟩
  | .local _ .vmem, ⟨16, _⟩ => ⟨S128x128, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x4096, .bf16⟩
  | .local _ .vmem, ⟨22, _⟩ => ⟨S256x4096, .bf16⟩
  | .local _ .vmem, ⟨23, _⟩ => ⟨S8x128x128, .f32⟩
  | .local _ .vmem, ⟨24, _⟩ => ⟨S128x2048, .f32⟩
  | .local _ .vmem, ⟨25, _⟩ => ⟨S8x2048, .f32⟩
  | .local _ .vmem, ⟨26, _⟩ => ⟨S8x2048, .f32⟩
  | .local _ .vmem, ⟨27, _⟩ => ⟨S8x1024, .f32⟩
  | .local _ .vmem, ⟨28, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37_0 : Ref sig .tc := ⟨.hbm, 60, rfl⟩
abbrev main_v37_1 : Ref sig .tc := ⟨.hbm, 61, rfl⟩
abbrev main_v37_2 : Ref sig .tc := ⟨.hbm, 62, rfl⟩
abbrev main_v37_3 : Ref sig .tc := ⟨.hbm, 63, rfl⟩
abbrev main_v37_4 : Ref sig .tc := ⟨.hbm, 64, rfl⟩
abbrev main_v37_5 : Ref sig .tc := ⟨.hbm, 65, rfl⟩
abbrev main_v37_6 : Ref sig .tc := ⟨.hbm, 66, rfl⟩
abbrev main_v37_7 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  let c0_i32_1 : BitVec 32 := 0#32
  ![c0_i32.toNat, c6_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "c" => some ((8943 / 200000 : ℝ) : EReal)
  | "three_c" => some ((26829 / 200000 : ℝ) : EReal)
  | _ => none
-- ==== ReferenceIdeal.lean ====
abbrev S4096x1024 : Shape := ⟨2, ![4096, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S128x8 : Shape := ⟨2, ![128, 8]⟩
abbrev S128x8x256 : Shape := ⟨3, ![128, 8, 256]⟩
abbrev S128x2048 : Shape := ⟨2, ![128, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S4096x2048 : Shape := ⟨2, ![4096, 2048]⟩
abbrev S1x2048 : Shape := ⟨2, ![1, 2048]⟩
abbrev S32x128x8x256 : Shape := ⟨4, ![32, 128, 8, 256]⟩
abbrev S128x128 : Shape := ⟨2, ![128, 128]⟩
abbrev S1x128x128 : Shape := ⟨3, ![1, 128, 128]⟩
abbrev S8x32x256x128 : Shape := ⟨4, ![8, 32, 256, 128]⟩
abbrev S1x128x8x256 : Shape := ⟨4, ![1, 128, 8, 256]⟩
abbrev S8x2048 : Shape := ⟨2, ![8, 2048]⟩
abbrev S8x1024 : Shape := ⟨2, ![8, 1024]⟩

abbrev nBuf : Space → Nat
  | .hbm => 241
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024x4096, .f32⟩
  | 4 => ⟨S2048, .f32⟩
  | 5 => ⟨S2048, .f32⟩
  | 6 => ⟨S8x128x128, .f32⟩
  | 7 => ⟨S8x128, .f32⟩
  | 8 => ⟨S2048x1024, .f32⟩
  | 9 => ⟨S128x8, .f32⟩
  | 10 => ⟨S128x8x256, .f32⟩
  | 11 => ⟨S128x2048, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S4096x4096, .f32⟩
  | 33 => ⟨S_, .f32⟩
  | 34 => ⟨S_, .f32⟩
  | 35 => ⟨S_, .f32⟩
  | 36 => ⟨S4096x4096, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .f32⟩
  | 55 => ⟨S4096x4096, .f32⟩
  | 56 => ⟨S_, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S4096x4096, .f32⟩
  | 63 => ⟨S4096x2048, .f32⟩
  | 64 => ⟨S4096x2048, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S4096x2048, .f32⟩
  | 72 => ⟨S4096x2048, .f32⟩
  | 73 => ⟨S4096x2048, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x2048, .f32⟩
  | 89 => ⟨S4096x2048, .f32⟩
  | 90 => ⟨S1x2048, .f32⟩
  | 91 => ⟨S4096x2048, .f32⟩
  | 92 => ⟨S4096x2048, .f32⟩
  | 93 => ⟨S1x2048, .f32⟩
  | 94 => ⟨S4096x2048, .f32⟩
  | 95 => ⟨S4096x2048, .f32⟩
  | 96 => ⟨S32x128x8x256, .f32⟩
  | 97 => ⟨S_, .f32⟩
  | 98 => ⟨S128x128, .f32⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .f32⟩
  | 106 => ⟨S128x128, .f32⟩
  | 107 => ⟨S128x128, .f32⟩
  | 108 => ⟨S1x128x128, .f32⟩
  | 109 => ⟨S8x128x128, .f32⟩
  | 110 => ⟨S8x128x128, .f32⟩
  | 111 => ⟨S8x32x256x128, .f32⟩
  | 112 => ⟨S32x128x8x256, .f32⟩
  | 113 => ⟨S128x8x256, .f32⟩
  | 114 => ⟨S1x128x8x256, .f32⟩
  | 115 => ⟨S32x128x8x256, .f32⟩
  | 116 => ⟨S32x128x8x256, .f32⟩
  | 117 => ⟨S4096x2048, .f32⟩
  | 118 => ⟨S4096x2048, .f32⟩
  | 119 => ⟨S4096x1024, .f32⟩
  | 120 => ⟨S4096x2048, .f32⟩
  | 121 => ⟨S4096x2048, .f32⟩
  | 122 => ⟨S4096x2048, .f32⟩
  | 123 => ⟨S32x128x8x256, .f32⟩
  | 124 => ⟨S_, .f32⟩
  | 125 => ⟨S128x8x256, .f32⟩
  | 126 => ⟨S1x128x8x256, .f32⟩
  | 127 => ⟨S_, .f32⟩
  | _ => ⟨S4096x1024, .f32⟩

abbrev hbmTy0_1 (i : Nat) : BufTy := match i % 128 with
  | 0 => ⟨S128x8x256, .f32⟩
  | 1 => ⟨S128x2048, .f32⟩
  | 2 => ⟨S8x32x256x128, .f32⟩
  | 3 => ⟨S8x128x128, .f32⟩
  | 4 => ⟨S8x32x256x128, .f32⟩
  | 5 => ⟨S32x128x8x256, .f32⟩
  | 6 => ⟨S8x128x128, .f32⟩
  | 7 => ⟨S8x128x128, .f32⟩
  | 8 => ⟨S4096x2048, .f32⟩
  | 9 => ⟨S_, .f32⟩
  | 10 => ⟨S2048, .f32⟩
  | 11 => ⟨S1x2048, .f32⟩
  | 12 => ⟨S_, .f32⟩
  | 13 => ⟨S2048, .f32⟩
  | 14 => ⟨S4096x2048, .f32⟩
  | 15 => ⟨S_, .f32⟩
  | 16 => ⟨S2048, .f32⟩
  | 17 => ⟨S1x2048, .f32⟩
  | 18 => ⟨S4096x2048, .f32⟩
  | 19 => ⟨S4096x2048, .f32⟩
  | 20 => ⟨S_, .f32⟩
  | 21 => ⟨S2048, .f32⟩
  | 22 => ⟨S4096x2048, .f32⟩
  | 23 => ⟨S_, .f32⟩
  | 24 => ⟨S4096, .f32⟩
  | 25 => ⟨S4096x1, .f32⟩
  | 26 => ⟨S4096x2048, .f32⟩
  | 27 => ⟨S4096x2048, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S4096x2048, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096, .f32⟩
  | 48 => ⟨S4096x2048, .f32⟩
  | 49 => ⟨S4096x2048, .f32⟩
  | 50 => ⟨S4096x4096, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S_, .f32⟩
  | 58 => ⟨S4096x4096, .f32⟩
  | 59 => ⟨S4096x4096, .f32⟩
  | 60 => ⟨S4096x4096, .f32⟩
  | 61 => ⟨S4096x4096, .f32⟩
  | 62 => ⟨S4096x4096, .f32⟩
  | 63 => ⟨S4096x4096, .f32⟩
  | 64 => ⟨S4096x4096, .f32⟩
  | 65 => ⟨S4096x1024, .f32⟩
  | 66 => ⟨S4096x1024, .f32⟩
  | 67 => ⟨S_, .f32⟩
  | 68 => ⟨S1024, .f32⟩
  | 69 => ⟨S1x1024, .f32⟩
  | 70 => ⟨S4096x1024, .f32⟩
  | 71 => ⟨S4096x1024, .f32⟩
  | 72 => ⟨S_, .f32⟩
  | 73 => ⟨S1024, .f32⟩
  | 74 => ⟨S4096x1024, .f32⟩
  | 75 => ⟨S_, .f32⟩
  | 76 => ⟨S4096, .f32⟩
  | 77 => ⟨S4096x1, .f32⟩
  | 78 => ⟨S4096x1024, .f32⟩
  | 79 => ⟨S4096x1024, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S4096, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096x1, .f32⟩
  | 101 => ⟨S4096x1, .f32⟩
  | 102 => ⟨S4096x1, .f32⟩
  | 103 => ⟨S4096x1024, .f32⟩
  | 104 => ⟨S4096x1024, .f32⟩
  | 105 => ⟨S1x1024, .f32⟩
  | 106 => ⟨S4096x1024, .f32⟩
  | 107 => ⟨S4096x1024, .f32⟩
  | 108 => ⟨S4096x1024, .bf16⟩
  | 109 => ⟨S4096x4096, .bf16⟩
  | 110 => ⟨S8x2048, .f32⟩
  | 111 => ⟨S8x2048, .f32⟩
  | 112 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_v54 : Ref sig .tc := ⟨.hbm, 79, rfl⟩
abbrev main_cst_15 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_cst : Ref sig .tc := ⟨.hbm, 105, rfl⟩
abbrev main_call0_v5 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_18 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_v100 : Ref sig .tc := ⟨.hbm, 139, rfl⟩
abbrev main_cst_21 : Ref sig .tc := ⟨.hbm, 140, rfl⟩
abbrev main_v101 : Ref sig .tc := ⟨.hbm, 141, rfl⟩
abbrev main_v102 : Ref sig .tc := ⟨.hbm, 142, rfl⟩
abbrev main_cst_22 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_23 : Ref sig .tc := ⟨.hbm, 148, rfl⟩
abbrev main_v107 : Ref sig .tc := ⟨.hbm, 149, rfl⟩
abbrev main_v108 : Ref sig .tc := ⟨.hbm, 150, rfl⟩
abbrev main_cst_24 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_25 : Ref sig .tc := ⟨.hbm, 157, rfl⟩
abbrev main_v114 : Ref sig .tc := ⟨.hbm, 158, rfl⟩
abbrev main_v115 : Ref sig .tc := ⟨.hbm, 159, rfl⟩
abbrev main_cst_26 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_27 : Ref sig .tc := ⟨.hbm, 168, rfl⟩
abbrev main_v123 : Ref sig .tc := ⟨.hbm, 169, rfl⟩
abbrev main_v124 : Ref sig .tc := ⟨.hbm, 170, rfl⟩
abbrev main_cst_28 : Ref sig .tc := ⟨.hbm, 171, rfl⟩
abbrev main_v125 : Ref sig .tc := ⟨.hbm, 172, rfl⟩
abbrev main_v126 : Ref sig .tc := ⟨.hbm, 173, rfl⟩
abbrev main_cst_29 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_30 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_31 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_32 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_33 : Ref sig .tc := ⟨.hbm, 200, rfl⟩
abbrev main_v149 : Ref sig .tc := ⟨.hbm, 201, rfl⟩
abbrev main_v150 : Ref sig .tc := ⟨.hbm, 202, rfl⟩
abbrev main_cst_34 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_35 : Ref sig .tc := ⟨.hbm, 209, rfl⟩
abbrev main_v156 : Ref sig .tc := ⟨.hbm, 210, rfl⟩
abbrev main_v157 : Ref sig .tc := ⟨.hbm, 211, rfl⟩
abbrev main_cst_36 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_37 : Ref sig .tc := ⟨.hbm, 221, rfl⟩
abbrev main_v166 : Ref sig .tc := ⟨.hbm, 222, rfl⟩
abbrev main_v167 : Ref sig .tc := ⟨.hbm, 223, rfl⟩
abbrev main_cst_38 : Ref sig .tc := ⟨.hbm, 224, rfl⟩
abbrev main_v168 : Ref sig .tc := ⟨.hbm, 225, rfl⟩
abbrev main_v169 : Ref sig .tc := ⟨.hbm, 226, rfl⟩
abbrev main_cst_39 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S4x2048x1024 : Shape := ⟨3, ![4, 2048, 1024]⟩
abbrev S4x4096x1024 : Shape := ⟨3, ![4, 4096, 1024]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1024 : Shape := ⟨2, ![8, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 41
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .f32⟩
  | .hbm, ⟨8, _⟩ => ⟨S4x1024x1024, .bf16⟩
  | .hbm, ⟨9, _⟩ => ⟨S4x1024x1024, .bf16⟩
  | .hbm, ⟨10, _⟩ => ⟨S_, .bf16⟩
  | .hbm, ⟨11, _⟩ => ⟨S4x2048x1024, .bf16⟩
  | .hbm, ⟨12, _⟩ => ⟨S4x4096x1024, .bf16⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .bf16⟩
  | .hbm, ⟨34, _⟩ => ⟨S1x1024, .f32⟩
  | .hbm, ⟨35, _⟩ => ⟨S4096x1024, .f32⟩
  | .hbm, ⟨36, _⟩ => ⟨S4096x1024, .bf16⟩
  | .hbm, ⟨37, _⟩ => ⟨S4096x4096, .bf16⟩
  | .hbm, ⟨38, _⟩ => ⟨S4096x4096, .bf16⟩
  | .hbm, ⟨39, _⟩ => ⟨S8x1024, .f32⟩
  | .hbm, ⟨40, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S8x1024, .f32⟩
  | .local _ .vmem, ⟨18, _⟩ => ⟨S256x1024, .bf16⟩
  | .local _ .vmem, ⟨19, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev main_v24_4 : Ref sig .tc := ⟨.hbm, 39, rfl⟩
abbrev main_v24_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S4096x4096, .bf16⟩
  | .hbm, ⟨73, _⟩ => ⟨S4096x4096, .bf16⟩
  | .hbm, ⟨74, _⟩ => ⟨S8x1024, .f32⟩
  | .hbm, ⟨75, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel3.lean ====
abbrev S4x4096x1024 : Shape := ⟨3, ![4, 4096, 1024]⟩
abbrev S4096x4096 : Shape := ⟨2, ![4096, 4096]⟩
abbrev S4096x1024 : Shape := ⟨2, ![4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x4096, .bf16⟩
  | .hbm, ⟨2, _⟩ => ⟨S4096x1024, .bf16⟩
  | .hbm, ⟨3, _⟩ => ⟨S4x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c1_i32 : BitVec 32 := 1#32
  let c0_i32 : BitVec 32 := 0#32
  let c0_i32_0 : BitVec 32 := 0#32
  ![v0.toNat, c1_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x4096x1024 : Shape := ⟨3, ![4, 4096, 1024]⟩
abbrev S4096x4096 : Shape := ⟨2, ![4096, 4096]⟩
abbrev S4096x1024 : Shape := ⟨2, ![4096, 1024]⟩
abbrev S4x1024x1024 : Shape := ⟨3, ![4, 1024, 1024]⟩
abbrev S4x2048x1024 : Shape := ⟨3, ![4, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x4096, .bf16⟩
  | .hbm, ⟨2, _⟩ => ⟨S4096x1024, .bf16⟩
  | .hbm, ⟨3, _⟩ => ⟨S4096x4096, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4x1024x1024, .f32⟩
  | .hbm, ⟨8, _⟩ => ⟨S4x1024x1024, .f32⟩
  | .hbm, ⟨9, _⟩ => ⟨S4x2048x1024, .f32⟩
  | .hbm, ⟨10, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4x4096x1024 : Shape := ⟨3, ![4, 4096, 1024]⟩
abbrev S4096x1024 : Shape := ⟨2, ![4096, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .bf16⟩
  | .hbm, ⟨2, _⟩ => ⟨S4096x4096, .bf16⟩
  | .hbm, ⟨3, _⟩ => ⟨S4x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4x4096x1024 : Shape := ⟨3, ![4, 4096, 1024]⟩
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4x3072x1024 : Shape := ⟨3, ![4, 3072, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S1024x4096, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S4x1024x1024, .f32⟩
  | .hbm, ⟨16, _⟩ => ⟨S4x3072x1024, .f32⟩
  | .hbm, ⟨17, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x512x1024 : Shape := ⟨3, ![4, 512, 1024]⟩
abbrev S_ : Shape := ⟨0, ![]⟩
abbrev S4x4096x1024 : Shape := ⟨3, ![4, 4096, 1024]⟩
abbrev S1x1024 : Shape := ⟨2, ![1, 1024]⟩
abbrev S4096x4096 : Shape := ⟨2, ![4096, 4096]⟩
abbrev S512x1024 : Shape := ⟨2, ![512, 1024]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 23
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2048x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x4x1024, .f32⟩
  | .hbm, ⟨7, _⟩ => ⟨S4x1024x1024, .f32⟩
  | .hbm, ⟨8, _⟩ => ⟨S4x1024x1024, .f32⟩
  | .hbm, ⟨9, _⟩ => ⟨S4x512x1024, .f32⟩
  | .hbm, ⟨10, _⟩ => ⟨S4x1024x1024, .bf16⟩
  | .hbm, ⟨11, _⟩ => ⟨S4x1024x1024, .bf16⟩
  | .hbm, ⟨12, _⟩ => ⟨S_, .bf16⟩
  | .hbm, ⟨13, _⟩ => ⟨S4x1024x1024, .bf16⟩
  | .hbm, ⟨14, _⟩ => ⟨S4x512x1024, .bf16⟩
  | .hbm, ⟨15, _⟩ => ⟨S_, .bf16⟩
  | .hbm, ⟨16, _⟩ => ⟨S4x512x1024, .bf16⟩
  | .hbm, ⟨17, _⟩ => ⟨S4x4096x1024, .bf16⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S4x512x1024, .bf16⟩
  | .local _ .vmem, ⟨5, _⟩ => ⟨S1x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  let c0_i32_1 : BitVec 32 := 0#32
  ![c0_i32.toNat, c6_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2048x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel6.lean ====
abbrev S4x4096x1024 : Shape := ⟨3, ![4, 4096, 1024]⟩
abbrev S4096x2048 : Shape := ⟨2, ![4096, 2048]⟩
abbrev S4096x1024 : Shape := ⟨2, ![4096, 1024]⟩
abbrev S2048x2048 : Shape := ⟨2, ![2048, 2048]⟩
abbrev S2048x1024 : Shape := ⟨2, ![2048, 1024]⟩
abbrev S4x512x1024 : Shape := ⟨3, ![4, 512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S4096x2048, .bf16⟩
  | .hbm, ⟨2, _⟩ => ⟨S4096x1024, .bf16⟩
  | .hbm, ⟨3, _⟩ => ⟨S4x4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S4x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c6_i32 : BitVec 32 := 6#32
  let c0_i32 : BitVec 32 := 0#32
  let c0_i32_0 : BitVec 32 := 0#32
  ![v0.toNat, c6_i32.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4x4096x1024 : Shape := ⟨3, ![4, 4096, 1024]⟩
abbrev S4096x2048 : Shape := ⟨2, ![4096, 2048]⟩
abbrev S4096x1024 : Shape := ⟨2, ![4096, 1024]⟩
abbrev S2048x4096 : Shape := ⟨2, ![2048, 4096]⟩
abbrev S2048x1024 : Shape := ⟨2, ![2048, 1024]⟩
abbrev S4x3072x1024 : Shape := ⟨3, ![4, 3072, 1024]⟩
abbrev S4x512x1024 : Shape := ⟨3, ![4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x2048, .bf16⟩
  | .hbm, ⟨2, _⟩ => ⟨S4096x1024, .bf16⟩
  | .hbm, ⟨3, _⟩ => ⟨S4096x2048, .f32⟩
  | .hbm, ⟨4, _⟩ => ⟨S2048x4096, .f32⟩
  | .hbm, ⟨5, _⟩ => ⟨S4096x1024, .f32⟩
  | .hbm, ⟨6, _⟩ => ⟨S2048x1024, .f32⟩
  | .hbm, ⟨7, _⟩ => ⟨S4x3072x1024, .f32⟩
  | .hbm, ⟨8, _⟩ => ⟨S4x512x1024, .f32⟩
  | .hbm, ⟨9, _⟩ => ⟨S4x512x1024, .f32⟩
  | .hbm, ⟨10, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4x4096x1024 : Shape := ⟨3, ![4, 4096, 1024]⟩
abbrev S4096x1024 : Shape := ⟨2, ![4096, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .bf16⟩
  | .hbm, ⟨2, _⟩ => ⟨S4096x4096, .bf16⟩
  | .hbm, ⟨3, _⟩ => ⟨S4x4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c2_i32 : BitVec 32 := 2#32
  let c0_i32 : BitVec 32 := 0#32
  let c0_i32_0 : BitVec 32 := 0#32
  ![v0.toNat, c2_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4x4096x1024 : Shape := ⟨3, ![4, 4096, 1024]⟩
abbrev S4096x1024 : Shape := ⟨2, ![4096, 1024]⟩
abbrev S4096x4096 : Shape := ⟨2, ![4096, 4096]⟩
abbrev S1024x4096 : Shape := ⟨2, ![1024, 4096]⟩
abbrev S4x2048x1024 : Shape := ⟨3, ![4, 2048, 1024]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S1024x4096, .f32⟩
  | .hbm, ⟨7, _⟩ => ⟨S4x2048x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S4x1024x1024, .f32⟩
  | .hbm, ⟨17, _⟩ => ⟨S4x1024x1024, .f32⟩
  | .hbm, ⟨18, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S1024x4x1024 : Shape := ⟨3, ![1024, 4, 1024]⟩
abbrev S4x1024x1024 : Shape := ⟨3, ![4, 1024, 1024]⟩
abbrev S_ : Shape := ⟨0, ![]⟩
abbrev S4x2048x1024 : Shape := ⟨3, ![4, 2048, 1024]⟩
abbrev S4x4096x1024 : Shape := ⟨3, ![4, 4096, 1024]⟩
abbrev S128x128 : Shape := ⟨2, ![128, 128]⟩
abbrev S1x128x128 : Shape := ⟨3, ![1, 128, 128]⟩
abbrev S128x8 : Shape := ⟨2, ![128, 8]⟩
abbrev S128x8x256 : Shape := ⟨3, ![128, 8, 256]⟩
abbrev S128x2048 : Shape := ⟨2, ![128, 2048]⟩
abbrev S1x1024 : Shape := ⟨2, ![1, 1024]⟩
abbrev S1x2048 : Shape := ⟨2, ![1, 2048]⟩
abbrev S4096x2048 : Shape := ⟨2, ![4096, 2048]⟩
abbrev S4096x4096 : Shape := ⟨2, ![4096, 4096]⟩
abbrev S256x1024 : Shape := ⟨2, ![256, 1024]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S128x256 : Shape := ⟨2, ![128, 256]⟩

abbrev nBuf : Space → Nat
  | .hbm => 38
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S1024x4x1024, .f32⟩
  | .hbm, ⟨8, _⟩ => ⟨S4x1024x1024, .f32⟩
  | .hbm, ⟨9, _⟩ => ⟨S_, .bf16⟩
  | .hbm, ⟨10, _⟩ => ⟨S4x2048x1024, .bf16⟩
  | .hbm, ⟨11, _⟩ => ⟨S4x1024x1024, .bf16⟩
  | .hbm, ⟨12, _⟩ => ⟨S_, .bf16⟩
  | .hbm, ⟨13, _⟩ => ⟨S4x1024x1024, .bf16⟩
  | .hbm, ⟨14, _⟩ => ⟨S4x4096x1024, .bf16⟩
  | .hbm, ⟨15, _⟩ => ⟨S_, .f32⟩
  | .hbm, ⟨16, _⟩ => ⟨S128x128, .f32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S8x128x128, .f32⟩
  | .hbm, ⟨28, _⟩ => ⟨S8x128x128, .f32⟩
  | .hbm, ⟨29, _⟩ => ⟨S8x128x128, .bf16⟩
  | .hbm, ⟨30, _⟩ => ⟨S128x8, .f32⟩
  | .hbm, ⟨31, _⟩ => ⟨S128x8x256, .f32⟩
  | .hbm, ⟨32, _⟩ => ⟨S128x2048, .f32⟩
  | .hbm, ⟨33, _⟩ => ⟨S1x1024, .f32⟩
  | .hbm, ⟨34, _⟩ => ⟨S1x2048, .f32⟩
  | .hbm, ⟨35, _⟩ => ⟨S1x2048, .f32⟩
  | .hbm, ⟨36, _⟩ => ⟨S4096x2048, .bf16⟩
  | .hbm, ⟨37, _⟩ => ⟨S4096x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1024, .bf16⟩
  | .local _ .vmem, ⟨4, _⟩ => ⟨S1x2048, .f32⟩
  | .local _ .vmem, ⟨5, _⟩ => ⟨S1x2048, .f32⟩
  | .local _ .vmem, ⟨6, _⟩ => ⟨S8x128x128, .bf16⟩
  | .local _ .vmem, ⟨7, _⟩ => ⟨S128x2048, .f32⟩
  | .local _ .vmem, ⟨8, _⟩ => ⟨S256x2048, .bf16⟩
  | .local _ .vmem, ⟨9, _⟩ => ⟨S256x2048, .bf16⟩
  | .local _ .vmem, ⟨10, _⟩ => ⟨S256x4096, .bf16⟩
  | .local _ .vmem, ⟨11, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_cst : Ref sig .tc := ⟨.hbm, 23, rfl⟩
abbrev main_call0_v5 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel8Ideal.lean ====
variable {F : FTy → Type} [FloatOps F] [Named F]
def κ : String → Option EReal := fun
  | "c" => some ((8943 / 200000 : ℝ) : EReal)
  | _ => none
-- ==== Reference8Ideal.lean ====
abbrev S4096x1024 : Shape := ⟨2, ![4096, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S4096x2048 : Shape := ⟨2, ![4096, 2048]⟩
abbrev S1x2048 : Shape := ⟨2, ![1, 2048]⟩
abbrev S32x128x8x256 : Shape := ⟨4, ![32, 128, 8, 256]⟩
abbrev S128x128 : Shape := ⟨2, ![128, 128]⟩
abbrev S1x128x128 : Shape := ⟨3, ![1, 128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S1x2048, .f32⟩
  | .hbm, ⟨70, _⟩ => ⟨S4096x2048, .f32⟩
  | .hbm, ⟨71, _⟩ => ⟨S4096x2048, .f32⟩
  | .hbm, ⟨72, _⟩ => ⟨S32x128x8x256, .f32⟩
  | .hbm, ⟨73, _⟩ => ⟨S_, .f32⟩
  | .hbm, ⟨74, _⟩ => ⟨S128x128, .f32⟩
  | .hbm, ⟨75, _⟩ => ⟨S128x128, .i32⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .f32⟩
  | .hbm, ⟨82, _⟩ => ⟨S128x128, .f32⟩
  | .hbm, ⟨83, _⟩ => ⟨S128x128, .f32⟩
  | .hbm, ⟨84, _⟩ => ⟨S1x128x128, .f32⟩
  | .hbm, ⟨85, _⟩ => ⟨S8x128x128, .f32⟩
  | .hbm, ⟨86, _⟩ => ⟨S8x128x128, .f32⟩
  | .hbm, ⟨87, _⟩ => ⟨S8x32x256x128, .f32⟩
  | .hbm, ⟨88, _⟩ => ⟨S32x128x8x256, .f32⟩
  | .hbm, ⟨89, _⟩ => ⟨S128x8, .f32⟩
  | .hbm, ⟨90, _⟩ => ⟨S1x128x8x1, .f32⟩
  | .hbm, ⟨91, _⟩ => ⟨S32x128x8x256, .f32⟩
  | .hbm, ⟨92, _⟩ => ⟨S32x128x8x256, .f32⟩
  | .hbm, ⟨93, _⟩ => ⟨S4096x2048, .f32⟩
  | .hbm, ⟨94, _⟩ => ⟨S4096x2048, .f32⟩
  | .hbm, ⟨95, _⟩ => ⟨S4096x2048, .bf16⟩
  | .hbm, ⟨96, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_cst : Ref sig .tc := ⟨.hbm, 81, rfl⟩
abbrev main_call0_v5 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Kernel9.lean ====
abbrev S4x3072x1024 : Shape := ⟨3, ![4, 3072, 1024]⟩
abbrev S4096x4096 : Shape := ⟨2, ![4096, 4096]⟩
abbrev S4096x1024 : Shape := ⟨2, ![4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x3072x1024, .f32⟩
  | .hbm, ⟨1, _⟩ => ⟨S4096x4096, .bf16⟩
  | .hbm, ⟨2, _⟩ => ⟨S4096x1024, .bf16⟩
  | .hbm, ⟨3, _⟩ => ⟨S4x3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4x3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c1_i32 : BitVec 32 := 1#32
  let c0_i32 : BitVec 32 := 0#32
  let c0_i32_0 : BitVec 32 := 0#32
  ![v0.toNat, c1_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4x3072x1024 : Shape := ⟨3, ![4, 3072, 1024]⟩
abbrev S4096x4096 : Shape := ⟨2, ![4096, 4096]⟩
abbrev S4096x1024 : Shape := ⟨2, ![4096, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x3072x1024, .f32⟩
  | .hbm, ⟨1, _⟩ => ⟨S4096x4096, .bf16⟩
  | .hbm, ⟨2, _⟩ => ⟨S4096x1024, .bf16⟩
  | .hbm, ⟨3, _⟩ => ⟨S4096x4096, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x3072x1024, .f32⟩
  | _, _ => ⟨S4x3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4x3072x1024 : Shape := ⟨3, ![4, 3072, 1024]⟩
abbrev S4096x1024 : Shape := ⟨2, ![4096, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x3072x1024, .f32⟩
  | .hbm, ⟨1, _⟩ => ⟨S4096x1024, .bf16⟩
  | .hbm, ⟨2, _⟩ => ⟨S4096x4096, .bf16⟩
  | .hbm, ⟨3, _⟩ => ⟨S4x3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S4x3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.addi arg0 arg1
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4x3072x1024 : Shape := ⟨3, ![4, 3072, 1024]⟩
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4x2048x1024 : Shape := ⟨3, ![4, 2048, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x3072x1024, .f32⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S1024x4096, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S4x1024x1024, .f32⟩
  | .hbm, ⟨16, _⟩ => ⟨S4x2048x1024, .f32⟩
  | .hbm, ⟨17, _⟩ => ⟨S4x3072x1024, .f32⟩
  | _, _ => ⟨S4x3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x256x1024 : Shape := ⟨3, ![4, 256, 1024]⟩
abbrev S_ : Shape := ⟨0, ![]⟩
abbrev S4x768x1024 : Shape := ⟨3, ![4, 768, 1024]⟩
abbrev S4x3072x1024 : Shape := ⟨3, ![4, 3072, 1024]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x4x1024, .f32⟩
  | .hbm, ⟨7, _⟩ => ⟨S4x1024x1024, .f32⟩
  | .hbm, ⟨8, _⟩ => ⟨S4x1024x1024, .f32⟩
  | .hbm, ⟨9, _⟩ => ⟨S4x256x1024, .f32⟩
  | .hbm, ⟨10, _⟩ => ⟨S4x1024x1024, .bf16⟩
  | .hbm, ⟨11, _⟩ => ⟨S4x1024x1024, .bf16⟩
  | .hbm, ⟨12, _⟩ => ⟨S4x256x1024, .bf16⟩
  | .hbm, ⟨13, _⟩ => ⟨S_, .bf16⟩
  | .hbm, ⟨14, _⟩ => ⟨S4x768x1024, .bf16⟩
  | .hbm, ⟨15, _⟩ => ⟨S4x3072x1024, .bf16⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S4x256x1024, .bf16⟩
  | .local _ .vmem, ⟨5, _⟩ => ⟨S1x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![c0_i32.toNat, c8_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Spec.lean ====
/- The gradient of the chunked gMLP mixer over the real numbers: what the kernel and the reference both compute where
   every argument is finite. The arguments are one record; each quantity of the step is one definition over it. -/
module

public import Idealize.ShloMosaic.PureOps.Ideal

@[expose] public section

noncomputable section

namespace Cert.Spec

open scoped BigOperators

/-- The `1e-6` of both normalizations, as the f32 number the programs hold. -/
def eps : ℝ := 8796093 / 8796093022208

/-- The root of two over pi in gelu, as the f32 number the programs hold. -/
def gk : ℝ := 13386282 / 16777216

/-- gelu's cubic coefficient. -/
def gc : ℝ := 8943 / 200000

theorem eps_pos : 0 < eps := by unfold eps; norm_num

/-! ### One row -/

/-- gelu's hyperbolic tangent. -/
def gelT (x : ℝ) : ℝ := Real.tanh (gk * (x + gc * (x * x) * x))
/-- gelu's factor at `x`. -/
def gelH (x : ℝ) : ℝ := 1 / 2 * (1 + gelT x)
/-- gelu. -/
def gel (x : ℝ) : ℝ := x * gelH x
/-- gelu's derivative. -/
def gelD (x : ℝ) : ℝ := gelH x + 1 / 2 * x * (1 - gelT x * gelT x) * (gk * (1 + 3 * gc * (x * x)))

/-- The reciprocal root mean square of a row of the stream. -/
def rr (h : Fin 1024 → ℝ) : ℝ := (√((∑ k, h k * h k) * (1 / 1024) + eps))⁻¹
/-- A row over its root mean square. -/
def xh (h : Fin 1024 → ℝ) (j : Fin 1024) : ℝ := h j * rr h
/-- The gradient of a row through its normalization, from the gradient `b` of the normalized row. -/
def rmsB (h b : Fin 1024 → ℝ) (j : Fin 1024) : ℝ := rr h * (b j - xh h j * ((∑ k, b k * xh h k) * (1 / 1024)))

/-- A row's mean. -/
def mu (v : Fin 2048 → ℝ) : ℝ := (∑ k, v k) * (1 / 2048)
/-- A row less its mean. -/
def xc (v : Fin 2048 → ℝ) (c : Fin 2048) : ℝ := v c - mu v
/-- The reciprocal standard deviation of a row. -/
def rs (v : Fin 2048 → ℝ) : ℝ := (√((∑ k, xc v k * xc v k) * (1 / 2048) + eps))⁻¹
/-- A normalized row. -/
def vh (v : Fin 2048 → ℝ) (c : Fin 2048) : ℝ := xc v c * rs v
/-- The gradient of a row through its layer normalization, from the gradient `a` of the normalized row. -/
def lnB (v a : Fin 2048 → ℝ) (c : Fin 2048) : ℝ :=
  rs v * (a c - (∑ k, a k) * (1 / 2048) - vh v c * ((∑ k, a k * vh v k) * (1 / 2048)))

/-! ### Indices -/

/-- Token `a` of chunk `n`. -/
def tok (n : Fin 32) (a : Fin 128) : Fin 4096 := ⟨128 * n.val + a.val, by omega⟩
/-- The chunk of a token. -/
def chk (t : Fin 4096) : Fin 32 := ⟨t.val / 128, by omega⟩
/-- The place of a token in its chunk. -/
def pos (t : Fin 4096) : Fin 128 := ⟨t.val % 128, by omega⟩
/-- The group of a channel. -/
def grp (c : Fin 2048) : Fin 8 := ⟨c.val / 256, by omega⟩
/-- Channel `e` of group `g`. -/
def chan (g : Fin 8) (e : Fin 256) : Fin 2048 := ⟨256 * g.val + e.val, by omega⟩
/-- Channel `c` in the first half of the projection. -/
def lo (c : Fin 2048) : Fin 4096 := ⟨c.val, by omega⟩
/-- Channel `c` in the second half of the projection. -/
def hi (c : Fin 2048) : Fin 4096 := ⟨2048 + c.val, by omega⟩

/-! ### The step -/

/-- The arguments: the cotangent, the stream, the norm's scale, the input projection, the layer norm's scale and shift, the
    spatial weights and biases, the output projection. -/
structure Args where
  ct : Fin 4096 → Fin 1024 → ℝ
  h : Fin 4096 → Fin 1024 → ℝ
  g : Fin 1024 → ℝ
  wi : Fin 1024 → Fin 4096 → ℝ
  lg : Fin 2048 → ℝ
  lb : Fin 2048 → ℝ
  ws : Fin 8 → Fin 128 → Fin 128 → ℝ
  bs : Fin 8 → Fin 128 → ℝ
  wo : Fin 2048 → Fin 1024 → ℝ

variable (A : Args)

/-- The normalized stream, scaled. -/
def hn (t : Fin 4096) (j : Fin 1024) : ℝ := xh (A.h t) j * A.g j
/-- The projection before gelu. -/
def pre (t : Fin 4096) (k : Fin 4096) : ℝ := ∑ j, hn A t j * A.wi j k
/-- The gradient of the gated product. -/
def dy (t : Fin 4096) (c : Fin 2048) : ℝ := ∑ j, A.ct t j * A.wo c j
/-- The gate. -/
def U (t : Fin 4096) (c : Fin 2048) : ℝ := gel (pre A t (lo c))
/-- The mixed half. -/
def V (t : Fin 4096) (c : Fin 2048) : ℝ := gel (pre A t (hi c))
/-- The mixed half, layer-normalized. -/
def vn (t : Fin 4096) (c : Fin 2048) : ℝ := vh (V A t) c * A.lg c + A.lb c
/-- The gradient of the spatial mix. -/
def dsv (t : Fin 4096) (c : Fin 2048) : ℝ := dy A t c * U A t c
/-- The causal mask. -/
def trl (a b : Fin 128) : ℝ := if b.val ≤ a.val then 1 else 0
/-- The masked spatial weights. -/
def wm (g : Fin 8) (a b : Fin 128) : ℝ := A.ws g a b * trl a b
/-- The spatial mix. -/
def sv (t : Fin 4096) (c : Fin 2048) : ℝ :=
  (∑ s, wm A (grp c) (pos t) s * vn A (tok (chk t) s) c) + A.bs (grp c) (pos t)
/-- The gradient of the layer-normalized half. -/
def dvn (t : Fin 4096) (c : Fin 2048) : ℝ := ∑ s, wm A (grp c) s (pos t) * dsv A (tok (chk t) s) c
/-- The gradient of the projection's first half. -/
def dpu (t : Fin 4096) (c : Fin 2048) : ℝ := dy A t c * sv A t c * gelD (pre A t (lo c))
/-- The gradient of the projection's second half. -/
def dpv (t : Fin 4096) (c : Fin 2048) : ℝ := lnB (V A t) (fun k => dvn A t k * A.lg k) c * gelD (pre A t (hi c))
/-- The gradient of the projection. -/
def dpre (t : Fin 4096) (k : Fin 4096) : ℝ :=
  if h : k.val < 2048 then dpu A t ⟨k.val, h⟩ else dpv A t ⟨k.val - 2048, by omega⟩
/-- The gradient of the normalized stream. -/
def dhn (t : Fin 4096) (j : Fin 1024) : ℝ := ∑ k, dpre A t k * A.wi j k
/-- The gradient of the stream, the cotangent's own path added. -/
def dh (t : Fin 4096) (j : Fin 1024) : ℝ := A.ct t j + rmsB (A.h t) (fun k => dhn A t k * A.g k) j
/-- The gradient of the spatial weights. -/
def dws (g : Fin 8) (a b : Fin 128) : ℝ :=
  (∑ n, ∑ e, dsv A (tok n a) (chan g e) * vn A (tok n b) (chan g e)) * trl a b
/-- The gradient of the spatial biases, one per channel. -/
def dbs (a : Fin 128) (c : Fin 2048) : ℝ := ∑ n, dsv A (tok n a) c
/-- The gradient of the layer norm's scale. -/
def dlg (c : Fin 2048) : ℝ := ∑ t, dvn A t c * vh (V A t) c
/-- The gradient of the layer norm's shift. -/
def dlb (c : Fin 2048) : ℝ := ∑ t, dvn A t c
/-- The gradient of the norm's scale. -/
def dg (j : Fin 1024) : ℝ := ∑ t, dhn A t j * xh (A.h t) j

/-! ### The reference's forms -/

theorem rr_sq (h : Fin 1024 → ℝ) : rr h / ((∑ k, h k * h k) * (1 / 1024) + eps) = rr h * (rr h * rr h) := by
  have hp : 0 < (∑ k, h k * h k) * (1 / 1024) + eps :=
    add_pos_of_nonneg_of_pos (mul_nonneg (Finset.sum_nonneg fun k _ => mul_self_nonneg _) (by norm_num)) eps_pos
  have : rr h * rr h = ((∑ k, h k * h k) * (1 / 1024) + eps)⁻¹ := by
    unfold rr; rw [← mul_inv, Real.mul_self_sqrt hp.le]
  rw [this, div_eq_mul_inv]

theorem rs_sq (v : Fin 2048 → ℝ) : rs v / ((∑ k, xc v k * xc v k) * (1 / 2048) + eps) = rs v * (rs v * rs v) := by
  have hp : 0 < (∑ k, xc v k * xc v k) * (1 / 2048) + eps :=
    add_pos_of_nonneg_of_pos (mul_nonneg (Finset.sum_nonneg fun k _ => mul_self_nonneg _) (by norm_num)) eps_pos
  have : rs v * rs v = ((∑ k, xc v k * xc v k) * (1 / 2048) + eps)⁻¹ := by
    unfold rs; rw [← mul_inv, Real.mul_self_sqrt hp.le]
  rw [this, div_eq_mul_inv]

/-- The root mean square's gradient as differentiation of the forward line gives it. -/
theorem rmsB_eq (h b : Fin 1024 → ℝ) (j : Fin 1024) (g : ℝ)
    (hg : g = (∑ k, h k * b k) * (-(1 / 2) * (rr h / ((∑ k, h k * h k) * (1 / 1024) + eps))) * (1 / 1024)) :
    b j * rr h + h j * g + g * h j = rmsB h b j := by
  have hs : ∑ k, b k * xh h k = (∑ k, h k * b k) * rr h := by
    rw [Finset.sum_mul]; exact Finset.sum_congr rfl fun k _ => by unfold xh; ring
  rw [hg, rr_sq]; unfold rmsB; rw [hs]; unfold xh; ring

theorem sum_xc (v : Fin 2048 → ℝ) : ∑ k, xc v k = 0 := by
  unfold xc mu; rw [Finset.sum_sub_distrib, Finset.sum_const, Finset.card_univ, Fintype.card_fin]; norm_num; ring

/-- The layer normalization's gradient as differentiation of the forward line gives it. -/
theorem lnB_eq (v a : Fin 2048 → ℝ) (c : Fin 2048) (g : ℝ) (w : Fin 2048 → ℝ)
    (hg : g = (∑ k, xc v k * a k) * (-(1 / 2) * (rs v / ((∑ k, xc v k * xc v k) * (1 / 2048) + eps))) * (1 / 2048))
    (hw : ∀ k, w k = a k * rs v + xc v k * g + g * xc v k) :
    w c + (∑ k, -w k) * (1 / 2048) = lnB v a c := by
  have hs : ∑ k, a k * vh v k = (∑ k, xc v k * a k) * rs v := by
    rw [Finset.sum_mul]; exact Finset.sum_congr rfl fun k _ => by unfold vh; ring
  have hw' : ∑ k, -w k = -((∑ k, a k) * rs v) := by
    rw [Finset.sum_neg_distrib]; congr 1
    rw [Finset.sum_congr rfl fun k _ => (hw k).trans (show _ = a k * rs v + xc v k * (2 * g) by ring),
      Finset.sum_add_distrib, ← Finset.sum_mul, ← Finset.sum_mul, sum_xc, zero_mul, add_zero]
  rw [hw', hw c, hg, rs_sq]; unfold lnB; rw [hs]; unfold vh; ring

/-- gelu's gradient as differentiation of the forward line gives it. -/
theorem gelD_eq (x d : ℝ) :
    d * gelH x + gk * (1 / 2 * (x * d) * ((1 + gelT x) * (1 - gelT x)))
      + gc * (gk * (1 / 2 * (x * d) * ((1 + gelT x) * (1 - gelT x)))) * (3 * (x * x)) = d * gelD x := by
  unfold gelD; ring

end Cert.Spec

end
-- ==== Proof.Coe.lean ====
/- Extended reals that are real numbers: how the operations of both programs act on them, and what the programs' float
   constants are. -/
module

public import proofs.«01_k».proof.Proof.Spec
public import Idealize.ShloMosaic.PureOps.Ideal

@[expose] public section

noncomputable section

namespace Cert.Coe

open Idealize.ShloMosaic
open scoped BigOperators

/-- An array of real numbers as an array of extended reals. -/
def up {ι : Type} (x : ι → ℝ) : ι → EReal := fun i => (x i : EReal)

theorem up_apply {ι : Type} (x : ι → ℝ) (i : ι) : up x i = (x i : EReal) := rfl

theorem mul_up (a b : ℝ) : (a : EReal) * (b : EReal) = ((a * b : ℝ) : EReal) := (EReal.coe_mul a b).symm
theorem add_up (a b : ℝ) : (a : EReal) + (b : EReal) = ((a + b : ℝ) : EReal) := (EReal.coe_add a b).symm
theorem sub_up (a b : ℝ) : (a : EReal) - (b : EReal) = ((a - b : ℝ) : EReal) := (EReal.coe_sub a b).symm
theorem neg_up (a : ℝ) : -(a : EReal) = ((-a : ℝ) : EReal) := (EReal.coe_neg a).symm
theorem one_up : (1 : EReal) = ((1 : ℝ) : EReal) := rfl
theorem zero_up : (0 : EReal) = ((0 : ℝ) : EReal) := rfl
theorem zero_add_up (a : ℝ) : (0 : EReal) + (a : EReal) = (a : EReal) := zero_add _

theorem sum_up {ι : Type} [Fintype ι] (f : ι → ℝ) : ∑ k, (f k : EReal) = ((∑ k, f k : ℝ) : EReal) := by
  classical
  refine Finset.induction_on (Finset.univ : Finset ι) (by simp) fun a s ha ih => ?_
  rw [Finset.sum_insert ha, Finset.sum_insert ha, ih, EReal.coe_add]

theorem div_up (a b : ℝ) (hb : b ≠ 0) : Ideal.div (a : EReal) (b : EReal) = ((a * (1 / b) : ℝ) : EReal) := by
  rw [Ideal.div_coe hb, mul_up]

theorem tanh_up (a : ℝ) : Ideal.tanh (a : EReal) = ((Real.tanh a : ℝ) : EReal) := Ideal.tanh_coe ..

theorem rsqrt_up (a : ℝ) (ha : 0 < a) : Ideal.rsqrt (a : EReal) = (((√a)⁻¹ : ℝ) : EReal) := by
  rw [Ideal.rsqrt_coe, if_neg (not_lt.mpr ha.le), if_neg ha.ne']

/-- An extended real whose absolute value is below infinity is a real number. -/
theorem eq_up_of_abs_lt (x : EReal) (h : max x (-x) < ⊤) : x = ((x.toReal : ℝ) : EReal) := by
  refine (EReal.coe_toReal (fun e => ?_) (fun e => ?_)).symm
  · rw [e] at h; simp at h
  · rw [e] at h; simp at h

/-! ### The constants -/

theorem c_eps : Ideal.ofBits .f32 0x358637BD#32 = ((Spec.eps : ℝ) : EReal) := by
  unfold Spec.eps; simp [Ideal.ofBits, Ideal.ieee, -EReal.coe_mul]; norm_num
theorem c_gk : Ideal.ofBits .f32 0x3F4C422A#32 = ((Spec.gk : ℝ) : EReal) := by
  unfold Spec.gk; simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_nhalf : Ideal.ofBits .f32 0xBF000000#32 = ((-(1 / 2) : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_zero : Ideal.ofBits .f32 0x00000000#32 = ((0 : ℝ) : EReal) := by
  simp [Ideal.ofBits, Ideal.ieee, -EReal.coe_mul]
theorem c_three : Ideal.ofBits .f32 0x40400000#32 = ((3 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_2048 : Ideal.ofBits .f32 0x45000000#32 = ((2048 : ℝ) : EReal) := by
  simp [Ideal.ofBits, Ideal.ieee, -EReal.coe_mul]; norm_num
theorem c_44715 : Ideal.ofBits .f32 0x472EAB00#32 = ((44715 : ℝ) : EReal) := by
  simp [Ideal.ofBits, Ideal.ieee, -EReal.coe_mul]; norm_num
theorem c_1e6 : Ideal.ofBits .f32 0x49742400#32 = ((1000000 : ℝ) : EReal) := by
  simp [Ideal.ofBits, Ideal.ieee, -EReal.coe_mul]; norm_num
theorem c_top : Ideal.ofBits .f32 0x7F800000#32 = ⊤ := by
  simp [Ideal.ofBits, Ideal.ieee]

/-- gelu's cubic coefficient as the reference divides it out. -/
theorem c_quot : Ideal.div (Ideal.ofBits .f32 0x472EAB00#32) (Ideal.ofBits .f32 0x49742400#32) = ((Spec.gc : ℝ) : EReal) := by
  rw [c_44715, c_1e6, div_up _ _ (by norm_num)]; congr 1; unfold Spec.gc; norm_num

theorem ms_pos (h : Fin 1024 → ℝ) : 0 < (∑ k, h k * h k) * (1 / 1024) + Spec.eps :=
  add_pos_of_nonneg_of_pos (mul_nonneg (Finset.sum_nonneg fun k _ => mul_self_nonneg _) (by norm_num)) Spec.eps_pos

theorem var_pos (v : Fin 2048 → ℝ) : 0 < (∑ k, v k * v k) * (1 / 2048) + Spec.eps :=
  add_pos_of_nonneg_of_pos (mul_nonneg (Finset.sum_nonneg fun k _ => mul_self_nonneg _) (by norm_num)) Spec.eps_pos

/-- The comparison that makes the causal mask. -/
theorem sge_eq : ∀ a b : Fin 128, IntOp.cmpi .sge (IntOp.addi (BitVec.ofNat 32 a.val) 0#32) (BitVec.ofNat 32 b.val)
    = if b.val ≤ a.val then 1#1 else 0#1 := by decide +kernel

end Cert.Coe

end
-- ==== Proof.Rows.lean ====
/- The kernel's row-wise payloads on real arrays: each, given the block of 256 tokens of one real quantity, is the block of
   the next. -/
module

public import proofs.«01_k».proof.Proof.Coe
public import proofs.«01_k».proof.Proof.Gen.KernelIdeal.Skeleton
public import Idealize.ShloMosaic.Lib.Pipeline.ValueKit

@[expose] public section

set_option maxRecDepth 16384

noncomputable section

namespace Cert.KernelIdeal.Pay

open Idealize.ShloMosaic Idealize.ShloMosaic.TcCoe Idealize.SL.Sem
open Cert.KernelIdeal Cert.KernelIdeal.Gen Cert.Coe Cert.Spec

/-- Token `r` of block `T`. -/
def tk (T : Fin 16) (r : Fin 256) : Fin 4096 := ⟨256 * T.val + r.val, by omega⟩
/-- Block `T` of a quantity of tokens and channels. -/
def blk {N : ℕ} (T : Fin 16) (f : Fin 4096 → Fin N → ℝ) : (⟨2, ![256, N]⟩ : Shape).Idx → ℝ := fun i => f (tk T (i 0)) (i 1)
/-- Block `T` of a quantity of tokens. -/
def col (T : Fin 16) (f : Fin 4096 → ℝ) : (⟨2, ![256, 1]⟩ : Shape).Idx → ℝ := fun i => f (tk T (i 0))
/-- A quantity of channels as one row. -/
def row {N : ℕ} (f : Fin N → ℝ) : (⟨2, ![1, N]⟩ : Shape).Idx → ℝ := fun i => f (i 1)
/-- A quantity of two indices as a matrix. -/
def mat {M N : ℕ} (f : Fin M → Fin N → ℝ) : (⟨2, ![M, N]⟩ : Shape).Idx → ℝ := fun i => f (i 0) (i 1)
/-- A quantity of two indices as the only matrix of a stack. -/
def mat1 {M N : ℕ} (f : Fin M → Fin N → ℝ) : (⟨3, ![1, M, N]⟩ : Shape).Idx → ℝ := fun i => f (i 1) (i 2)
/-- A quantity of three indices as a stack of matrices. -/
def ten {L M N : ℕ} (f : Fin L → Fin M → Fin N → ℝ) : (⟨3, ![L, M, N]⟩ : Shape).Idx → ℝ := fun i => f (i 0) (i 1) (i 2)

theorem blk_ix {N : ℕ} (T : Fin 16) (f : Fin 4096 → Fin N → ℝ) (r : Fin 256) (c : Fin N) :
    up (blk T f) (ix2 r c) = ((f (tk T r) c : ℝ) : EReal) := rfl
theorem col_ix (T : Fin 16) (f : Fin 4096 → ℝ) (r : Fin 256) (c : Fin 1) :
    up (col T f) (ix2 r c) = ((f (tk T r) : ℝ) : EReal) := rfl
theorem row_ix {N : ℕ} (f : Fin N → ℝ) (r : Fin 1) (c : Fin N) : up (row f) (ix2 r c) = ((f c : ℝ) : EReal) := rfl
theorem mat_ix {M N : ℕ} (f : Fin M → Fin N → ℝ) (r : Fin M) (c : Fin N) : up (mat f) (ix2 r c) = ((f r c : ℝ) : EReal) := rfl
theorem mat1_ix {M N : ℕ} (f : Fin M → Fin N → ℝ) (q : Fin 1) (r : Fin M) (c : Fin N) :
    up (mat1 f) (ix3 q r c) = ((f r c : ℝ) : EReal) := rfl
theorem ten_ix {L M N : ℕ} (f : Fin L → Fin M → Fin N → ℝ) (q : Fin L) (r : Fin M) (c : Fin N) :
    up (ten f) (ix3 q r c) = ((f q r c : ℝ) : EReal) := rfl

theorem n_c : Named.named (F := Ideal) κ "c" (φ := .f32) 0x3D372713#32 = ((gc : ℝ) : EReal) :=
  IdealRules.named_const.ideal_named_scalar _ _ _ _ rfl
theorem n_3c : Named.named (F := Ideal) κ "three_c" (φ := .f32) 0x3E095D4F#32 = ((3 * gc : ℝ) : EReal) :=
  (IdealRules.named_const.ideal_named_scalar _ _ _ ((26829 / 200000 : ℝ) : EReal) rfl).trans (by
    congr 1; unfold gc; norm_num)

/-- The output projection's rows as the kernel's window holds them: four shards of 512. -/
def woB (A : Args) : S4x512x1024.Idx → ℝ :=
  ten (L := 4) (M := 512) (N := 1024) fun q r j => A.wo ⟨512 * q.val + r.val, by omega⟩ j
/-- Shard `q` of the input projection: its columns `1024 q` on. -/
def wiB (A : Args) (q : Fin 4) : S1x1024x1024.Idx → ℝ :=
  mat1 (M := 1024) (N := 1024) fun j k => A.wi j ⟨1024 * q.val + k.val, by omega⟩
/-- Columns `1024 q` on of the projection's gradient, at block `T`. -/
def dpB (A : Args) (T : Fin 16) (q : Fin 4) : S256x1024.Idx → ℝ :=
  blk (N := 1024) T fun t k => dpre A t ⟨1024 * q.val + k.val, by omega⟩

variable (A : Args) (T : Fin 16)

theorem p7 (f : Fin 1024 → ℝ) : k0_pay7 (F := Ideal) (up (row f)) = up (row f) := by
  funext i; idx_vars i; pointwise [k0_pay7]
theorem p30 (f : Fin 2048 → ℝ) : k0_pay30 (F := Ideal) (up (row f)) = up (row f) := by
  funext i; idx_vars i; pointwise [k0_pay30]

theorem p8 : k0_pay8 (F := Ideal) (up (blk T A.h)) = up (col T fun t => rr (A.h t)) := by
  funext i; idx_vars i; pointwise [k0_pay8]
  simp only [blk_ix, mul_up, sum_up, c_inv1024, c_eps, add_up]
  rw [rsqrt_up _ (ms_pos _)]; rfl
theorem p9 : k0_pay9 (F := Ideal) (up (blk T A.h)) = up (blk T fun t => xh (A.h t)) := by
  unfold k0_pay9; rw [p8]
  funext i; idx_vars i; pointwise
  simp only [blk_ix, col_ix, mul_up]; rfl
theorem p10 : k0_pay10 (F := Ideal) (up (row A.g)) (up (blk T A.h)) = up (blk T (hn A)) := by
  unfold k0_pay10; rw [p9, p7]
  funext i; idx_vars i; pointwise
  simp only [blk_ix, row_ix, mul_up]; rfl
theorem p11 : k0_pay11 (F := Ideal) (up (blk T A.ct)) (up (woB A)) = up (blk T (dy A)) := by
  unfold woB
  funext i; idx_vars i; pointwise [k0_pay11]
  simp only [blk_ix, ten_ix, mul_up, sum_up]
  unfold dy
  refine congrArg _ (Finset.sum_congr rfl fun k _ => ?_)
  congr 2; exact Fin.ext (by simp only []; omega)
theorem p12 (f : Fin 4096 → Fin 2048 → ℝ) : k0_pay12 (F := Ideal) (up (blk T f)) = up (blk T f) := by
  funext i; idx_vars i; pointwise [k0_pay12]
theorem p13 (f : Fin 4096 → Fin 2048 → ℝ) : k0_pay13 (F := Ideal) (up (blk T f)) = up (blk T f) := by
  funext i; idx_vars i; pointwise [k0_pay13]
theorem p14 (f : Fin 4096 → Fin 2048 → ℝ) : k0_pay14 (F := Ideal) (up (blk T f)) = up (blk T fun t c => f t c * f t c) := by
  unfold k0_pay14; rw [p12]
  funext i; idx_vars i; pointwise
  simp only [blk_ix, mul_up]
theorem p15 (f : Fin 4096 → Fin 2048 → ℝ) :
    k0_pay15 (F := Ideal) (up (blk T f)) = up (blk T fun t c => gc * (f t c * f t c)) := by
  unfold k0_pay15; rw [p14]
  funext i; idx_vars i; pointwise
  simp only [blk_ix, n_c, mul_up]
theorem p16 (f : Fin 4096 → Fin 2048 → ℝ) :
    k0_pay16 (F := Ideal) (up (blk T f)) (up (blk T fun t c => gc * (f t c * f t c))) = up (blk T fun t c => gelT (f t c)) := by
  funext i; idx_vars i; pointwise [k0_pay16]
  simp only [blk_ix, c_gk, mul_up, add_up, tanh_up]; rfl
theorem p17 (f : Fin 4096 → Fin 2048 → ℝ) :
    k0_pay17 (F := Ideal) (up (blk T f)) (up (blk T fun t c => gc * (f t c * f t c))) = up (blk T fun t c => gelH (f t c)) := by
  unfold k0_pay17; rw [p16]
  funext i; idx_vars i; pointwise
  simp only [blk_ix, c_one, one_up, c_half, mul_up, add_up]; rfl
theorem p18 (f : Fin 4096 → Fin 2048 → ℝ) :
    k0_pay18 (F := Ideal) (up (blk T f)) (up (blk T fun t c => gc * (f t c * f t c))) = up (blk T fun t c => gel (f t c)) := by
  unfold k0_pay18; rw [p17]
  funext i; idx_vars i; pointwise
  simp only [blk_ix, mul_up]; rfl
theorem p19 (f : Fin 4096 → Fin 2048 → ℝ) :
    k0_pay19 (F := Ideal) (up (blk T f)) (up (blk T fun t c => f t c * f t c)) (up (blk T fun t c => gc * (f t c * f t c)))
      = up (blk T fun t c => gelD (f t c)) := by
  unfold k0_pay19; rw [p17, p16]
  funext i; idx_vars i; pointwise
  simp only [blk_ix, c_one, one_up, c_half, n_3c, c_gk, mul_up, add_up, sub_up]; rfl
theorem p20 (f : Fin 4096 → Fin 2048 → ℝ) : k0_pay20 (F := Ideal) (up (blk T f)) = up (blk T fun t c => f t c * f t c) := by
  funext i; idx_vars i; pointwise [k0_pay20]
  simp only [blk_ix, mul_up]
theorem p21 (f : Fin 4096 → Fin 2048 → ℝ) : k0_pay21 (F := Ideal) (up (blk T f)) = up (blk T fun t c => gelT (f t c)) := by
  unfold k0_pay21; rw [p20]
  funext i; idx_vars i; pointwise
  simp only [blk_ix, n_c, c_gk, mul_up, add_up, tanh_up]; rfl
theorem p22 (f : Fin 4096 → Fin 2048 → ℝ) : k0_pay22 (F := Ideal) (up (blk T f)) = up (blk T fun t c => gelH (f t c)) := by
  unfold k0_pay22; rw [p21]
  funext i; idx_vars i; pointwise
  simp only [blk_ix, c_one, one_up, c_half, mul_up, add_up]; rfl
theorem p23 (f : Fin 4096 → Fin 2048 → ℝ) : k0_pay23 (F := Ideal) (up (blk T f)) = up (blk T fun t c => gel (f t c)) := by
  unfold k0_pay23; rw [p22]
  funext i; idx_vars i; pointwise
  simp only [blk_ix, mul_up]; rfl
theorem p24 (f : Fin 4096 → Fin 2048 → ℝ) :
    k0_pay24 (F := Ideal) (up (blk T f)) = up (blk T fun t c => 1 / 2 * f t c * (1 - gelT (f t c) * gelT (f t c))) := by
  unfold k0_pay24; rw [p21]
  funext i; idx_vars i; pointwise
  simp only [blk_ix, c_one, one_up, c_half, mul_up, sub_up]
theorem p25 (f : Fin 4096 → Fin 2048 → ℝ) :
    k0_pay25 (F := Ideal) (up (blk T f)) = up (blk T fun t c => 3 * gc * (f t c * f t c)) := by
  unfold k0_pay25; rw [p20]
  funext i; idx_vars i; pointwise
  simp only [blk_ix, n_3c, mul_up]
theorem p26 (f : Fin 4096 → Fin 2048 → ℝ) :
    k0_pay26 (F := Ideal) (up (blk T fun t c => gelH (f t c)))
      (up (blk T fun t c => 1 / 2 * f t c * (1 - gelT (f t c) * gelT (f t c)))) (up (blk T fun t c => 3 * gc * (f t c * f t c)))
      = up (blk T fun t c => gelD (f t c)) := by
  funext i; idx_vars i; pointwise [k0_pay26]
  simp only [blk_ix, c_one, one_up, c_gk, mul_up, add_up]; rfl
theorem p27 (f : Fin 4096 → Fin 2048 → ℝ) : k0_pay27 (F := Ideal) (up (blk T f)) = up (blk T fun t => xc (f t)) := by
  funext i; idx_vars i; pointwise [k0_pay27]
  simp only [blk_ix, c_2048, sum_up, div_up _ _ (show (2048 : ℝ) ≠ 0 by norm_num), sub_up]; rfl
theorem p28 (f : Fin 4096 → Fin 2048 → ℝ) : k0_pay28 (F := Ideal) (up (blk T f)) = up (col T fun t => rs (f t)) := by
  unfold k0_pay28; rw [p27]
  funext i; idx_vars i; pointwise
  simp only [blk_ix, c_2048, c_eps, mul_up, sum_up, div_up _ _ (show (2048 : ℝ) ≠ 0 by norm_num), add_up]
  rw [rsqrt_up _ (var_pos _)]; rfl
theorem p29 (f : Fin 4096 → Fin 2048 → ℝ) : k0_pay29 (F := Ideal) (up (blk T f)) = up (blk T fun t => vh (f t)) := by
  unfold k0_pay29; rw [p28, p27]
  funext i; idx_vars i; pointwise
  simp only [blk_ix, col_ix, mul_up]; rfl
theorem p31 : k0_pay31 (F := Ideal) (up (blk T (V A))) (up (row A.lg)) (up (row A.lb)) = up (blk T (vn A)) := by
  unfold k0_pay31; rw [p29, p30]
  funext i; idx_vars i; pointwise
  simp only [blk_ix, row_ix, mul_up, add_up]; rfl
theorem p32 : k0_pay32 (F := Ideal) (up (blk T (dy A))) (up (blk T (U A))) = up (blk T (dsv A)) := by
  funext i; idx_vars i; pointwise [k0_pay32]
  simp only [blk_ix, mul_up]; rfl
theorem p33 : k0_pay33 (F := Ideal) (up (blk T (dy A))) (up (blk T (U A))) = up (blk T (dsv A)) := by
  unfold k0_pay33; rw [p32]
  funext i; idx_vars i; pointwise
theorem p34 (f : Fin 128 → Fin 128 → ℝ) : k0_pay34 (F := Ideal) (up (mat f)) = up (mat f) := by
  funext i; idx_vars i; pointwise [k0_pay34]

theorem p98 (x : S8x2048.Idx → EReal) (f g : Fin 4096 → Fin 2048 → ℝ) (q : Fin 8) (c : Fin 2048) :
    k0_pay98 (F := Ideal) (up (blk T g)) (up (blk T f)) x (ix2 q c)
      = x (ix2 q c) + ((∑ r, f (tk T r) c * g (tk T r) c : ℝ) : EReal) := by
  pointwise [k0_pay98]
  simp only [blk_ix, mul_up, sum_up]
theorem p99 (x : S8x2048.Idx → EReal) (f : Fin 4096 → Fin 2048 → ℝ) (q : Fin 8) (c : Fin 2048) :
    k0_pay99 (F := Ideal) (up (blk T f)) x (ix2 q c) = x (ix2 q c) + ((∑ r, f (tk T r) c : ℝ) : EReal) := by
  pointwise [k0_pay99]
  simp only [blk_ix, sum_up]
theorem p100 : k0_pay100 (F := Ideal) (up (blk T fun t c => gelD (pre A t (hi c)))) (up (col T fun t => rs (V A t)))
      (up (blk T fun t => vh (V A t))) (up (row A.lg)) (up (blk T (dvn A))) = up (blk T (dpv A)) := by
  funext i; idx_vars i; pointwise [k0_pay100]
  simp only [blk_ix, col_ix, row_ix, c_2048, mul_up, sum_up, div_up _ _ (show (2048 : ℝ) ≠ 0 by norm_num), add_up, sub_up]; rfl

theorem sum4 (f : Fin 4096 → ℝ) : ∑ k, f k
    = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  rw [Fin.sum_univ_tiles 4 1024 rfl f, Fin.sum_univ_four]
  refine congrArg₂ _ (congrArg₂ _ (congrArg₂ _ ?_ ?_) ?_) ?_ <;>
    exact Finset.sum_congr rfl fun k _ => congrArg f (Fin.ext (by simp))

/-- The gradient of the normalized stream, as the four products of the body sum to it. -/
theorem p103 : k0_pay103 (F := Ideal) (k0_pay101 (F := Ideal) (up (dpB A T 0)) (up (wiB A 0)) (up (dpB A T 1)) (up (wiB A 1)))
      (k0_pay102 (F := Ideal) (up (dpB A T 2))) (up (wiB A 2)) (up (dpB A T 3)) (up (wiB A 3)) = up (blk T (dhn A)) := by
  unfold dpB wiB
  funext i; idx_vars i; pointwise [k0_pay103, k0_pay101, k0_pay102]
  simp only [blk_ix, mat1_ix, mul_up, sum_up, add_up]
  unfold dhn; rw [sum4]
theorem p104 (x : S8x1024.Idx → EReal) (q : Fin 8) (j : Fin 1024) :
    k0_pay104 (F := Ideal) (up (blk T fun t => xh (A.h t)))
      (k0_pay101 (F := Ideal) (up (dpB A T 0)) (up (wiB A 0)) (up (dpB A T 1)) (up (wiB A 1)))
      (k0_pay102 (F := Ideal) (up (dpB A T 2))) (up (wiB A 2)) (up (dpB A T 3)) (up (wiB A 3)) x (ix2 q j)
      = x (ix2 q j) + ((∑ r, dhn A (tk T r) j * xh (A.h (tk T r)) j : ℝ) : EReal) := by
  unfold k0_pay104; rw [p103]
  pointwise
  simp only [blk_ix, mul_up, sum_up]
theorem p105 : k0_pay105 (F := Ideal) (up (row A.g))
      (k0_pay101 (F := Ideal) (up (dpB A T 0)) (up (wiB A 0)) (up (dpB A T 1)) (up (wiB A 1)))
      (k0_pay102 (F := Ideal) (up (dpB A T 2))) (up (wiB A 2)) (up (dpB A T 3)) (up (wiB A 3))
      = up (blk T fun t j => dhn A t j * A.g j) := by
  unfold k0_pay105; rw [p103]
  funext i; idx_vars i; pointwise
  simp only [blk_ix, row_ix, mul_up]
theorem p106 : k0_pay106 (F := Ideal) (up (row A.g)) (up (blk T fun t => xh (A.h t)))
      (k0_pay101 (F := Ideal) (up (dpB A T 0)) (up (wiB A 0)) (up (dpB A T 1)) (up (wiB A 1)))
      (k0_pay102 (F := Ideal) (up (dpB A T 2))) (up (wiB A 2)) (up (dpB A T 3)) (up (wiB A 3))
      = up (blk T fun t j => dhn A t j * A.g j * xh (A.h t) j) := by
  unfold k0_pay106; rw [p105]
  funext i; idx_vars i; pointwise
  simp only [blk_ix, mul_up]
theorem p1 : k0_pay1 (F := Ideal) (up (col T fun t => rr (A.h t))) (up (blk T fun t => xh (A.h t))) (up (blk T A.ct))
      (up (blk T fun t j => dhn A t j * A.g j)) (up (blk T fun t j => dhn A t j * A.g j * xh (A.h t) j)) = up (blk T (dh A)) := by
  funext i; idx_vars i; pointwise [k0_pay1]
  simp only [blk_ix, col_ix, c_inv1024, mul_up, sum_up, add_up, sub_up]; rfl

end Cert.KernelIdeal.Pay

end
-- ==== Proof.Blocks.lean ====
/- The kernel's payloads of one chunk and one group on real arrays: the block of the first half's gradient, of the
   layer-normalized half's gradient, and of the spatial weights' gradient. -/
module

public import proofs.«01_k».proof.Proof.Rows

@[expose] public section

set_option maxRecDepth 16384

noncomputable section

namespace Cert.KernelIdeal.Pay

open Idealize.ShloMosaic Idealize.ShloMosaic.TcCoe Idealize.SL.Sem
open Cert.KernelIdeal Cert.KernelIdeal.Gen Cert.Coe Cert.Spec

/-- Chunk `ch` of block `T`. -/
def nc (T : Fin 16) (ch : Fin 2) : Fin 32 := ⟨2 * T.val + ch.val, by omega⟩
/-- Chunk `n` and group `g` of a quantity of tokens and channels. -/
def sub (n : Fin 32) (g : Fin 8) (f : Fin 4096 → Fin 2048 → ℝ) : S128x256.Idx → ℝ :=
  mat (M := 128) (N := 256) fun a e => f (tok n a) (chan g e)

/-- Equal places of a quantity of tokens and channels. -/
theorem at_congr (f : Fin 4096 → Fin 2048 → ℝ) {t t' : Fin 4096} {c c' : Fin 2048} (ht : t.val = t'.val) (hc : c.val = c'.val) :
    f t c = f t' c' := by rw [Fin.ext ht, Fin.ext hc]

theorem grp_chan (g : Fin 8) (e : Fin 256) : grp (chan g e) = g := Fin.ext (by simp only [grp, chan]; omega)
theorem pos_tok (n : Fin 32) (a : Fin 128) : pos (tok n a) = a := Fin.ext (by simp only [pos, tok]; omega)
theorem chk_tok (n : Fin 32) (a : Fin 128) : chk (tok n a) = n := Fin.ext (by simp only [chk, tok]; omega)

variable (A : Args) (T : Fin 16)

theorem dpu_tok (n : Fin 32) (g : Fin 8) (a : Fin 128) (e : Fin 256) : dpu A (tok n a) (chan g e)
    = dy A (tok n a) (chan g e) * ((∑ s, wm A g a s * vn A (tok n s) (chan g e)) + A.bs g a)
      * gelD (pre A (tok n a) (lo (chan g e))) := by
  unfold dpu sv; rw [grp_chan, pos_tok, chk_tok]
theorem dvn_tok (n : Fin 32) (g : Fin 8) (a : Fin 128) (e : Fin 256) : dvn A (tok n a) (chan g e)
    = ∑ s, wm A g s a * dsv A (tok n s) (chan g e) := by
  unfold dvn; rw [grp_chan, pos_tok, chk_tok]

/-- The gradient of the first half, from places of a block. -/
theorem s_close (n : Fin 32) (g : Fin 8) (a : Fin 128) (e : Fin 256) (r : Fin 128 → Fin 4096) (c : Fin 2048)
    (hr : ∀ s, (r s).val = 128 * n.val + s.val) (hc : c.val = 256 * g.val + e.val) :
    dy A (r a) c * ((∑ s, wm A g a s * vn A (r s) c) + A.bs g a) * gelD (pre A (r a) (lo c)) = dpu A (tok n a) (chan g e) := by
  obtain rfl : r = tok n := funext fun s => Fin.ext (hr s)
  obtain rfl : c = chan g e := Fin.ext hc
  exact (dpu_tok A n g a e).symm
/-- The gradient of the layer-normalized half, from places of a block. -/
theorem d_close (n : Fin 32) (g : Fin 8) (a : Fin 128) (e : Fin 256) (r : Fin 128 → Fin 4096) (c : Fin 2048)
    (hr : ∀ s, (r s).val = 128 * n.val + s.val) (hc : c.val = 256 * g.val + e.val) :
    (∑ s, wm A g s a * dsv A (r s) c) = dvn A (tok n a) (chan g e) := by
  obtain rfl : r = tok n := funext fun s => Fin.ext (hr s)
  obtain rfl : c = chan g e := Fin.ext hc
  exact (dvn_tok A n g a e).symm
/-- The gradient of the spatial weights, from one chunk and one group. -/
def dwc (n : Fin 32) (g : Fin 8) (a b : Fin 128) : ℝ :=
  (∑ e, dsv A (tok n a) (chan g e) * vn A (tok n b) (chan g e)) * trl a b
theorem w_close (n : Fin 32) (g : Fin 8) (a b : Fin 128) (r r' : Fin 4096) (c : Fin 256 → Fin 2048)
    (hr : r.val = 128 * n.val + a.val) (hr' : r'.val = 128 * n.val + b.val) (hc : ∀ e, (c e).val = 256 * g.val + e.val) :
    (∑ e, dsv A r (c e) * vn A r' (c e)) * trl a b = dwc A n g a b := by
  obtain rfl : c = chan g := funext fun s => Fin.ext (hc s)
  obtain rfl : r = tok n a := Fin.ext hr
  obtain rfl : r' = tok n b := Fin.ext hr'
  rfl

theorem s0_0 : k0_pay36 (F := Ideal) (up (blk T (dy A))) (up (blk T fun t c => gelD (pre A t (lo c)))) (up (blk T (vn A))) (up (mat1 (wm A 0))) (up (mat (M := 128) (N := 256) fun a e => A.bs 0 a))
    = up (sub (nc T 0) 0 (dpu A)) := by
  unfold sub; funext i; idx_vars i; pointwise [k0_pay36]
  simp only [blk_ix, mat_ix, mat1_ix, mul_up, sum_up, add_up]
  exact congrArg _ (s_close A (nc T 0) 0 i0 i1 (fun s => tk T ⟨s.val, by omega⟩) ⟨i1.val, by omega⟩ (fun s => by simp only [tk, nc]; first | omega | (simp; omega)) (by simp))
theorem d0_0 : k0_pay37 (F := Ideal) (up (blk T (dsv A))) (up (mat1 fun a s => wm A 0 s a))
    = up (sub (nc T 0) 0 (dvn A)) := by
  unfold sub; funext i; idx_vars i; pointwise [k0_pay37]
  simp only [blk_ix, mat_ix, mat1_ix, mul_up, sum_up]
  exact congrArg _ (d_close A (nc T 0) 0 i0 i1 (fun s => tk T ⟨s.val, by omega⟩) ⟨i1.val, by omega⟩ (fun s => by simp only [tk, nc]; first | omega | (simp; omega)) (by simp))
theorem w0_0 (x : S1x128x128.Idx → EReal) (q : Fin 1) (a b : Fin 128) :
    k0_pay38 (F := Ideal) (up (blk T (vn A))) (up (blk T (dsv A))) (up (mat trl)) x (ix3 q a b) = x (ix3 q a b) + ((dwc A (nc T 0) 0 a b : ℝ) : EReal) := by
  obtain rfl : q = 0 := Subsingleton.elim _ _
  pointwise [k0_pay38]
  simp only [blk_ix, mat_ix, mul_up, sum_up]
  exact congrArg (fun y : ℝ => x (ix3 0 a b) + (y : EReal)) (w_close A (nc T 0) 0 a b (tk T ⟨a.val, by omega⟩) (tk T ⟨b.val, by omega⟩) (fun e => ⟨e.val, by omega⟩)
    (by simp only [tk, nc]; first | omega | (simp; omega)) (by simp only [tk, nc]; first | omega | (simp; omega)) (fun e => by simp))
theorem s0_1 : k0_pay40 (F := Ideal) (up (blk T (dy A))) (up (blk T fun t c => gelD (pre A t (lo c)))) (k0_pay39 (F := Ideal) (up (blk T (vn A))) (up (mat1 (wm A 1)))) (up (mat (M := 128) (N := 256) fun a e => A.bs 1 a))
    = up (sub (nc T 0) 1 (dpu A)) := by
  unfold sub; funext i; idx_vars i; pointwise [k0_pay40, k0_pay39]
  simp only [blk_ix, mat_ix, mat1_ix, mul_up, sum_up, add_up]
  exact congrArg _ (s_close A (nc T 0) 1 i0 i1 (fun s => tk T ⟨s.val, by omega⟩) ⟨256 + i1.val, by omega⟩ (fun s => by simp only [tk, nc]; first | omega | (simp; omega)) (by simp))
theorem d0_1 : k0_pay41 (F := Ideal) (up (blk T (dsv A))) (up (mat1 fun a s => wm A 1 s a))
    = up (sub (nc T 0) 1 (dvn A)) := by
  unfold sub; funext i; idx_vars i; pointwise [k0_pay41]
  simp only [blk_ix, mat_ix, mat1_ix, mul_up, sum_up]
  exact congrArg _ (d_close A (nc T 0) 1 i0 i1 (fun s => tk T ⟨s.val, by omega⟩) ⟨256 + i1.val, by omega⟩ (fun s => by simp only [tk, nc]; first | omega | (simp; omega)) (by simp))
theorem w0_1 (x : S1x128x128.Idx → EReal) (q : Fin 1) (a b : Fin 128) :
    k0_pay42 (F := Ideal) (up (blk T (vn A))) (up (blk T (dsv A))) (up (mat trl)) x (ix3 q a b) = x (ix3 q a b) + ((dwc A (nc T 0) 1 a b : ℝ) : EReal) := by
  obtain rfl : q = 0 := Subsingleton.elim _ _
  pointwise [k0_pay42]
  simp only [blk_ix, mat_ix, mul_up, sum_up]
  exact congrArg (fun y : ℝ => x (ix3 0 a b) + (y : EReal)) (w_close A (nc T 0) 1 a b (tk T ⟨a.val, by omega⟩) (tk T ⟨b.val, by omega⟩) (fun e => ⟨256 + e.val, by omega⟩)
    (by simp only [tk, nc]; first | omega | (simp; omega)) (by simp only [tk, nc]; first | omega | (simp; omega)) (fun e => by simp))
theorem s0_2 : k0_pay45 (F := Ideal) (up (blk T fun t c => gelD (pre A t (lo c)))) (k0_pay43 (F := Ideal) (up (blk T (vn A))) (up (mat1 (wm A 2))) (up (mat (M := 128) (N := 256) fun a e => A.bs 2 a))) (k0_pay44 (F := Ideal) (up (blk T (dy A))))
    = up (sub (nc T 0) 2 (dpu A)) := by
  unfold sub; funext i; idx_vars i; pointwise [k0_pay45, k0_pay43, k0_pay44]
  simp only [blk_ix, mat_ix, mat1_ix, mul_up, sum_up, add_up]
  exact congrArg _ (s_close A (nc T 0) 2 i0 i1 (fun s => tk T ⟨s.val, by omega⟩) ⟨512 + i1.val, by omega⟩ (fun s => by simp only [tk, nc]; first | omega | (simp; omega)) (by simp))
theorem d0_2 : k0_pay46 (F := Ideal) (up (blk T (dsv A))) (up (mat1 fun a s => wm A 2 s a))
    = up (sub (nc T 0) 2 (dvn A)) := by
  unfold sub; funext i; idx_vars i; pointwise [k0_pay46]
  simp only [blk_ix, mat_ix, mat1_ix, mul_up, sum_up]
  exact congrArg _ (d_close A (nc T 0) 2 i0 i1 (fun s => tk T ⟨s.val, by omega⟩) ⟨512 + i1.val, by omega⟩ (fun s => by simp only [tk, nc]; first | omega | (simp; omega)) (by simp))
theorem w0_2 (x : S1x128x128.Idx → EReal) (q : Fin 1) (a b : Fin 128) :
    k0_pay47 (F := Ideal) (up (blk T (vn A))) (up (blk T (dsv A))) (up (mat trl)) x (ix3 q a b) = x (ix3 q a b) + ((dwc A (nc T 0) 2 a b : ℝ) : EReal) := by
  obtain rfl : q = 0 := Subsingleton.elim _ _
  pointwise [k0_pay47]
  simp only [blk_ix, mat_ix, mul_up, sum_up]
  exact congrArg (fun y : ℝ => x (ix3 0 a b) + (y : EReal)) (w_close A (nc T 0) 2 a b (tk T ⟨a.val, by omega⟩) (tk T ⟨b.val, by omega⟩) (fun e => ⟨512 + e.val, by omega⟩)
    (by simp only [tk, nc]; first | omega | (simp; omega)) (by simp only [tk, nc]; first | omega | (simp; omega)) (fun e => by simp))
theorem s0_3 : k0_pay48 (F := Ideal) (up (blk T (dy A))) (up (blk T fun t c => gelD (pre A t (lo c)))) (up (blk T (vn A))) (up (mat1 (wm A 3))) (up (mat (M := 128) (N := 256) fun a e => A.bs 3 a))
    = up (sub (nc T 0) 3 (dpu A)) := by
  unfold sub; funext i; idx_vars i; pointwise [k0_pay48]
  simp only [blk_ix, mat_ix, mat1_ix, mul_up, sum_up, add_up]
  exact congrArg _ (s_close A (nc T 0) 3 i0 i1 (fun s => tk T ⟨s.val, by omega⟩) ⟨768 + i1.val, by omega⟩ (fun s => by simp only [tk, nc]; first | omega | (simp; omega)) (by simp))
theorem d0_3 : k0_pay49 (F := Ideal) (up (blk T (dsv A))) (up (mat1 fun a s => wm A 3 s a))
    = up (sub (nc T 0) 3 (dvn A)) := by
  unfold sub; funext i; idx_vars i; pointwise [k0_pay49]
  simp only [blk_ix, mat_ix, mat1_ix, mul_up, sum_up]
  exact congrArg _ (d_close A (nc T 0) 3 i0 i1 (fun s => tk T ⟨s.val, by omega⟩) ⟨768 + i1.val, by omega⟩ (fun s => by simp only [tk, nc]; first | omega | (simp; omega)) (by simp))
theorem w0_3 (x : S1x128x128.Idx → EReal) (q : Fin 1) (a b : Fin 128) :
    k0_pay50 (F := Ideal) (up (blk T (vn A))) (up (blk T (dsv A))) (up (mat trl)) x (ix3 q a b) = x (ix3 q a b) + ((dwc A (nc T 0) 3 a b : ℝ) : EReal) := by
  obtain rfl : q = 0 := Subsingleton.elim _ _
  pointwise [k0_pay50]
  simp only [blk_ix, mat_ix, mul_up, sum_up]
  exact congrArg (fun y : ℝ => x (ix3 0 a b) + (y : EReal)) (w_close A (nc T 0) 3 a b (tk T ⟨a.val, by omega⟩) (tk T ⟨b.val, by omega⟩) (fun e => ⟨768 + e.val, by omega⟩)
    (by simp only [tk, nc]; first | omega | (simp; omega)) (by simp only [tk, nc]; first | omega | (simp; omega)) (fun e => by simp))
theorem s0_4 : k0_pay51 (F := Ideal) (up (blk T (dy A))) (up (blk T fun t c => gelD (pre A t (lo c)))) (up (blk T (vn A))) (up (mat1 (wm A 4))) (up (mat (M := 128) (N := 256) fun a e => A.bs 4 a))
    = up (sub (nc T 0) 4 (dpu A)) := by
  unfold sub; funext i; idx_vars i; pointwise [k0_pay51]
  simp only [blk_ix, mat_ix, mat1_ix, mul_up, sum_up, add_up]
  exact congrArg _ (s_close A (nc T 0) 4 i0 i1 (fun s => tk T ⟨s.val, by omega⟩) ⟨1024 + i1.val, by omega⟩ (fun s => by simp only [tk, nc]; first | omega | (simp; omega)) (by simp))
theorem d0_4 : k0_pay52 (F := Ideal) (up (blk T (dsv A))) (up (mat1 fun a s => wm A 4 s a))
    = up (sub (nc T 0) 4 (dvn A)) := by
  unfold sub; funext i; idx_vars i; pointwise [k0_pay52]
  simp only [blk_ix, mat_ix, mat1_ix, mul_up, sum_up]
  exact congrArg _ (d_close A (nc T 0) 4 i0 i1 (fun s => tk T ⟨s.val, by omega⟩) ⟨1024 + i1.val, by omega⟩ (fun s => by simp only [tk, nc]; first | omega | (simp; omega)) (by simp))
theorem w0_4 (x : S1x128x128.Idx → EReal) (q : Fin 1) (a b : Fin 128) :
    k0_pay53 (F := Ideal) (up (blk T (vn A))) (up (blk T (dsv A))) (up (mat trl)) x (ix3 q a b) = x (ix3 q a b) + ((dwc A (nc T 0) 4 a b : ℝ) : EReal) := by
  obtain rfl : q = 0 := Subsingleton.elim _ _
  pointwise [k0_pay53]
  simp only [blk_ix, mat_ix, mul_up, sum_up]
  exact congrArg (fun y : ℝ => x (ix3 0 a b) + (y : EReal)) (w_close A (nc T 0) 4 a b (tk T ⟨a.val, by omega⟩) (tk T ⟨b.val, by omega⟩) (fun e => ⟨1024 + e.val, by omega⟩)
    (by simp only [tk, nc]; first | omega | (simp; omega)) (by simp only [tk, nc]; first | omega | (simp; omega)) (fun e => by simp))
theorem s0_5 : k0_pay54 (F := Ideal) (up (blk T (dy A))) (up (blk T fun t c => gelD (pre A t (lo c)))) (up (blk T (vn A))) (up (mat1 (wm A 5))) (up (mat (M := 128) (N := 256) fun a e => A.bs 5 a))
    = up (sub (nc T 0) 5 (dpu A)) := by
  unfold sub; funext i; idx_vars i; pointwise [k0_pay54]
  simp only [blk_ix, mat_ix, mat1_ix, mul_up, sum_up, add_up]
  exact congrArg _ (s_close A (nc T 0) 5 i0 i1 (fun s => tk T ⟨s.val, by omega⟩) ⟨1280 + i1.val, by omega⟩ (fun s => by simp only [tk, nc]; first | omega | (simp; omega)) (by simp))
theorem d0_5 : k0_pay56 (F := Ideal) (k0_pay55 (F := Ideal) (up (blk T (dsv A))) (up (mat1 fun a s => wm A 5 s a)))
    = up (sub (nc T 0) 5 (dvn A)) := by
  unfold sub; funext i; idx_vars i; pointwise [k0_pay56, k0_pay55]
  simp only [blk_ix, mat_ix, mat1_ix, mul_up, sum_up]
  exact congrArg _ (d_close A (nc T 0) 5 i0 i1 (fun s => tk T ⟨s.val, by omega⟩) ⟨1280 + i1.val, by omega⟩ (fun s => by simp only [tk, nc]; first | omega | (simp; omega)) (by simp))
theorem w0_5 (x : S1x128x128.Idx → EReal) (q : Fin 1) (a b : Fin 128) :
    k0_pay57 (F := Ideal) (up (blk T (vn A))) (up (blk T (dsv A))) (up (mat trl)) x (ix3 q a b) = x (ix3 q a b) + ((dwc A (nc T 0) 5 a b : ℝ) : EReal) := by
  obtain rfl : q = 0 := Subsingleton.elim _ _
  pointwise [k0_pay57]
  simp only [blk_ix, mat_ix, mul_up, sum_up]
  exact congrArg (fun y : ℝ => x (ix3 0 a b) + (y : EReal)) (w_close A (nc T 0) 5 a b (tk T ⟨a.val, by omega⟩) (tk T ⟨b.val, by omega⟩) (fun e => ⟨1280 + e.val, by omega⟩)
    (by simp only [tk, nc]; first | omega | (simp; omega)) (by simp only [tk, nc]; first | omega | (simp; omega)) (fun e => by simp))
theorem s0_6 : k0_pay58 (F := Ideal) (up (blk T (dy A))) (up (blk T fun t c => gelD (pre A t (lo c)))) (up (blk T (vn A))) (up (mat1 (wm A 6))) (up (mat (M := 128) (N := 256) fun a e => A.bs 6 a))
    = up (sub (nc T 0) 6 (dpu A)) := by
  unfold sub; funext i; idx_vars i; pointwise [k0_pay58]
  simp only [blk_ix, mat_ix, mat1_ix, mul_up, sum_up, add_up]
  exact congrArg _ (s_close A (nc T 0) 6 i0 i1 (fun s => tk T ⟨s.val, by omega⟩) ⟨1536 + i1.val, by omega⟩ (fun s => by simp only [tk, nc]; first | omega | (simp; omega)) (by simp))
theorem d0_6 : k0_pay59 (F := Ideal) (up (blk T (dsv A))) (up (mat1 fun a s => wm A 6 s a))
    = up (sub (nc T 0) 6 (dvn A)) := by
  unfold sub; funext i; idx_vars i; pointwise [k0_pay59]
  simp only [blk_ix, mat_ix, mat1_ix, mul_up, sum_up]
  exact congrArg _ (d_close A (nc T 0) 6 i0 i1 (fun s => tk T ⟨s.val, by omega⟩) ⟨1536 + i1.val, by omega⟩ (fun s => by simp only [tk, nc]; first | omega | (simp; omega)) (by simp))
theorem w0_6 (x : S1x128x128.Idx → EReal) (q : Fin 1) (a b : Fin 128) :
    k0_pay60 (F := Ideal) (up (blk T (vn A))) (up (blk T (dsv A))) (up (mat trl)) x (ix3 q a b) = x (ix3 q a b) + ((dwc A (nc T 0) 6 a b : ℝ) : EReal) := by
  obtain rfl : q = 0 := Subsingleton.elim _ _
  pointwise [k0_pay60]
  simp only [blk_ix, mat_ix, mul_up, sum_up]
  exact congrArg (fun y : ℝ => x (ix3 0 a b) + (y : EReal)) (w_close A (nc T 0) 6 a b (tk T ⟨a.val, by omega⟩) (tk T ⟨b.val, by omega⟩) (fun e => ⟨1536 + e.val, by omega⟩)
    (by simp only [tk, nc]; first | omega | (simp; omega)) (by simp only [tk, nc]; first | omega | (simp; omega)) (fun e => by simp))
theorem s0_7 : k0_pay61 (F := Ideal) (up (blk T (dy A))) (up (blk T fun t c => gelD (pre A t (lo c)))) (up (blk T (vn A))) (up (mat1 (wm A 7))) (up (mat (M := 128) (N := 256) fun a e => A.bs 7 a))
    = up (sub (nc T 0) 7 (dpu A)) := by
  unfold sub; funext i; idx_vars i; pointwise [k0_pay61]
  simp only [blk_ix, mat_ix, mat1_ix, mul_up, sum_up, add_up]
  exact congrArg _ (s_close A (nc T 0) 7 i0 i1 (fun s => tk T ⟨s.val, by omega⟩) ⟨1792 + i1.val, by omega⟩ (fun s => by simp only [tk, nc]; first | omega | (simp; omega)) (by simp))
theorem d0_7 : k0_pay62 (F := Ideal) (up (blk T (dsv A))) (up (mat1 fun a s => wm A 7 s a))
    = up (sub (nc T 0) 7 (dvn A)) := by
  unfold sub; funext i; idx_vars i; pointwise [k0_pay62]
  simp only [blk_ix, mat_ix, mat1_ix, mul_up, sum_up]
  exact congrArg _ (d_close A (nc T 0) 7 i0 i1 (fun s => tk T ⟨s.val, by omega⟩) ⟨1792 + i1.val, by omega⟩ (fun s => by simp only [tk, nc]; first | omega | (simp; omega)) (by simp))
theorem w0_7 (x : S1x128x128.Idx → EReal) (q : Fin 1) (a b : Fin 128) :
    k0_pay66 (F := Ideal) (up (mat trl)) (k0_pay63 (F := Ideal) x) (k0_pay64 (F := Ideal) (up (blk T (dsv A)))) (k0_pay65 (F := Ideal) (up (blk T (vn A)))) (constant (F := Ideal) S128x128 .f32 0x00000000#32) (ix3 q a b) = x (ix3 q a b) + ((dwc A (nc T 0) 7 a b : ℝ) : EReal) := by
  obtain rfl : q = 0 := Subsingleton.elim _ _
  pointwise [k0_pay66, k0_pay63, k0_pay64, k0_pay65]
  simp only [blk_ix, mat_ix, mul_up, sum_up]
  exact congrArg (fun y : ℝ => x (ix3 0 a b) + (y : EReal)) (w_close A (nc T 0) 7 a b (tk T ⟨a.val, by omega⟩) (tk T ⟨b.val, by omega⟩) (fun e => ⟨1792 + e.val, by omega⟩)
    (by simp only [tk, nc]; first | omega | (simp; omega)) (by simp only [tk, nc]; first | omega | (simp; omega)) (fun e => by simp))
theorem s1_0 : k0_pay68 (F := Ideal) (up (blk T (dy A))) (up (blk T fun t c => gelD (pre A t (lo c)))) (up (blk T (vn A))) (up (mat1 (wm A 0))) (up (mat (M := 128) (N := 256) fun a e => A.bs 0 a))
    = up (sub (nc T 1) 0 (dpu A)) := by
  unfold sub; funext i; idx_vars i; pointwise [k0_pay68]
  simp only [blk_ix, mat_ix, mat1_ix, mul_up, sum_up, add_up]
  exact congrArg _ (s_close A (nc T 1) 0 i0 i1 (fun s => tk T ⟨128 + s.val, by omega⟩) ⟨i1.val, by omega⟩ (fun s => by simp only [tk, nc]; first | omega | (simp; omega)) (by simp))
theorem d1_0 : k0_pay69 (F := Ideal) (up (blk T (dsv A))) (up (mat1 fun a s => wm A 0 s a))
    = up (sub (nc T 1) 0 (dvn A)) := by
  unfold sub; funext i; idx_vars i; pointwise [k0_pay69]
  simp only [blk_ix, mat_ix, mat1_ix, mul_up, sum_up]
  exact congrArg _ (d_close A (nc T 1) 0 i0 i1 (fun s => tk T ⟨128 + s.val, by omega⟩) ⟨i1.val, by omega⟩ (fun s => by simp only [tk, nc]; first | omega | (simp; omega)) (by simp))
theorem w1_0 (x : S1x128x128.Idx → EReal) (q : Fin 1) (a b : Fin 128) :
    k0_pay70 (F := Ideal) (up (blk T (vn A))) (up (blk T (dsv A))) (up (mat trl)) x (ix3 q a b) = x (ix3 q a b) + ((dwc A (nc T 1) 0 a b : ℝ) : EReal) := by
  obtain rfl : q = 0 := Subsingleton.elim _ _
  pointwise [k0_pay70]
  simp only [blk_ix, mat_ix, mul_up, sum_up]
  exact congrArg (fun y : ℝ => x (ix3 0 a b) + (y : EReal)) (w_close A (nc T 1) 0 a b (tk T ⟨128 + a.val, by omega⟩) (tk T ⟨128 + b.val, by omega⟩) (fun e => ⟨e.val, by omega⟩)
    (by simp only [tk, nc]; first | omega | (simp; omega)) (by simp only [tk, nc]; first | omega | (simp; omega)) (fun e => by simp))
theorem s1_1 : k0_pay71 (F := Ideal) (up (blk T (dy A))) (up (blk T fun t c => gelD (pre A t (lo c)))) (up (blk T (vn A))) (up (mat1 (wm A 1))) (up (mat (M := 128) (N := 256) fun a e => A.bs 1 a))
    = up (sub (nc T 1) 1 (dpu A)) := by
  unfold sub; funext i; idx_vars i; pointwise [k0_pay71]
  simp only [blk_ix, mat_ix, mat1_ix, mul_up, sum_up, add_up]
  exact congrArg _ (s_close A (nc T 1) 1 i0 i1 (fun s => tk T ⟨128 + s.val, by omega⟩) ⟨256 + i1.val, by omega⟩ (fun s => by simp only [tk, nc]; first | omega | (simp; omega)) (by simp))
theorem d1_1 : k0_pay72 (F := Ideal) (up (blk T (dsv A))) (up (mat1 fun a s => wm A 1 s a))
    = up (sub (nc T 1) 1 (dvn A)) := by
  unfold sub; funext i; idx_vars i; pointwise [k0_pay72]
  simp only [blk_ix, mat_ix, mat1_ix, mul_up, sum_up]
  exact congrArg _ (d_close A (nc T 1) 1 i0 i1 (fun s => tk T ⟨128 + s.val, by omega⟩) ⟨256 + i1.val, by omega⟩ (fun s => by simp only [tk, nc]; first | omega | (simp; omega)) (by simp))
theorem w1_1 (x : S1x128x128.Idx → EReal) (q : Fin 1) (a b : Fin 128) :
    k0_pay75 (F := Ideal) (k0_pay73 (F := Ideal) x) (k0_pay74 (F := Ideal) (up (blk T (vn A))) (up (blk T (dsv A))) (up (mat trl))) (ix3 q a b) = x (ix3 q a b) + ((dwc A (nc T 1) 1 a b : ℝ) : EReal) := by
  obtain rfl : q = 0 := Subsingleton.elim _ _
  pointwise [k0_pay75, k0_pay73, k0_pay74]
  simp only [blk_ix, mat_ix, mul_up, sum_up]
  exact congrArg (fun y : ℝ => x (ix3 0 a b) + (y : EReal)) (w_close A (nc T 1) 1 a b (tk T ⟨128 + a.val, by omega⟩) (tk T ⟨128 + b.val, by omega⟩) (fun e => ⟨256 + e.val, by omega⟩)
    (by simp only [tk, nc]; first | omega | (simp; omega)) (by simp only [tk, nc]; first | omega | (simp; omega)) (fun e => by simp))
theorem s1_2 : k0_pay76 (F := Ideal) (up (blk T (dy A))) (up (blk T fun t c => gelD (pre A t (lo c)))) (up (blk T (vn A))) (up (mat1 (wm A 2))) (up (mat (M := 128) (N := 256) fun a e => A.bs 2 a))
    = up (sub (nc T 1) 2 (dpu A)) := by
  unfold sub; funext i; idx_vars i; pointwise [k0_pay76]
  simp only [blk_ix, mat_ix, mat1_ix, mul_up, sum_up, add_up]
  exact congrArg _ (s_close A (nc T 1) 2 i0 i1 (fun s => tk T ⟨128 + s.val, by omega⟩) ⟨512 + i1.val, by omega⟩ (fun s => by simp only [tk, nc]; first | omega | (simp; omega)) (by simp))
theorem d1_2 : k0_pay77 (F := Ideal) (up (blk T (dsv A))) (up (mat1 fun a s => wm A 2 s a))
    = up (sub (nc T 1) 2 (dvn A)) := by
  unfold sub; funext i; idx_vars i; pointwise [k0_pay77]
  simp only [blk_ix, mat_ix, mat1_ix, mul_up, sum_up]
  exact congrArg _ (d_close A (nc T 1) 2 i0 i1 (fun s => tk T ⟨128 + s.val, by omega⟩) ⟨512 + i1.val, by omega⟩ (fun s => by simp only [tk, nc]; first | omega | (simp; omega)) (by simp))
theorem w1_2 (x : S1x128x128.Idx → EReal) (q : Fin 1) (a b : Fin 128) :
    k0_pay79 (F := Ideal) (k0_pay78 (F := Ideal) (up (blk T (vn A))) (up (blk T (dsv A))) (up (mat trl)) x) (ix3 q a b) = x (ix3 q a b) + ((dwc A (nc T 1) 2 a b : ℝ) : EReal) := by
  obtain rfl : q = 0 := Subsingleton.elim _ _
  pointwise [k0_pay79, k0_pay78]
  simp only [blk_ix, mat_ix, mul_up, sum_up]
  exact congrArg (fun y : ℝ => x (ix3 0 a b) + (y : EReal)) (w_close A (nc T 1) 2 a b (tk T ⟨128 + a.val, by omega⟩) (tk T ⟨128 + b.val, by omega⟩) (fun e => ⟨512 + e.val, by omega⟩)
    (by simp only [tk, nc]; first | omega | (simp; omega)) (by simp only [tk, nc]; first | omega | (simp; omega)) (fun e => by simp))
theorem s1_3 : k0_pay80 (F := Ideal) (up (blk T (dy A))) (up (blk T fun t c => gelD (pre A t (lo c)))) (up (blk T (vn A))) (up (mat1 (wm A 3))) (up (mat (M := 128) (N := 256) fun a e => A.bs 3 a))
    = up (sub (nc T 1) 3 (dpu A)) := by
  unfold sub; funext i; idx_vars i; pointwise [k0_pay80]
  simp only [blk_ix, mat_ix, mat1_ix, mul_up, sum_up, add_up]
  exact congrArg _ (s_close A (nc T 1) 3 i0 i1 (fun s => tk T ⟨128 + s.val, by omega⟩) ⟨768 + i1.val, by omega⟩ (fun s => by simp only [tk, nc]; first | omega | (simp; omega)) (by simp))
theorem d1_3 : k0_pay81 (F := Ideal) (up (blk T (dsv A))) (up (mat1 fun a s => wm A 3 s a))
    = up (sub (nc T 1) 3 (dvn A)) := by
  unfold sub; funext i; idx_vars i; pointwise [k0_pay81]
  simp only [blk_ix, mat_ix, mat1_ix, mul_up, sum_up]
  exact congrArg _ (d_close A (nc T 1) 3 i0 i1 (fun s => tk T ⟨128 + s.val, by omega⟩) ⟨768 + i1.val, by omega⟩ (fun s => by simp only [tk, nc]; first | omega | (simp; omega)) (by simp))
theorem w1_3 (x : S1x128x128.Idx → EReal) (q : Fin 1) (a b : Fin 128) :
    k0_pay82 (F := Ideal) (up (blk T (vn A))) (up (blk T (dsv A))) (up (mat trl)) x (ix3 q a b) = x (ix3 q a b) + ((dwc A (nc T 1) 3 a b : ℝ) : EReal) := by
  obtain rfl : q = 0 := Subsingleton.elim _ _
  pointwise [k0_pay82]
  simp only [blk_ix, mat_ix, mul_up, sum_up]
  exact congrArg (fun y : ℝ => x (ix3 0 a b) + (y : EReal)) (w_close A (nc T 1) 3 a b (tk T ⟨128 + a.val, by omega⟩) (tk T ⟨128 + b.val, by omega⟩) (fun e => ⟨768 + e.val, by omega⟩)
    (by simp only [tk, nc]; first | omega | (simp; omega)) (by simp only [tk, nc]; first | omega | (simp; omega)) (fun e => by simp))
theorem s1_4 : k0_pay83 (F := Ideal) (up (blk T (dy A))) (up (blk T fun t c => gelD (pre A t (lo c)))) (up (blk T (vn A))) (up (mat1 (wm A 4))) (up (mat (M := 128) (N := 256) fun a e => A.bs 4 a))
    = up (sub (nc T 1) 4 (dpu A)) := by
  unfold sub; funext i; idx_vars i; pointwise [k0_pay83]
  simp only [blk_ix, mat_ix, mat1_ix, mul_up, sum_up, add_up]
  exact congrArg _ (s_close A (nc T 1) 4 i0 i1 (fun s => tk T ⟨128 + s.val, by omega⟩) ⟨1024 + i1.val, by omega⟩ (fun s => by simp only [tk, nc]; first | omega | (simp; omega)) (by simp))
theorem d1_4 : k0_pay84 (F := Ideal) (up (blk T (dsv A))) (up (mat1 fun a s => wm A 4 s a))
    = up (sub (nc T 1) 4 (dvn A)) := by
  unfold sub; funext i; idx_vars i; pointwise [k0_pay84]
  simp only [blk_ix, mat_ix, mat1_ix, mul_up, sum_up]
  exact congrArg _ (d_close A (nc T 1) 4 i0 i1 (fun s => tk T ⟨128 + s.val, by omega⟩) ⟨1024 + i1.val, by omega⟩ (fun s => by simp only [tk, nc]; first | omega | (simp; omega)) (by simp))
theorem w1_4 (x : S1x128x128.Idx → EReal) (q : Fin 1) (a b : Fin 128) :
    k0_pay85 (F := Ideal) (up (blk T (vn A))) (up (blk T (dsv A))) (up (mat trl)) x (ix3 q a b) = x (ix3 q a b) + ((dwc A (nc T 1) 4 a b : ℝ) : EReal) := by
  obtain rfl : q = 0 := Subsingleton.elim _ _
  pointwise [k0_pay85]
  simp only [blk_ix, mat_ix, mul_up, sum_up]
  exact congrArg (fun y : ℝ => x (ix3 0 a b) + (y : EReal)) (w_close A (nc T 1) 4 a b (tk T ⟨128 + a.val, by omega⟩) (tk T ⟨128 + b.val, by omega⟩) (fun e => ⟨1024 + e.val, by omega⟩)
    (by simp only [tk, nc]; first | omega | (simp; omega)) (by simp only [tk, nc]; first | omega | (simp; omega)) (fun e => by simp))
theorem s1_5 : k0_pay87 (F := Ideal) (up (blk T (dy A))) (up (blk T fun t c => gelD (pre A t (lo c)))) (k0_pay86 (F := Ideal) (up (blk T (vn A))) (up (mat1 (wm A 5)))) (up (mat (M := 128) (N := 256) fun a e => A.bs 5 a))
    = up (sub (nc T 1) 5 (dpu A)) := by
  unfold sub; funext i; idx_vars i; pointwise [k0_pay87, k0_pay86]
  simp only [blk_ix, mat_ix, mat1_ix, mul_up, sum_up, add_up]
  exact congrArg _ (s_close A (nc T 1) 5 i0 i1 (fun s => tk T ⟨128 + s.val, by omega⟩) ⟨1280 + i1.val, by omega⟩ (fun s => by simp only [tk, nc]; first | omega | (simp; omega)) (by simp))
theorem d1_5 : k0_pay88 (F := Ideal) (up (blk T (dsv A))) (up (mat1 fun a s => wm A 5 s a))
    = up (sub (nc T 1) 5 (dvn A)) := by
  unfold sub; funext i; idx_vars i; pointwise [k0_pay88]
  simp only [blk_ix, mat_ix, mat1_ix, mul_up, sum_up]
  exact congrArg _ (d_close A (nc T 1) 5 i0 i1 (fun s => tk T ⟨128 + s.val, by omega⟩) ⟨1280 + i1.val, by omega⟩ (fun s => by simp only [tk, nc]; first | omega | (simp; omega)) (by simp))
theorem w1_5 (x : S1x128x128.Idx → EReal) (q : Fin 1) (a b : Fin 128) :
    k0_pay89 (F := Ideal) (up (blk T (vn A))) (up (blk T (dsv A))) (up (mat trl)) x (ix3 q a b) = x (ix3 q a b) + ((dwc A (nc T 1) 5 a b : ℝ) : EReal) := by
  obtain rfl : q = 0 := Subsingleton.elim _ _
  pointwise [k0_pay89]
  simp only [blk_ix, mat_ix, mul_up, sum_up]
  exact congrArg (fun y : ℝ => x (ix3 0 a b) + (y : EReal)) (w_close A (nc T 1) 5 a b (tk T ⟨128 + a.val, by omega⟩) (tk T ⟨128 + b.val, by omega⟩) (fun e => ⟨1280 + e.val, by omega⟩)
    (by simp only [tk, nc]; first | omega | (simp; omega)) (by simp only [tk, nc]; first | omega | (simp; omega)) (fun e => by simp))
theorem s1_6 : k0_pay92 (F := Ideal) (k0_pay90 (F := Ideal) (up (blk T (dy A))) (up (blk T (vn A))) (up (mat1 (wm A 6))) (up (mat (M := 128) (N := 256) fun a e => A.bs 6 a))) (k0_pay91 (F := Ideal) (up (blk T fun t c => gelD (pre A t (lo c)))))
    = up (sub (nc T 1) 6 (dpu A)) := by
  unfold sub; funext i; idx_vars i; pointwise [k0_pay92, k0_pay90, k0_pay91]
  simp only [blk_ix, mat_ix, mat1_ix, mul_up, sum_up, add_up]
  exact congrArg _ (s_close A (nc T 1) 6 i0 i1 (fun s => tk T ⟨128 + s.val, by omega⟩) ⟨1536 + i1.val, by omega⟩ (fun s => by simp only [tk, nc]; first | omega | (simp; omega)) (by simp))
theorem d1_6 : k0_pay93 (F := Ideal) (up (blk T (dsv A))) (up (mat1 fun a s => wm A 6 s a))
    = up (sub (nc T 1) 6 (dvn A)) := by
  unfold sub; funext i; idx_vars i; pointwise [k0_pay93]
  simp only [blk_ix, mat_ix, mat1_ix, mul_up, sum_up]
  exact congrArg _ (d_close A (nc T 1) 6 i0 i1 (fun s => tk T ⟨128 + s.val, by omega⟩) ⟨1536 + i1.val, by omega⟩ (fun s => by simp only [tk, nc]; first | omega | (simp; omega)) (by simp))
theorem w1_6 (x : S1x128x128.Idx → EReal) (q : Fin 1) (a b : Fin 128) :
    k0_pay94 (F := Ideal) (up (blk T (vn A))) (up (blk T (dsv A))) (up (mat trl)) x (ix3 q a b) = x (ix3 q a b) + ((dwc A (nc T 1) 6 a b : ℝ) : EReal) := by
  obtain rfl : q = 0 := Subsingleton.elim _ _
  pointwise [k0_pay94]
  simp only [blk_ix, mat_ix, mul_up, sum_up]
  exact congrArg (fun y : ℝ => x (ix3 0 a b) + (y : EReal)) (w_close A (nc T 1) 6 a b (tk T ⟨128 + a.val, by omega⟩) (tk T ⟨128 + b.val, by omega⟩) (fun e => ⟨1536 + e.val, by omega⟩)
    (by simp only [tk, nc]; first | omega | (simp; omega)) (by simp only [tk, nc]; first | omega | (simp; omega)) (fun e => by simp))
theorem s1_7 : k0_pay95 (F := Ideal) (up (blk T (dy A))) (up (blk T fun t c => gelD (pre A t (lo c)))) (up (blk T (vn A))) (up (mat1 (wm A 7))) (up (mat (M := 128) (N := 256) fun a e => A.bs 7 a))
    = up (sub (nc T 1) 7 (dpu A)) := by
  unfold sub; funext i; idx_vars i; pointwise [k0_pay95]
  simp only [blk_ix, mat_ix, mat1_ix, mul_up, sum_up, add_up]
  exact congrArg _ (s_close A (nc T 1) 7 i0 i1 (fun s => tk T ⟨128 + s.val, by omega⟩) ⟨1792 + i1.val, by omega⟩ (fun s => by simp only [tk, nc]; first | omega | (simp; omega)) (by simp))
theorem d1_7 : k0_pay96 (F := Ideal) (up (blk T (dsv A))) (up (mat1 fun a s => wm A 7 s a))
    = up (sub (nc T 1) 7 (dvn A)) := by
  unfold sub; funext i; idx_vars i; pointwise [k0_pay96]
  simp only [blk_ix, mat_ix, mat1_ix, mul_up, sum_up]
  exact congrArg _ (d_close A (nc T 1) 7 i0 i1 (fun s => tk T ⟨128 + s.val, by omega⟩) ⟨1792 + i1.val, by omega⟩ (fun s => by simp only [tk, nc]; first | omega | (simp; omega)) (by simp))
theorem w1_7 (x : S1x128x128.Idx → EReal) (q : Fin 1) (a b : Fin 128) :
    k0_pay97 (F := Ideal) (up (blk T (vn A))) (up (blk T (dsv A))) (up (mat trl)) x (ix3 q a b) = x (ix3 q a b) + ((dwc A (nc T 1) 7 a b : ℝ) : EReal) := by
  obtain rfl : q = 0 := Subsingleton.elim _ _
  pointwise [k0_pay97]
  simp only [blk_ix, mat_ix, mul_up, sum_up]
  exact congrArg (fun y : ℝ => x (ix3 0 a b) + (y : EReal)) (w_close A (nc T 1) 7 a b (tk T ⟨128 + a.val, by omega⟩) (tk T ⟨128 + b.val, by omega⟩) (fun e => ⟨1792 + e.val, by omega⟩)
    (by simp only [tk, nc]; first | omega | (simp; omega)) (by simp only [tk, nc]; first | omega | (simp; omega)) (fun e => by simp))
theorem b0 (x : S128x2048.Idx → EReal) (a : Fin 128) (c : Fin 2048) :
    k0_pay35 (F := Ideal) (up (blk T (dy A))) (up (blk T (U A))) x (ix2 a c) = x (ix2 a c) + ((dsv A (tok (nc T 0) a) c : ℝ) : EReal) := by
  unfold k0_pay35; rw [p32]
  pointwise
  simp only [blk_ix]
  exact congrArg (fun y : ℝ => x (ix2 a c) + (y : EReal)) (at_congr _ (by simp only [tk, tok, nc]; first | omega | (simp; omega)) (by simp))
theorem b1 (x : S128x2048.Idx → EReal) (a : Fin 128) (c : Fin 2048) :
    k0_pay67 (F := Ideal) (up (blk T (dsv A))) x (ix2 a c) = x (ix2 a c) + ((dsv A (tok (nc T 1) a) c : ℝ) : EReal) := by
  pointwise [k0_pay67]
  simp only [blk_ix]
  exact congrArg (fun y : ℝ => x (ix2 a c) + (y : EReal)) (at_congr _ (by simp only [tk, tok, nc]; first | omega | (simp; omega)) (by simp))

end Cert.KernelIdeal.Pay

end
-- ==== Proof.Body.lean ====
/- The body's outputs at one grid point, from blocks of real arrays: what each store leaves is the block of the quantity that
   it is named for, and each accumulator gains its block's sum. -/
module

public import proofs.«01_k».proof.Proof.Blocks
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.KernelIdeal.Pay Cert.Coe Cert.Spec

variable (m : (ℓ : Loc nD τ sig) → Buf (Elt Ideal) ℓ)

/-- The masked spatial weights, group by group. -/
def wmB (A : Args) : S8x128x128.Idx → ℝ := ten (L := 8) (M := 128) (N := 128) (wm A)
/-- The masked spatial weights transposed. -/
def wtB (A : Args) : S8x128x128.Idx → ℝ := ten (L := 8) (M := 128) (N := 128) fun g a s => wm A g s a
/-- The spatial biases, one column per channel. -/
def bsB (A : Args) : S128x2048.Idx → ℝ := mat (M := 128) (N := 2048) fun a c => A.bs (grp c) a
/-- The input projection as the kernel's window holds it: four shards of its columns. -/
def wiS (A : Args) : S4x1024x1024.Idx → ℝ :=
  ten (L := 4) (M := 1024) (N := 1024) fun q j k => A.wi j ⟨1024 * q.val + k.val, by omega⟩

/-- The input blocks at one grid point are blocks of real arrays. -/
structure In (c : Dev nD) (t : Fin cfg0.N) (A : Args) (T : Fin 16) : Prop where
  b0 : iblk m c 0 t = up (blk T A.ct)
  b1 : iblk m c 1 t = up (blk T A.ct)
  b2 : iblk m c 2 t = up (blk T A.h)
  b3 : iblk m c 3 t = up (blk T (pre A))
  b4 : iblk m c 4 t = up (row A.g)
  b5 : iblk m c 5 t = up (wiS A)
  b6 : iblk m c 6 t = up (row A.lg)
  b7 : iblk m c 7 t = up (row A.lb)
  b8 : iblk m c 8 t = up (wmB A)
  b9 : iblk m c 9 t = up (wtB A)
  b10 : iblk m c 10 t = up (bsB A)
  b11 : iblk m c 11 t = up (woB A)
  b12 : iblk m c 12 t = up (mat trl)

variable {m} {c : Dev nD} {t : Fin cfg0.N} {A : Args} {T : Fin 16}

theorem ld_of {s : Shape} {e : EltTy} (X : s.Idx → Elt Ideal e) (r : Rect s) (G : r.shape.Idx → Elt Ideal e)
    (h : ∀ x, X (r.idx x) = G x) : View.ld X r = G := funext h

theorem ld_lo (H : In m c t A T) : View.ld (Val := Elt Ideal) (e' := .bf16) (S := S256x4096) (iblk m c 3 t)
    (Rect.unit (s := S256x4096) ![0, 0] ![256, 2048] inb_S256x4096_S256x2048_0_0) = up (blk T fun t c => pre A t (lo c)) := by
  rw [H.b3]; refine ld_of _ _ _ fun x => ?_
  exact congrArg Real.toEReal (congrArg₂ (fun a b => pre A (tk T a) b) (Fin.ext (by simp)) (Fin.ext (by simp [lo])))
theorem ld_hi (H : In m c t A T) : View.ld (Val := Elt Ideal) (e' := .bf16) (S := S256x4096) (iblk m c 3 t)
    (Rect.unit (s := S256x4096) ![0, 2048] ![256, 2048] inb_S256x4096_S256x2048_0_2048) = up (blk T fun t c => pre A t (hi c)) := by
  rw [H.b3]; refine ld_of _ _ _ fun x => ?_
  exact congrArg Real.toEReal (congrArg₂ (fun a b => pre A (tk T a) b) (Fin.ext (by simp)) (Fin.ext (by simp [hi])))
theorem ld_wm (H : In m c t A T) (g : Fin 8) (G : ℕ) (hg : G = g.val) (inb) : View.ld (Val := Elt Ideal) (e' := .bf16) (S := S8x128x128) (iblk m c 8 t)
    (Rect.unit (s := S8x128x128) ![G, 0, 0] ![1, 128, 128] inb) = up (mat1 (wm A g)) := by
  subst hg
  rw [H.b8]; refine ld_of _ _ _ fun x => ?_
  have h0 : (x 0).val < 1 := (x 0).isLt
  show ((wm A _ _ _ : ℝ) : EReal) = ((wm A _ _ _ : ℝ) : EReal)
  congr 2
  · exact Fin.ext (by simp)
  · exact Fin.ext (by simp)
  · exact Fin.ext (by simp)
theorem ld_wt (H : In m c t A T) (g : Fin 8) (G : ℕ) (hg : G = g.val) (inb) : View.ld (Val := Elt Ideal) (e' := .bf16) (S := S8x128x128) (iblk m c 9 t)
    (Rect.unit (s := S8x128x128) ![G, 0, 0] ![1, 128, 128] inb) = up (mat1 fun a s => wm A g s a) := by
  subst hg
  rw [H.b9]; refine ld_of _ _ _ fun x => ?_
  have h0 : (x 0).val < 1 := (x 0).isLt
  show ((wm A _ _ _ : ℝ) : EReal) = ((wm A _ _ _ : ℝ) : EReal)
  congr 2
  · exact Fin.ext (by simp)
  · exact Fin.ext (by simp)
  · exact Fin.ext (by simp)
theorem ld_bs (H : In m c t A T) (g : Fin 8) (G : ℕ) (hg : G = 256 * g.val) (inb) : View.ld (Val := Elt Ideal) (e' := .f32) (S := S128x2048) (iblk m c 10 t)
    (Rect.unit (s := S128x2048) ![0, G] ![128, 256] inb) = up (mat (M := 128) (N := 256) fun a e => A.bs g a) := by
  subst hg
  rw [H.b10]; refine ld_of _ _ _ fun x => ?_
  have h0 : (x 1).val < 256 := (x 1).isLt
  show ((A.bs _ _ : ℝ) : EReal) = ((A.bs _ _ : ℝ) : EReal)
  congr 2
  · exact Fin.ext (by simp [grp]; omega)
  · exact Fin.ext (by simp)
theorem ld_wi (H : In m c t A T) (q : Fin 4) (G : ℕ) (hg : G = q.val) (inb) : View.ld (Val := Elt Ideal) (e' := .bf16) (S := S4x1024x1024) (iblk m c 5 t)
    (Rect.unit (s := S4x1024x1024) ![G, 0, 0] ![1, 1024, 1024] inb) = up (wiB A q) := by
  subst hg
  rw [H.b5]; refine ld_of _ _ _ fun x => ?_
  have h0 : (x 0).val < 1 := (x 0).isLt
  show ((A.wi _ _ : ℝ) : EReal) = ((A.wi _ _ : ℝ) : EReal)
  congr 2
  · exact Fin.ext (by simp)
  · exact Fin.ext (by simp)

/-! ### Values that the body forms in one step of its text and uses in another -/

theorem f26 (x y z : FVec Ideal S256x2048 .f32) : addf x (mulf y (mulf (broadcast S256x2048 (FloatOps.ofBits .f32 0x3F4C422A#32))
    (addf (broadcast S256x2048 (FloatOps.ofBits .f32 0x3F800000#32)) z))) = k0_pay26 x y z := rfl
theorem f27 (x : FVec Ideal S256x2048 .f32) (h4 h5) : subf x (broadcastTo S256x2048
    (divf (shapeCast S256x1 (multiReduction .add (@List.cons (Fin 2) (1 : Fin S256x2048.rank) (@List.nil (Fin 2))) S256 x 0x00000000#32 reduces_S256x2048_S256 Cert.KernelIdeal.k0_part1._proof_7 Cert.KernelIdeal.k0_part1._proof_8) h4)
      (broadcast S256x1 (FloatOps.ofBits .f32 0x45000000#32))) h5) = k0_pay27 x := rfl
theorem f28 (x : FVec Ideal S256x2048 .f32) (h4) : rsqrt (addf (divf (shapeCast S256x1
    (multiReduction .add (@List.cons (Fin 2) (1 : Fin S256x2048.rank) (@List.nil (Fin 2))) S256 (mulf (k0_pay27 x) (k0_pay27 x)) 0x00000000#32 reduces_S256x2048_S256 Cert.KernelIdeal.k0_part1._proof_7 Cert.KernelIdeal.k0_part1._proof_8) h4)
      (broadcast S256x1 (FloatOps.ofBits .f32 0x45000000#32))) (broadcast S256x1 (FloatOps.ofBits .f32 0x358637BD#32))) = k0_pay28 x := rfl
theorem f29 (x : FVec Ideal S256x2048 .f32) (h1) : mulf (k0_pay27 x) (broadcastTo S256x2048 (k0_pay28 x) h1) = k0_pay29 x := rfl
theorem f31 (x : FVec Ideal S256x2048 .f32) (l b : FVec Ideal S1x2048 .f32) (h1 h2 h3 h4 h5) : truncf .bf16 (addf (mulf (k0_pay29 x)
    (broadcastTo S256x2048 (shapeCast S1x2048 l h1) h2)) (broadcastTo S256x2048 (shapeCast S1x2048 b h3) h4)) h5 = k0_pay31 x l b := rfl
theorem f30 (l : FVec Ideal S1x2048 .f32) (h1) : shapeCast S1x2048 l h1 = k0_pay30 l := rfl
theorem f7 (l : FVec Ideal S1x1024 .f32) (h1) : shapeCast S1x1024 l h1 = k0_pay7 l := rfl
theorem f34 (l : FVec Ideal S128x128 .f32) (h1) : shapeCast S128x128 l h1 = k0_pay34 l := rfl
theorem r32 : mulf (F := Ideal) (φ := .f32) (s := S256x2048) (up (blk T (dy A))) (up (blk T (U A))) = up (blk T (dsv A)) := p32 A T
theorem r33 (h1) : truncf (F := Ideal) (φ := .f32) (s := S256x2048) .bf16 (up (blk T (dsv A))) h1 = up (blk T (dsv A)) := by
  have h := p33 A T; unfold k0_pay33 at h; rw [p32] at h; exact h
theorem uU : (fun (t : Fin 4096) (c : Fin 2048) => gel (pre A t (lo c))) = U A := rfl
theorem uV : (fun (t : Fin 4096) (c : Fin 2048) => gel (pre A t (hi c))) = Spec.V A := rfl

/-! ### Reading a list of stores that agree with one array -/

section Pieces

variable {s : Shape} {e : EltTy}

theorem canon_of (G : s.Idx → Elt Ideal e) (L : List (View.Piece (Elt Ideal) s e)) (g : Fin s.rank → ℕ) (hc : View.Piece.tiledBy L g = true)
    (hp : View.PiecesOf G L) : View.canon L = G :=
  funext fun y => View.canon_apply_of_pieces G L hp.mem y (View.cover_of_tiledBy L g hc y)
theorem readCov_of {sig' : RefSig} {κ : Kind} {sp : Space} (v : View sig' κ sp s e) (G : s.Idx → Elt Ideal e) (L : List (View.Piece (Elt Ideal) s e))
    (B : LoadRect s) (g : Fin s.rank → ℕ) (hc : View.Piece.tiledBy L g = true) (hp : View.PiecesOf G L) : v.readCov L B = fun j => G (B.idx j) := by
  rw [View.readCov_eq_canon', canon_of G L g hc hp]
end Pieces

/-- A stored chunk and group of the first half agrees with the block of the whole. -/
theorem at_s (ch : Fin 2) (g : Fin 8) (a b : ℕ) (ha : a = 128 * ch.val) (hb : b = 256 * g.val) (inb)
    (x : (Rect.unit (s := S256x4096) ![a, b] ![128, 256] inb).shape.Idx) :
    up (sub (nc T ch) g (dpu A)) x = up (blk T (dpre A)) ((Rect.unit (s := S256x4096) ![a, b] ![128, 256] inb).emb x) := by
  subst ha hb
  have h0 : (x 0).val < 128 := (x 0).isLt
  have h1 : (x 1).val < 256 := (x 1).isLt
  show ((dpu A _ _ : ℝ) : EReal) = ((dpre A _ _ : ℝ) : EReal)
  unfold dpre
  rw [dif_pos (by simp; omega)]
  exact congrArg Real.toEReal (at_congr _ (by simp [tok, tk, nc]; omega) (by simp [chan]))
/-- The stored second half agrees with the block of the whole. -/
theorem at_v (inb) (x : (Rect.unit (s := S256x4096) ![0, 2048] ![256, 2048] inb).shape.Idx) :
    up (blk T (dpv A)) x = up (blk T (dpre A)) ((Rect.unit (s := S256x4096) ![0, 2048] ![256, 2048] inb).emb x) := by
  show ((dpv A _ _ : ℝ) : EReal) = ((dpre A _ _ : ℝ) : EReal)
  unfold dpre
  rw [dif_neg (by simp)]
  exact congrArg Real.toEReal (at_congr _ (by simp [tk]) (by simp))
/-- A stored chunk and group of the layer-normalized half's gradient agrees with the block of the whole. -/
theorem at_d (ch : Fin 2) (g : Fin 8) (a b : ℕ) (ha : a = 128 * ch.val) (hb : b = 256 * g.val) (inb)
    (x : (Rect.unit (s := S256x2048) ![a, b] ![128, 256] inb).shape.Idx) :
    up (sub (nc T ch) g (dvn A)) x = up (blk T (dvn A)) ((Rect.unit (s := S256x2048) ![a, b] ![128, 256] inb).emb x) := by
  subst ha hb
  show ((dvn A _ _ : ℝ) : EReal) = ((dvn A _ _ : ℝ) : EReal)
  exact congrArg Real.toEReal (at_congr _ (by simp [tok, tk, nc]; omega) (by simp [chan]))

/-- The stores of the layer-normalized half's gradient, chunk by chunk and group by group, agree with its block. -/
theorem dvn_pieces : View.PiecesOf (e := .f32) (s := S256x2048) (Val := Elt Ideal) (up (blk T (dvn A))) [
    ⟨Rect.unit (s := S256x2048) ![128, 1792] ![128, 256] (by decide), k0_pay96 (F := Ideal) (up (blk T (dsv A))) (up (mat1 fun a s => wm A 7 s a))⟩,
    ⟨Rect.unit (s := S256x2048) ![128, 1536] ![128, 256] (by decide), k0_pay93 (F := Ideal) (up (blk T (dsv A))) (up (mat1 fun a s => wm A 6 s a))⟩,
    ⟨Rect.unit (s := S256x2048) ![128, 1280] ![128, 256] (by decide), k0_pay88 (F := Ideal) (up (blk T (dsv A))) (up (mat1 fun a s => wm A 5 s a))⟩,
    ⟨Rect.unit (s := S256x2048) ![128, 1024] ![128, 256] (by decide), k0_pay84 (F := Ideal) (up (blk T (dsv A))) (up (mat1 fun a s => wm A 4 s a))⟩,
    ⟨Rect.unit (s := S256x2048) ![128, 768] ![128, 256] (by decide), k0_pay81 (F := Ideal) (up (blk T (dsv A))) (up (mat1 fun a s => wm A 3 s a))⟩,
    ⟨Rect.unit (s := S256x2048) ![128, 512] ![128, 256] (by decide), k0_pay77 (F := Ideal) (up (blk T (dsv A))) (up (mat1 fun a s => wm A 2 s a))⟩,
    ⟨Rect.unit (s := S256x2048) ![128, 256] ![128, 256] (by decide), k0_pay72 (F := Ideal) (up (blk T (dsv A))) (up (mat1 fun a s => wm A 1 s a))⟩,
    ⟨Rect.unit (s := S256x2048) ![128, 0] ![128, 256] (by decide), k0_pay69 (F := Ideal) (up (blk T (dsv A))) (up (mat1 fun a s => wm A 0 s a))⟩,
    ⟨Rect.unit (s := S256x2048) ![0, 1792] ![128, 256] (by decide), k0_pay62 (F := Ideal) (up (blk T (dsv A))) (up (mat1 fun a s => wm A 7 s a))⟩,
    ⟨Rect.unit (s := S256x2048) ![0, 1536] ![128, 256] (by decide), k0_pay59 (F := Ideal) (up (blk T (dsv A))) (up (mat1 fun a s => wm A 6 s a))⟩,
    ⟨Rect.unit (s := S256x2048) ![0, 1280] ![128, 256] (by decide), k0_pay56 (F := Ideal) (k0_pay55 (F := Ideal) (up (blk T (dsv A))) (up (mat1 fun a s => wm A 5 s a)))⟩,
    ⟨Rect.unit (s := S256x2048) ![0, 1024] ![128, 256] (by decide), k0_pay52 (F := Ideal) (up (blk T (dsv A))) (up (mat1 fun a s => wm A 4 s a))⟩,
    ⟨Rect.unit (s := S256x2048) ![0, 768] ![128, 256] (by decide), k0_pay49 (F := Ideal) (up (blk T (dsv A))) (up (mat1 fun a s => wm A 3 s a))⟩,
    ⟨Rect.unit (s := S256x2048) ![0, 512] ![128, 256] (by decide), k0_pay46 (F := Ideal) (up (blk T (dsv A))) (up (mat1 fun a s => wm A 2 s a))⟩,
    ⟨Rect.unit (s := S256x2048) ![0, 256] ![128, 256] (by decide), k0_pay41 (F := Ideal) (up (blk T (dsv A))) (up (mat1 fun a s => wm A 1 s a))⟩,
    ⟨Rect.unit (s := S256x2048) ![0, 0] ![128, 256] (by decide), k0_pay37 (F := Ideal) (up (blk T (dsv A))) (up (mat1 fun a s => wm A 0 s a))⟩] :=
  ⟨fun x => (congrFun (d1_7 A T) x).trans (at_d 1 7 _ _ (by decide) (by decide) (by decide) x),
    fun x => (congrFun (d1_6 A T) x).trans (at_d 1 6 _ _ (by decide) (by decide) (by decide) x),
    fun x => (congrFun (d1_5 A T) x).trans (at_d 1 5 _ _ (by decide) (by decide) (by decide) x),
    fun x => (congrFun (d1_4 A T) x).trans (at_d 1 4 _ _ (by decide) (by decide) (by decide) x),
    fun x => (congrFun (d1_3 A T) x).trans (at_d 1 3 _ _ (by decide) (by decide) (by decide) x),
    fun x => (congrFun (d1_2 A T) x).trans (at_d 1 2 _ _ (by decide) (by decide) (by decide) x),
    fun x => (congrFun (d1_1 A T) x).trans (at_d 1 1 _ _ (by decide) (by decide) (by decide) x),
    fun x => (congrFun (d1_0 A T) x).trans (at_d 1 0 _ _ (by decide) (by decide) (by decide) x),
    fun x => (congrFun (d0_7 A T) x).trans (at_d 0 7 _ _ (by decide) (by decide) (by decide) x),
    fun x => (congrFun (d0_6 A T) x).trans (at_d 0 6 _ _ (by decide) (by decide) (by decide) x),
    fun x => (congrFun (d0_5 A T) x).trans (at_d 0 5 _ _ (by decide) (by decide) (by decide) x),
    fun x => (congrFun (d0_4 A T) x).trans (at_d 0 4 _ _ (by decide) (by decide) (by decide) x),
    fun x => (congrFun (d0_3 A T) x).trans (at_d 0 3 _ _ (by decide) (by decide) (by decide) x),
    fun x => (congrFun (d0_2 A T) x).trans (at_d 0 2 _ _ (by decide) (by decide) (by decide) x),
    fun x => (congrFun (d0_1 A T) x).trans (at_d 0 1 _ _ (by decide) (by decide) (by decide) x),
    fun x => (congrFun (d0_0 A T) x).trans (at_d 0 0 _ _ (by decide) (by decide) (by decide) x), trivial⟩
/-- The stores of the projection's gradient, its second half last, agree with its block. -/
theorem dpre_pieces : View.PiecesOf (e := .bf16) (s := S256x4096) (Val := Elt Ideal) (up (blk T (dpre A))) [
    ⟨Rect.unit (s := S256x4096) ![0, 2048] ![256, 2048] (by decide), k0_pay100 (F := Ideal) (up (blk T fun t c => gelD (pre A t (hi c))))
      (up (col T fun t => rs (Spec.V A t))) (up (blk T fun t => vh (Spec.V A t))) (up (row A.lg)) (up (blk T (dvn A)))⟩,
    ⟨Rect.unit (s := S256x4096) ![128, 1792] ![128, 256] (by decide), k0_pay95 (F := Ideal) (up (blk T (dy A))) (up (blk T fun t c => gelD (pre A t (lo c)))) (up (blk T (vn A))) (up (mat1 (wm A 7))) (up (mat (M := 128) (N := 256) fun a e => A.bs 7 a))⟩,
    ⟨Rect.unit (s := S256x4096) ![128, 1536] ![128, 256] (by decide), k0_pay92 (F := Ideal) (k0_pay90 (F := Ideal) (up (blk T (dy A))) (up (blk T (vn A))) (up (mat1 (wm A 6))) (up (mat (M := 128) (N := 256) fun a e => A.bs 6 a))) (k0_pay91 (F := Ideal) (up (blk T fun t c => gelD (pre A t (lo c)))))⟩,
    ⟨Rect.unit (s := S256x4096) ![128, 1280] ![128, 256] (by decide), k0_pay87 (F := Ideal) (up (blk T (dy A))) (up (blk T fun t c => gelD (pre A t (lo c)))) (k0_pay86 (F := Ideal) (up (blk T (vn A))) (up (mat1 (wm A 5)))) (up (mat (M := 128) (N := 256) fun a e => A.bs 5 a))⟩,
    ⟨Rect.unit (s := S256x4096) ![128, 1024] ![128, 256] (by decide), k0_pay83 (F := Ideal) (up (blk T (dy A))) (up (blk T fun t c => gelD (pre A t (lo c)))) (up (blk T (vn A))) (up (mat1 (wm A 4))) (up (mat (M := 128) (N := 256) fun a e => A.bs 4 a))⟩,
    ⟨Rect.unit (s := S256x4096) ![128, 768] ![128, 256] (by decide), k0_pay80 (F := Ideal) (up (blk T (dy A))) (up (blk T fun t c => gelD (pre A t (lo c)))) (up (blk T (vn A))) (up (mat1 (wm A 3))) (up (mat (M := 128) (N := 256) fun a e => A.bs 3 a))⟩,
    ⟨Rect.unit (s := S256x4096) ![128, 512] ![128, 256] (by decide), k0_pay76 (F := Ideal) (up (blk T (dy A))) (up (blk T fun t c => gelD (pre A t (lo c)))) (up (blk T (vn A))) (up (mat1 (wm A 2))) (up (mat (M := 128) (N := 256) fun a e => A.bs 2 a))⟩,
    ⟨Rect.unit (s := S256x4096) ![128, 256] ![128, 256] (by decide), k0_pay71 (F := Ideal) (up (blk T (dy A))) (up (blk T fun t c => gelD (pre A t (lo c)))) (up (blk T (vn A))) (up (mat1 (wm A 1))) (up (mat (M := 128) (N := 256) fun a e => A.bs 1 a))⟩,
    ⟨Rect.unit (s := S256x4096) ![128, 0] ![128, 256] (by decide), k0_pay68 (F := Ideal) (up (blk T (dy A))) (up (blk T fun t c => gelD (pre A t (lo c)))) (up (blk T (vn A))) (up (mat1 (wm A 0))) (up (mat (M := 128) (N := 256) fun a e => A.bs 0 a))⟩,
    ⟨Rect.unit (s := S256x4096) ![0, 1792] ![128, 256] (by decide), k0_pay61 (F := Ideal) (up (blk T (dy A))) (up (blk T fun t c => gelD (pre A t (lo c)))) (up (blk T (vn A))) (up (mat1 (wm A 7))) (up (mat (M := 128) (N := 256) fun a e => A.bs 7 a))⟩,
    ⟨Rect.unit (s := S256x4096) ![0, 1536] ![128, 256] (by decide), k0_pay58 (F := Ideal) (up (blk T (dy A))) (up (blk T fun t c => gelD (pre A t (lo c)))) (up (blk T (vn A))) (up (mat1 (wm A 6))) (up (mat (M := 128) (N := 256) fun a e => A.bs 6 a))⟩,
    ⟨Rect.unit (s := S256x4096) ![0, 1280] ![128, 256] (by decide), k0_pay54 (F := Ideal) (up (blk T (dy A))) (up (blk T fun t c => gelD (pre A t (lo c)))) (up (blk T (vn A))) (up (mat1 (wm A 5))) (up (mat (M := 128) (N := 256) fun a e => A.bs 5 a))⟩,
    ⟨Rect.unit (s := S256x4096) ![0, 1024] ![128, 256] (by decide), k0_pay51 (F := Ideal) (up (blk T (dy A))) (up (blk T fun t c => gelD (pre A t (lo c)))) (up (blk T (vn A))) (up (mat1 (wm A 4))) (up (mat (M := 128) (N := 256) fun a e => A.bs 4 a))⟩,
    ⟨Rect.unit (s := S256x4096) ![0, 768] ![128, 256] (by decide), k0_pay48 (F := Ideal) (up (blk T (dy A))) (up (blk T fun t c => gelD (pre A t (lo c)))) (up (blk T (vn A))) (up (mat1 (wm A 3))) (up (mat (M := 128) (N := 256) fun a e => A.bs 3 a))⟩,
    ⟨Rect.unit (s := S256x4096) ![0, 512] ![128, 256] (by decide), k0_pay45 (F := Ideal) (up (blk T fun t c => gelD (pre A t (lo c)))) (k0_pay43 (F := Ideal) (up (blk T (vn A))) (up (mat1 (wm A 2))) (up (mat (M := 128) (N := 256) fun a e => A.bs 2 a))) (k0_pay44 (F := Ideal) (up (blk T (dy A))))⟩,
    ⟨Rect.unit (s := S256x4096) ![0, 256] ![128, 256] (by decide), k0_pay40 (F := Ideal) (up (blk T (dy A))) (up (blk T fun t c => gelD (pre A t (lo c)))) (k0_pay39 (F := Ideal) (up (blk T (vn A))) (up (mat1 (wm A 1)))) (up (mat (M := 128) (N := 256) fun a e => A.bs 1 a))⟩,
    ⟨Rect.unit (s := S256x4096) ![0, 0] ![128, 256] (by decide), k0_pay36 (F := Ideal) (up (blk T (dy A))) (up (blk T fun t c => gelD (pre A t (lo c)))) (up (blk T (vn A))) (up (mat1 (wm A 0))) (up (mat (M := 128) (N := 256) fun a e => A.bs 0 a))⟩] :=
  ⟨fun x => (congrFun (p100 A T) x).trans (at_v (by decide) x), fun x => (congrFun (s1_7 A T) x).trans (at_s 1 7 _ _ (by decide) (by decide) (by decide) x),
    fun x => (congrFun (s1_6 A T) x).trans (at_s 1 6 _ _ (by decide) (by decide) (by decide) x),
    fun x => (congrFun (s1_5 A T) x).trans (at_s 1 5 _ _ (by decide) (by decide) (by decide) x),
    fun x => (congrFun (s1_4 A T) x).trans (at_s 1 4 _ _ (by decide) (by decide) (by decide) x),
    fun x => (congrFun (s1_3 A T) x).trans (at_s 1 3 _ _ (by decide) (by decide) (by decide) x),
    fun x => (congrFun (s1_2 A T) x).trans (at_s 1 2 _ _ (by decide) (by decide) (by decide) x),
    fun x => (congrFun (s1_1 A T) x).trans (at_s 1 1 _ _ (by decide) (by decide) (by decide) x),
    fun x => (congrFun (s1_0 A T) x).trans (at_s 1 0 _ _ (by decide) (by decide) (by decide) x),
    fun x => (congrFun (s0_7 A T) x).trans (at_s 0 7 _ _ (by decide) (by decide) (by decide) x),
    fun x => (congrFun (s0_6 A T) x).trans (at_s 0 6 _ _ (by decide) (by decide) (by decide) x),
    fun x => (congrFun (s0_5 A T) x).trans (at_s 0 5 _ _ (by decide) (by decide) (by decide) x),
    fun x => (congrFun (s0_4 A T) x).trans (at_s 0 4 _ _ (by decide) (by decide) (by decide) x),
    fun x => (congrFun (s0_3 A T) x).trans (at_s 0 3 _ _ (by decide) (by decide) (by decide) x),
    fun x => (congrFun (s0_2 A T) x).trans (at_s 0 2 _ _ (by decide) (by decide) (by decide) x),
    fun x => (congrFun (s0_1 A T) x).trans (at_s 0 1 _ _ (by decide) (by decide) (by decide) x),
    fun x => (congrFun (s0_0 A T) x).trans (at_s 0 0 _ _ (by decide) (by decide) (by decide) x), trivial⟩
/-- A load of the whole scratch after those stores is the block. -/
theorem ld_dvn {sig' : RefSig} {κ : Kind} {sp : Space} (v : View sig' κ sp S256x2048 .f32) (A : Args) (T : Fin 16) (L : List (View.Piece (Elt Ideal) S256x2048 .f32))
    (inb) (hp : View.PiecesOf (up (blk T (dvn A))) L) (hc : View.Piece.tiledBy L ![128, 256] = true) :
    v.readCov L (Rect.unit (s := S256x2048) ![0, 0] ![256, 2048] inb).toLoadRect = up (blk T (dvn A)) := by
  rw [readCov_of v _ L _ _ hc hp]
  funext x
  exact congrArg Real.toEReal (congrArg₂ (fun a b => dvn A (tk T a) b) (Fin.ext (by simp)) (Fin.ext (by simp)))
/-- A load of 1024 columns of the projection's gradient after those stores. -/
theorem ld_dp {sig' : RefSig} {κ : Kind} {sp : Space} (v : View sig' κ sp S256x4096 .bf16) (A : Args) (T : Fin 16) (q : Fin 4) (G : ℕ) (hG : G = 1024 * q.val)
    (L : List (View.Piece (Elt Ideal) S256x4096 .bf16))
    (inb) (hp : View.PiecesOf (up (blk T (dpre A))) L) (hc : View.Piece.tiledBy L ![128, 256] = true) :
    v.readCov L (Rect.unit (s := S256x4096) ![0, G] ![256, 1024] inb).toLoadRect = up (dpB A T q) := by
  subst hG
  rw [readCov_of v _ L _ _ hc hp]
  funext x
  exact congrArg Real.toEReal (congrArg₂ (fun a b => dpre A (tk T a) b) (Fin.ext (by simp)) (Fin.ext (by simp)))

/-- The spatial weights' gradient with a block's two chunks added. -/
def addw (A : Args) (T : Fin 16) (P : S8x128x128.Idx → EReal) : S8x128x128.Idx → EReal :=
  fun i => P i + ((dwc A (nc T 0) (i 0) (i 1) (i 2) : ℝ) : EReal) + ((dwc A (nc T 1) (i 0) (i 1) (i 2) : ℝ) : EReal)
/-- One group's store of the spatial weights' gradient agrees with the whole. -/
theorem at_w (A : Args) (T : Fin 16) (P : S8x128x128.Idx → EReal) (g : Fin 8) (G : ℕ) (hG : G = g.val) (inb) (f X Y : S1x128x128.Idx → EReal)
    (hf : ∀ q a b, f (ix3 q a b) = X (ix3 q a b) + ((dwc A (nc T 1) g a b : ℝ) : EReal))
    (hx : ∀ q a b, X (ix3 q a b) = Y (ix3 q a b) + ((dwc A (nc T 0) g a b : ℝ) : EReal))
    (hY : Y = fun j => P ((Rect.unit (s := S8x128x128) ![G, 0, 0] ![1, 128, 128] inb).idx j))
    (x : (Rect.unit (s := S8x128x128) ![G, 0, 0] ![1, 128, 128] inb).shape.Idx) :
    f x = addw A T P ((Rect.unit (s := S8x128x128) ![G, 0, 0] ![1, 128, 128] inb).emb x) := by
  subst hG
  have hi : x = ix3 (n0 := 1) (n1 := 128) (n2 := 128) (x 0) (x 1) (x 2) := by funext k; fin_cases k <;> rfl
  have h0 : (x 0).val < 1 := (x 0).isLt
  have e : f x = _ := (congrArg f hi).trans ((hf _ _ _).trans (congrArg (fun y => y + _) ((hx _ _ _).trans (congrArg (fun y => y + _) (congrArg Y hi.symm)))))
  rw [e, hY]
  have h : ∀ n, dwc A n g (x 1) (x 2) = dwc A n ((Rect.unit (s := S8x128x128) ![g.val, 0, 0] ![1, 128, 128] inb).emb x 0)
      ((Rect.unit (s := S8x128x128) ![g.val, 0, 0] ![1, 128, 128] inb).emb x 1) ((Rect.unit (s := S8x128x128) ![g.val, 0, 0] ![1, 128, 128] inb).emb x 2) := fun n => by
    refine congr (congr (congrArg (dwc A n) (Fin.ext ?_)) (Fin.ext ?_)) (Fin.ext ?_) <;> simp <;> omega
  exact congrArg₂ (fun y z : ℝ => P ((Rect.unit (s := S8x128x128) ![g.val, 0, 0] ![1, 128, 128] inb).idx x) + (y : EReal) + (z : EReal)) (h _) (h _)
/-- The stores of the spatial weights' gradient, over any earlier ones. -/
theorem dws_val (A : Args) (T : Fin 16) (P : S8x128x128.Idx → EReal) (L' : List (View.Piece (Elt Ideal) S8x128x128 .f32)) :
    View.canon (Val := Elt Ideal) (s := S8x128x128) (e := .f32) ([
    ⟨Rect.unit (s := S8x128x128) ![7, 0, 0] ![1, 128, 128] (by decide), k0_pay97 (F := Ideal) (up (blk T (vn A))) (up (blk T (dsv A))) (up (mat trl)) (k0_pay66 (F := Ideal) (up (mat trl)) (k0_pay63 (F := Ideal) (View.ld (Val := Elt Ideal) (S := S8x128x128) (e' := .f32) P (Rect.unit (s := S8x128x128) ![7, 0, 0] ![1, 128, 128] (by decide)))) (k0_pay64 (F := Ideal) (up (blk T (dsv A)))) (k0_pay65 (F := Ideal) (up (blk T (vn A)))) (constant (F := Ideal) S128x128 .f32 0x00000000#32))⟩,
    ⟨Rect.unit (s := S8x128x128) ![6, 0, 0] ![1, 128, 128] (by decide), k0_pay94 (F := Ideal) (up (blk T (vn A))) (up (blk T (dsv A))) (up (mat trl)) (k0_pay60 (F := Ideal) (up (blk T (vn A))) (up (blk T (dsv A))) (up (mat trl)) (View.ld (Val := Elt Ideal) (S := S8x128x128) (e' := .f32) P (Rect.unit (s := S8x128x128) ![6, 0, 0] ![1, 128, 128] (by decide))))⟩,
    ⟨Rect.unit (s := S8x128x128) ![5, 0, 0] ![1, 128, 128] (by decide), k0_pay89 (F := Ideal) (up (blk T (vn A))) (up (blk T (dsv A))) (up (mat trl)) (k0_pay57 (F := Ideal) (up (blk T (vn A))) (up (blk T (dsv A))) (up (mat trl)) (View.ld (Val := Elt Ideal) (S := S8x128x128) (e' := .f32) P (Rect.unit (s := S8x128x128) ![5, 0, 0] ![1, 128, 128] (by decide))))⟩,
    ⟨Rect.unit (s := S8x128x128) ![4, 0, 0] ![1, 128, 128] (by decide), k0_pay85 (F := Ideal) (up (blk T (vn A))) (up (blk T (dsv A))) (up (mat trl)) (k0_pay53 (F := Ideal) (up (blk T (vn A))) (up (blk T (dsv A))) (up (mat trl)) (View.ld (Val := Elt Ideal) (S := S8x128x128) (e' := .f32) P (Rect.unit (s := S8x128x128) ![4, 0, 0] ![1, 128, 128] (by decide))))⟩,
    ⟨Rect.unit (s := S8x128x128) ![3, 0, 0] ![1, 128, 128] (by decide), k0_pay82 (F := Ideal) (up (blk T (vn A))) (up (blk T (dsv A))) (up (mat trl)) (k0_pay50 (F := Ideal) (up (blk T (vn A))) (up (blk T (dsv A))) (up (mat trl)) (View.ld (Val := Elt Ideal) (S := S8x128x128) (e' := .f32) P (Rect.unit (s := S8x128x128) ![3, 0, 0] ![1, 128, 128] (by decide))))⟩,
    ⟨Rect.unit (s := S8x128x128) ![2, 0, 0] ![1, 128, 128] (by decide), k0_pay79 (F := Ideal) (k0_pay78 (F := Ideal) (up (blk T (vn A))) (up (blk T (dsv A))) (up (mat trl)) (k0_pay47 (F := Ideal) (up (blk T (vn A))) (up (blk T (dsv A))) (up (mat trl)) (View.ld (Val := Elt Ideal) (S := S8x128x128) (e' := .f32) P (Rect.unit (s := S8x128x128) ![2, 0, 0] ![1, 128, 128] (by decide)))))⟩,
    ⟨Rect.unit (s := S8x128x128) ![1, 0, 0] ![1, 128, 128] (by decide), k0_pay75 (F := Ideal) (k0_pay73 (F := Ideal) (k0_pay42 (F := Ideal) (up (blk T (vn A))) (up (blk T (dsv A))) (up (mat trl)) (View.ld (Val := Elt Ideal) (S := S8x128x128) (e' := .f32) P (Rect.unit (s := S8x128x128) ![1, 0, 0] ![1, 128, 128] (by decide))))) (k0_pay74 (F := Ideal) (up (blk T (vn A))) (up (blk T (dsv A))) (up (mat trl)))⟩,
    ⟨Rect.unit (s := S8x128x128) ![0, 0, 0] ![1, 128, 128] (by decide), k0_pay70 (F := Ideal) (up (blk T (vn A))) (up (blk T (dsv A))) (up (mat trl)) (k0_pay38 (F := Ideal) (up (blk T (vn A))) (up (blk T (dsv A))) (up (mat trl)) (View.ld (Val := Elt Ideal) (S := S8x128x128) (e' := .f32) P (Rect.unit (s := S8x128x128) ![0, 0, 0] ![1, 128, 128] (by decide))))⟩] ++ L') = addw A T P := by
  funext y
  refine View.canon_append_of_piecesOf _ _ _ ?_ y (View.cover_of_tiledBy _ ![1, 128, 128] (by sl_kernel_rfl) y)
  exact ⟨fun x => at_w A T P 7 7 rfl (by decide) _ _ _ (w1_7 A T _) (w0_7 A T _) rfl x,
    fun x => at_w A T P 6 6 rfl (by decide) _ _ _ (w1_6 A T _) (w0_6 A T _) rfl x,
    fun x => at_w A T P 5 5 rfl (by decide) _ _ _ (w1_5 A T _) (w0_5 A T _) rfl x,
    fun x => at_w A T P 4 4 rfl (by decide) _ _ _ (w1_4 A T _) (w0_4 A T _) rfl x,
    fun x => at_w A T P 3 3 rfl (by decide) _ _ _ (w1_3 A T _) (w0_3 A T _) rfl x,
    fun x => at_w A T P 2 2 rfl (by decide) _ _ _ (w1_2 A T _) (w0_2 A T _) rfl x,
    fun x => at_w A T P 1 1 rfl (by decide) _ _ _ (w1_1 A T _) (w0_1 A T _) rfl x,
    fun x => at_w A T P 0 0 rfl (by decide) _ _ _ (w1_0 A T _) (w0_0 A T _) rfl x, trivial⟩

/-- The stored block of the normalized stream. -/
theorem e14 (H : In m c t A T) : (outsAt0 m c t.val t.isLt).2.1 = up (blk T (hn A)) := by
  by_cases h0 : t.val % 16 = 0 <;> [rw [outsAt0_A m c t h0]; rw [outsAt0_B m c t h0]] <;> frame_out
  all_goals rw [H.b4, H.b2]
  all_goals exact p10 A T
/-- The layer norm's scale gradient after a point: the previous one, or zero at the first, with the block's sum added. -/
theorem e18 (H : In m c t A T) (P : S8x2048.Idx → EReal) (hA : t.val % 16 = 0 → P = k0_pay4 (F := Ideal)) (hB : ¬t.val % 16 = 0 → P = (outsAt0 m c (t.val - 1) (Nat.lt_of_le_of_lt (Nat.sub_le _ _) t.isLt)).2.2.2.2.2.1) (a : Fin 8) (n : Fin 2048) :
    (outsAt0 m c t.val t.isLt).2.2.2.2.2.1 (ix2 a n) = P (ix2 a n) + ((∑ r, dvn A (tk T r) n * vh (Spec.V A (tk T r)) n : ℝ) : EReal) := by
  by_cases h0 : t.val % 16 = 0 <;> [rw [outsAt0_A m c t h0]; rw [outsAt0_B m c t h0]] <;> frame_out
  all_goals simp only [f26, f27, f28, f29, f31]
  all_goals simp only [ld_lo H, ld_hi H, H.b1, H.b11, H.b6, H.b7, p11, p12, p13, p15, p18, p23, p27, p28, p29, uV, uU, p31, r32, r33, ld_wt H 0 0 rfl, ld_wt H 1 1 rfl, ld_wt H 2 2 rfl, ld_wt H 3 3 rfl, ld_wt H 4 4 rfl, ld_wt H 5 5 rfl, ld_wt H 6 6 rfl, ld_wt H 7 7 rfl]
  all_goals (rw [ld_dvn _ A T _ _ ?_ (by sl_kernel_rfl)]; on_goal 2 => exact dvn_pieces)
  · obtain rfl := hA h0
    exact p98 T _ _ _ a n
  · obtain rfl := hB h0
    exact p98 T _ _ _ a n

theorem e17 (H : In m c t A T) (P : S128x2048.Idx → EReal) (hA : t.val % 16 = 0 → P = k0_pay3 (F := Ideal)) (hB : ¬t.val % 16 = 0 → P = (outsAt0 m c (t.val - 1) (Nat.lt_of_le_of_lt (Nat.sub_le _ _) t.isLt)).2.2.2.2.1) (a : Fin 128) (n : Fin 2048) :
    (outsAt0 m c t.val t.isLt).2.2.2.2.1 (ix2 a n) = P (ix2 a n) + (dsv A (tok (nc T 0) a) n : EReal) + (dsv A (tok (nc T 1) a) n : EReal) := by
  by_cases h0 : t.val % 16 = 0 <;> [rw [outsAt0_A m c t h0]; rw [outsAt0_B m c t h0]] <;> frame_out
  all_goals simp only [ld_lo H, ld_hi H, H.b1, H.b11, H.b6, H.b7, p11, p12, p13, p15, p18, p23, p27, p28, p29, uV, uU, p31, r32, r33]
  · obtain rfl := hA h0
    exact (b1 A T _ a n).trans (congrArg (fun x => x + (dsv A (tok (nc T 1) a) n : EReal)) (b0 A T _ a n))
  · obtain rfl := hB h0
    exact (b1 A T _ a n).trans (congrArg (fun x => x + (dsv A (tok (nc T 1) a) n : EReal)) (b0 A T _ a n))

theorem e16 (H : In m c t A T) (P : S8x128x128.Idx → EReal) (hA : t.val % 16 = 0 → P = k0_pay2 (F := Ideal)) (hB : ¬t.val % 16 = 0 → P = (outsAt0 m c (t.val - 1) (Nat.lt_of_le_of_lt (Nat.sub_le _ _) t.isLt)).2.2.2.1) :
    (outsAt0 m c t.val t.isLt).2.2.2.1 = addw A T P := by
  by_cases h0 : t.val % 16 = 0 <;> [rw [outsAt0_A m c t h0]; rw [outsAt0_B m c t h0]] <;> frame_out
  all_goals simp only [f26, f27, f28, f29, f31]
  all_goals simp only [f34]
  all_goals simp only [ld_lo H, ld_hi H, H.b1, H.b11, H.b6, H.b7, p11, p12, p13, p15, p18, p23, p27, p28, p29, uV, uU, p31, r32, r33, H.b12, p34]
  all_goals simp (disch := decide) only [↓View.readCov_skip, View.readCov_cons_toLoadRect, View.readCov_fill]
  · obtain rfl := hA h0
    exact dws_val A T _ _
  · obtain rfl := hB h0
    exact dws_val A T _ _
/-- The layer norm's shift gradient after a point. -/
theorem e19 (H : In m c t A T) (P : S8x2048.Idx → EReal) (hA : t.val % 16 = 0 → P = k0_pay5 (F := Ideal)) (hB : ¬t.val % 16 = 0 → P = (outsAt0 m c (t.val - 1) (Nat.lt_of_le_of_lt (Nat.sub_le _ _) t.isLt)).2.2.2.2.2.2.1) (a : Fin 8) (n : Fin 2048) :
    (outsAt0 m c t.val t.isLt).2.2.2.2.2.2.1 (ix2 a n) = P (ix2 a n) + ((∑ r, dvn A (tk T r) n : ℝ) : EReal) := by
  by_cases h0 : t.val % 16 = 0 <;> [rw [outsAt0_A m c t h0]; rw [outsAt0_B m c t h0]] <;> frame_out
  all_goals simp only [ld_lo H, ld_hi H, H.b1, H.b11, H.b6, H.b7, p11, p12, p13, p15, p18, p23, p27, p28, p29, uV, uU, p31, r32, r33, ld_wt H 0 0 rfl, ld_wt H 1 1 rfl, ld_wt H 2 2 rfl, ld_wt H 3 3 rfl, ld_wt H 4 4 rfl, ld_wt H 5 5 rfl, ld_wt H 6 6 rfl, ld_wt H 7 7 rfl]
  all_goals (rw [ld_dvn _ A T _ _ ?_ (by sl_kernel_rfl)]; on_goal 2 => exact dvn_pieces)
  · obtain rfl := hA h0
    exact p99 T _ _ a n
  · obtain rfl := hB h0
    exact p99 T _ _ a n

/-- The stored block of the projection's gradient. -/
theorem e15 (H : In m c t A T) : (outsAt0 m c t.val t.isLt).2.2.1 = up (blk T (dpre A)) := by
  by_cases h0 : t.val % 16 = 0 <;> [rw [outsAt0_A m c t h0]; rw [outsAt0_B m c t h0]] <;> frame_out
  all_goals simp only [f26, f27, f28, f29, f31]
  all_goals simp only [f30]
  all_goals simp only [ld_lo H, ld_hi H, H.b1, H.b11, H.b6, H.b7, p11, p12, p13, p15, p18, p23, p27, p28, p29, uV, uU, p31, r32, r33, p19, p14, p22, p24, p25, p26, p30, ld_wt H 0 0 rfl, ld_wt H 1 1 rfl, ld_wt H 2 2 rfl, ld_wt H 3 3 rfl, ld_wt H 4 4 rfl, ld_wt H 5 5 rfl, ld_wt H 6 6 rfl, ld_wt H 7 7 rfl, ld_wm H 0 0 rfl, ld_wm H 1 1 rfl, ld_wm H 2 2 rfl, ld_wm H 3 3 rfl, ld_wm H 4 4 rfl, ld_wm H 5 5 rfl, ld_wm H 6 6 rfl, ld_wm H 7 7 rfl, ld_bs H 0 0 rfl, ld_bs H 1 256 rfl, ld_bs H 2 512 rfl, ld_bs H 3 768 rfl, ld_bs H 4 1024 rfl, ld_bs H 5 1280 rfl, ld_bs H 6 1536 rfl, ld_bs H 7 1792 rfl]
  all_goals (rw [ld_dvn _ A T _ _ ?_ (by sl_kernel_rfl)]; on_goal 2 => exact dvn_pieces)
  all_goals exact canon_of _ _ ![128, 256] (by sl_kernel_rfl) dpre_pieces

/-- The stored block of the stream's gradient. -/
theorem e13 (H : In m c t A T) : (outsAt0 m c t.val t.isLt).1 = up (blk T (dh A)) := by
  by_cases h0 : t.val % 16 = 0 <;> [rw [outsAt0_A m c t h0]; rw [outsAt0_B m c t h0]] <;> frame_out
  all_goals simp only [f26, f27, f28, f29, f31]
  all_goals simp only [f30, f7]
  all_goals simp only [ld_lo H, ld_hi H, H.b1, H.b11, H.b6, H.b7, p11, p12, p13, p15, p18, p23, p27, p28, p29, uV, uU, p31, r32, r33, H.b0, H.b2, H.b4, p7, p8, p9, p19, p14, p22, p24, p25, p26, p30, ld_wt H 0 0 rfl, ld_wt H 1 1 rfl, ld_wt H 2 2 rfl, ld_wt H 3 3 rfl, ld_wt H 4 4 rfl, ld_wt H 5 5 rfl, ld_wt H 6 6 rfl, ld_wt H 7 7 rfl, ld_wm H 0 0 rfl, ld_wm H 1 1 rfl, ld_wm H 2 2 rfl, ld_wm H 3 3 rfl, ld_wm H 4 4 rfl, ld_wm H 5 5 rfl, ld_wm H 6 6 rfl, ld_wm H 7 7 rfl, ld_bs H 0 0 rfl, ld_bs H 1 256 rfl, ld_bs H 2 512 rfl, ld_bs H 3 768 rfl, ld_bs H 4 1024 rfl, ld_bs H 5 1280 rfl, ld_bs H 6 1536 rfl, ld_bs H 7 1792 rfl, ld_wi H 0 0 rfl, ld_wi H 1 1 rfl, ld_wi H 2 2 rfl, ld_wi H 3 3 rfl]
  all_goals (rw [ld_dvn _ A T _ _ ?_ (by sl_kernel_rfl)]; on_goal 2 => exact dvn_pieces)
  all_goals (rw [ld_dp _ A T 0 0 rfl _ _ ?_ (by sl_kernel_rfl)]; on_goal 2 => exact dpre_pieces)
  all_goals (rw [ld_dp _ A T 1 1024 rfl _ _ ?_ (by sl_kernel_rfl)]; on_goal 2 => exact dpre_pieces)
  all_goals (rw [ld_dp _ A T 2 2048 rfl _ _ ?_ (by sl_kernel_rfl)]; on_goal 2 => exact dpre_pieces)
  all_goals (rw [ld_dp _ A T 3 3072 rfl _ _ ?_ (by sl_kernel_rfl)]; on_goal 2 => exact dpre_pieces)
  all_goals exact (congrArg₂ (fun x y => k0_pay1 (F := Ideal) (up (col T fun t => rr (A.h t))) (up (blk T fun t => xh (A.h t))) (up (blk T A.ct)) x y)
    (p105 A T) (p106 A T)).trans (p1 A T)

/-- The stream norm's scale gradient after a point. -/
theorem e20 (H : In m c t A T) (P : S8x1024.Idx → EReal) (hA : t.val % 16 = 0 → P = k0_pay6 (F := Ideal)) (hB : ¬t.val % 16 = 0 → P = (outsAt0 m c (t.val - 1) (Nat.lt_of_le_of_lt (Nat.sub_le _ _) t.isLt)).2.2.2.2.2.2.2) (a : Fin 8) (n : Fin 1024) :
    (outsAt0 m c t.val t.isLt).2.2.2.2.2.2.2 (ix2 a n) = P (ix2 a n) + ((∑ r, dhn A (tk T r) n * xh (A.h (tk T r)) n : ℝ) : EReal) := by
  by_cases h0 : t.val % 16 = 0 <;> [rw [outsAt0_A m c t h0]; rw [outsAt0_B m c t h0]] <;> frame_out
  all_goals simp only [f26, f27, f28, f29, f31]
  all_goals simp only [f30]
  all_goals simp only [ld_lo H, ld_hi H, H.b1, H.b11, H.b6, H.b7, p11, p12, p13, p15, p18, p23, p27, p28, p29, uV, uU, p31, r32, r33, H.b2, p9, p19, p14, p22, p24, p25, p26, p30, ld_wt H 0 0 rfl, ld_wt H 1 1 rfl, ld_wt H 2 2 rfl, ld_wt H 3 3 rfl, ld_wt H 4 4 rfl, ld_wt H 5 5 rfl, ld_wt H 6 6 rfl, ld_wt H 7 7 rfl, ld_wm H 0 0 rfl, ld_wm H 1 1 rfl, ld_wm H 2 2 rfl, ld_wm H 3 3 rfl, ld_wm H 4 4 rfl, ld_wm H 5 5 rfl, ld_wm H 6 6 rfl, ld_wm H 7 7 rfl, ld_bs H 0 0 rfl, ld_bs H 1 256 rfl, ld_bs H 2 512 rfl, ld_bs H 3 768 rfl, ld_bs H 4 1024 rfl, ld_bs H 5 1280 rfl, ld_bs H 6 1536 rfl, ld_bs H 7 1792 rfl, ld_wi H 0 0 rfl, ld_wi H 1 1 rfl, ld_wi H 2 2 rfl, ld_wi H 3 3 rfl]
  all_goals (rw [ld_dvn _ A T _ _ ?_ (by sl_kernel_rfl)]; on_goal 2 => exact dvn_pieces)
  all_goals (rw [ld_dp _ A T 0 0 rfl _ _ ?_ (by sl_kernel_rfl)]; on_goal 2 => exact dpre_pieces)
  all_goals (rw [ld_dp _ A T 1 1024 rfl _ _ ?_ (by sl_kernel_rfl)]; on_goal 2 => exact dpre_pieces)
  all_goals (rw [ld_dp _ A T 2 2048 rfl _ _ ?_ (by sl_kernel_rfl)]; on_goal 2 => exact dpre_pieces)
  all_goals (rw [ld_dp _ A T 3 3072 rfl _ _ ?_ (by sl_kernel_rfl)]; on_goal 2 => exact dpre_pieces)
  · obtain rfl := hA h0
    exact p104 A T _ a n
  · obtain rfl := hB h0
    exact p104 A T _ a n

end Cert.KernelIdeal.Body

end
-- ==== Proof.Host.lean ====
/- The kernel's operands on real arguments: what the lines before the call leave in the arrays it reads. -/
module

public import proofs.«01_k».proof.Proof.Body

@[expose] public section

set_option maxRecDepth 16384

noncomputable section

namespace Cert.KernelIdeal.Host

open Idealize.ShloMosaic Idealize.ShloMosaic.TcCoe Idealize.SL.Sem
open Idealize.ShloMosaic.Pipeline (Dat)
open Cert.KernelIdeal Cert.KernelIdeal.Gen Cert.KernelIdeal.Pay Cert.KernelIdeal.Body Cert.Coe Cert.Spec

variable (m : (ℓ : Loc nD τ sig) → Buf (Elt Ideal) ℓ)

/-- A quantity of one index. -/
def vec {N : ℕ} (f : Fin N → ℝ) : (⟨1, ![N]⟩ : Shape).Idx → ℝ := fun i => f (i 0)
theorem vec_ix {N : ℕ} (f : Fin N → ℝ) (i : Fin N) : up (vec f) (ix1 i) = ((f i : ℝ) : EReal) := rfl

/-- The arguments are real arrays. -/
structure Has (c : Dev nD) (A : Args) : Prop where
  a0 : m ((c : Thread nD τ).loc main_arg0) = up (mat A.ct)
  a1 : m ((c : Thread nD τ).loc main_arg1) = up (mat A.h)
  a2 : m ((c : Thread nD τ).loc main_arg2) = up (vec A.g)
  a3 : m ((c : Thread nD τ).loc main_arg3) = up (mat A.wi)
  a4 : m ((c : Thread nD τ).loc main_arg4) = up (vec A.lg)
  a5 : m ((c : Thread nD τ).loc main_arg5) = up (vec A.lb)
  a6 : m ((c : Thread nD τ).loc main_arg6) = up (ten A.ws)
  a7 : m ((c : Thread nD τ).loc main_arg7) = up (mat A.bs)
  a8 : m ((c : Thread nD τ).loc main_arg8) = up (mat A.wo)

variable {m} {c : Dev nD} {A : Args}

theorem v33 (H : Has m c A) : V m c main_v33 = up (mat A.ct) := by
  unfold Gen.V; simp only [hostOps0, hostOps0_1, hostOps0_2, List.flatten_cons, List.flatten_nil, List.cons_append, List.nil_append]; after_results_simp; rw [H.a0]; rfl
theorem v34 (H : Has m c A) : V m c main_v34 = up (row A.g) := by
  unfold Gen.V; simp only [hostOps0, hostOps0_1, hostOps0_2, List.flatten_cons, List.flatten_nil, List.cons_append, List.nil_append]; after_results_simp; rw [H.a2]; funext i; idx_vars i; pointwise; rfl
theorem v35 (H : Has m c A) : V m c main_v35 = up (row A.lg) := by
  unfold Gen.V; simp only [hostOps0, hostOps0_1, hostOps0_2, List.flatten_cons, List.flatten_nil, List.cons_append, List.nil_append]; after_results_simp; rw [H.a4]; funext i; idx_vars i; pointwise; rfl
theorem v36 (H : Has m c A) : V m c main_v36 = up (row A.lb) := by
  unfold Gen.V; simp only [hostOps0, hostOps0_1, hostOps0_2, List.flatten_cons, List.flatten_nil, List.cons_append, List.nil_append]; after_results_simp; rw [H.a5]; funext i; idx_vars i; pointwise; rfl
theorem v32 (H : Has m c A) : V m c main_v32 = up (mat (pre A)) := by
  unfold Gen.V; simp only [hostOps0, hostOps0_1, hostOps0_2, List.flatten_cons, List.flatten_nil, List.cons_append, List.nil_append]; after_results_simp; rw [H.a1, H.a2, H.a3]; funext i; idx_vars i; pointwise
  simp only [mat_ix, vec_ix, mul_up, sum_up, c_1024, c_eps, div_up _ _ (show (1024 : ℝ) ≠ 0 by norm_num), add_up, rsqrt_up _ (ms_pos _)]
  rfl
/-- The mask as the lines before the call make it. -/
def msk : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant (F := Ideal) S_ .f32 0x3F800000#32)) (broadcastInDim S128x128 ![] bcast_S_S128x128 (constant (F := Ideal) S_ .f32 0#32))
theorem msk_ix (a b : Fin 128) : msk (ix2 a b) = ((trl a b : ℝ) : EReal) := by
  pointwise [msk]
  rw [sge_eq a b]
  show _ = ((if b.val ≤ a.val then 1 else 0 : ℝ) : EReal)
  split <;> rfl
theorem v9 : V m c main_v9 = up (mat trl) := by
  unfold Gen.V; simp only [hostOps0, hostOps0_1, hostOps0_2, List.flatten_cons, List.flatten_nil, List.cons_append, List.nil_append]; after_results_simp
  funext i; idx_vars i
  exact msk_ix i0 i1
theorem v13 (H : Has m c A) : V m c main_v13 = up (wmB A) := by
  unfold Gen.V; simp only [hostOps0, hostOps0_1, hostOps0_2, List.flatten_cons, List.flatten_nil, List.cons_append, List.nil_append]; after_results_simp; rw [H.a6]; funext i; idx_vars i; pointwise
  exact (congrArg (fun y => up (ten A.ws) (ix3 i0 i1 i2) * y) (msk_ix i1 i2)).trans (mul_up _ _)
theorem v14 (H : Has m c A) : V m c main_v14 = up (wtB A) := by
  unfold Gen.V; simp only [hostOps0, hostOps0_1, hostOps0_2, List.flatten_cons, List.flatten_nil, List.cons_append, List.nil_append]; after_results_simp; rw [H.a6]; funext i; idx_vars i; pointwise
  exact (congrArg (fun y => up (ten A.ws) (ix3 i0 i2 i1) * y) (msk_ix i2 i1)).trans (mul_up _ _)
theorem v17 (H : Has m c A) : V m c main_v17 = up (bsB A) := by
  unfold Gen.V; simp only [hostOps0, hostOps0_1, hostOps0_2, List.flatten_cons, List.flatten_nil, List.cons_append, List.nil_append]; after_results_simp; rw [H.a7]; funext i; idx_vars i; pointwise; rfl
theorem v7 (H : Has m c A) : V m c main_v7 = concatenate S4x4096x1024 1 [⟨S4x2048x1024, broadcastInDim S4x2048x1024 ![] bcast_S_S4x2048x1024 (constant (F := Ideal) S_ .bf16 0#16)⟩,
    ⟨S4x1024x1024, truncf .bf16 (transpose S4x1024x1024 [1, 0, 2] (shapeCast S1024x4x1024 (up (mat A.wi)) shapeCasts_S1024x4096_S1024x4x1024) transposes_S1024x4x1024_S4x1024x1024_1_0_2) bitsLt_bf16_f32⟩,
    ⟨S4x512x1024, truncf .bf16 (shapeCast S4x512x1024 (up (mat A.wo)) shapeCasts_S2048x1024_S4x512x1024) bitsLt_bf16_f32⟩,
    ⟨S4x512x1024, broadcastInDim S4x512x1024 ![] bcast_S_S4x512x1024 (constant (F := Ideal) S_ .bf16 0#16)⟩] concatenates_S4x2048x1024_S4x1024x1024_S4x512x1024_S4x512x1024_S4x4096x1024_d1 := by
  rw [← H.a3, ← H.a8]
  unfold Gen.V; simp only [hostOps0, hostOps0_1, hostOps0_2, List.flatten_cons, List.flatten_nil, List.cons_append, List.nil_append]; after_results_simp
  rfl
theorem v7_in (H : Has m c A) (q : Fin 4) (j k : Fin 1024) : V m c main_v7 (ix3 q ⟨2048 + j.val, by omega⟩ k) = ((A.wi j ⟨1024 * q.val + k.val, by omega⟩ : ℝ) : EReal) := by
  rw [v7 H]; pointwise
  exact congrArg (fun y => ((A.wi j y : ℝ) : EReal)) (Fin.ext (by simp; omega))
theorem v7_out (H : Has m c A) (q : Fin 4) (j : Fin 512) (k : Fin 1024) : V m c main_v7 (ix3 q ⟨3072 + j.val, by omega⟩ k) = ((A.wo ⟨512 * q.val + j.val, by omega⟩ k : ℝ) : EReal) := by
  rw [v7 H]; pointwise
  rw [dif_neg (by omega), dif_neg (by omega), dif_pos (by omega)]
  exact congrArg (fun y => ((A.wo y k : ℝ) : EReal)) (Fin.ext (by simp; omega))

end Cert.KernelIdeal.Host

end
-- ==== Proof.Final.lean ====
/- The kernel's result arrays on real arguments. -/
module

public import proofs.«01_k».proof.Proof.Host

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Pay Cert.KernelIdeal.Body Cert.KernelIdeal.Host Cert.Coe Cert.Spec

/-- Where each input window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 2, 0] ∧ win0_6.index t = ![0, 0]
    ∧ win0_7.index t = ![0, 0] ∧ win0_8.index t = ![0, 0, 0] ∧ win0_9.index t = ![0, 0, 0] ∧ win0_10.index t = ![0, 0]
    ∧ win0_11.index t = ![0, 6, 0] ∧ win0_12.index t = ![0, 0] :=
  (by decide +kernel : ∀ t : Fin grid0.N, _)

/-- Where each result window's block lies. -/
theorem odx : ∀ t : Fin cfg0.N, win0_13.index t = ![t.val, 0] ∧ win0_14.index t = ![t.val, 0] ∧ win0_15.index t = ![t.val, 0]
    ∧ win0_16.index t = ![0, 0, 0] ∧ win0_17.index t = ![0, 0] ∧ win0_18.index t = ![0, 0]
    ∧ win0_19.index t = ![0, 0] ∧ win0_20.index t = ![0, 0] :=
  (by decide +kernel : ∀ t : Fin grid0.N, _)

variable {m : (ℓ : Loc nD τ sig) → Buf (Elt Ideal) ℓ} {c : Dev nD} {A : Args}

/-- A grid point as one of the 16 blocks of tokens. -/
def pt (t : Fin cfg0.N) : Fin 16 := ⟨t.val, by have h := t.isLt; have := N_0; change t.val < grid0.N at h; omega⟩

theorem at2 {M N : ℕ} (f : Fin M → Fin N → ℝ) {i i' : Fin M} {j j' : Fin N} (hi : i.val = i'.val) (hj : j.val = j'.val) :
    ((f i j : ℝ) : EReal) = ((f i' j' : ℝ) : EReal) := by rw [Fin.ext hi, Fin.ext hj]

theorem mat_at {M N : ℕ} (f : Fin M → Fin N → ℝ) (i : (⟨2, ![M, N]⟩ : Shape).Idx) (a : Fin M) (b : Fin N)
    (h0 : (i 0).val = a.val) (h1 : (i 1).val = b.val) : up (mat f) i = ((f a b : ℝ) : EReal) := at2 f h0 h1
theorem ten_at {L M N : ℕ} {G : (⟨3, ![L, M, N]⟩ : Shape).Idx → EReal} (i : (⟨3, ![L, M, N]⟩ : Shape).Idx) (q : Fin L) (a : Fin M) (b : Fin N)
    (h0 : (i 0).val = q.val) (h1 : (i 1).val = a.val) (h2 : (i 2).val = b.val) : G i = G (ix3 q a b) := by
  obtain rfl : i 0 = q := Fin.ext h0
  obtain rfl : i 1 = a := Fin.ext h1
  obtain rfl : i 2 = b := Fin.ext h2
  rw [← eq_ix3 i]

theorem i0 (H : Has m c A) (t : Fin cfg0.N) : iblk m c 0 t = up (blk (pt t) A.ct) := by
  funext y
  blk_simp [iblk]
  rw [V_main_arg0, H.a0]
  exact mat_at _ _ (tk (pt t) (y 0)) (y 1) (by blk_simp [idx t]; simp [tk, pt]; omega) (by blk_simp [idx t])
theorem i1 (H : Has m c A) (t : Fin cfg0.N) : iblk m c 1 t = up (blk (pt t) A.ct) := by
  funext y
  blk_simp [iblk]
  rw [v33 H]
  exact mat_at _ _ (tk (pt t) (y 0)) (y 1) (by blk_simp [idx t]; simp [tk, pt]; omega) (by blk_simp [idx t])
theorem i2 (H : Has m c A) (t : Fin cfg0.N) : iblk m c 2 t = up (blk (pt t) A.h) := by
  funext y
  blk_simp [iblk]
  rw [V_main_arg1, H.a1]
  exact mat_at _ _ (tk (pt t) (y 0)) (y 1) (by blk_simp [idx t]; simp [tk, pt]; omega) (by blk_simp [idx t])
theorem i3 (H : Has m c A) (t : Fin cfg0.N) : iblk m c 3 t = up (blk (pt t) (pre A)) := by
  funext y
  blk_simp [iblk]
  rw [v32 H]
  exact mat_at _ _ (tk (pt t) (y 0)) (y 1) (by blk_simp [idx t]; simp [tk, pt]; omega) (by blk_simp [idx t])
theorem i4 (H : Has m c A) (t : Fin cfg0.N) : iblk m c 4 t = up (row A.g) := by
  have e : iblk m c 4 t = V m c main_v34 := by blk_ext! [iblk, idx t]
  rw [e, v34 H]
theorem i5 (H : Has m c A) (t : Fin cfg0.N) : iblk m c 5 t = up (wiS A) := by
  funext y
  blk_simp [iblk]
  refine (ten_at _ (y 0) ⟨2048 + (y 1).val, by idx_bounds y; omega⟩ (y 2) (by blk_simp [idx t]) (by blk_simp [idx t]) (by blk_simp [idx t])).trans ?_
  exact v7_in H (y 0) (y 1) (y 2)
theorem i6 (H : Has m c A) (t : Fin cfg0.N) : iblk m c 6 t = up (row A.lg) := by
  have e : iblk m c 6 t = V m c main_v35 := by blk_ext! [iblk, idx t]
  rw [e, v35 H]
theorem i7 (H : Has m c A) (t : Fin cfg0.N) : iblk m c 7 t = up (row A.lb) := by
  have e : iblk m c 7 t = V m c main_v36 := by blk_ext! [iblk, idx t]
  rw [e, v36 H]
theorem i8 (H : Has m c A) (t : Fin cfg0.N) : iblk m c 8 t = up (wmB A) := by
  have e : iblk m c 8 t = V m c main_v13 := by blk_ext! [iblk, idx t]
  rw [e, v13 H]
theorem i9 (H : Has m c A) (t : Fin cfg0.N) : iblk m c 9 t = up (wtB A) := by
  have e : iblk m c 9 t = V m c main_v14 := by blk_ext! [iblk, idx t]
  rw [e, v14 H]
theorem i10 (H : Has m c A) (t : Fin cfg0.N) : iblk m c 10 t = up (bsB A) := by
  have e : iblk m c 10 t = V m c main_v17 := by blk_ext! [iblk, idx t]
  rw [e, v17 H]
theorem i11 (H : Has m c A) (t : Fin cfg0.N) : iblk m c 11 t = up (woB A) := by
  funext y
  blk_simp [iblk]
  refine (ten_at _ (y 0) ⟨3072 + (y 1).val, by idx_bounds y; omega⟩ (y 2) (by blk_simp [idx t]) (by blk_simp [idx t]) (by blk_simp [idx t])).trans ?_
  exact v7_out H (y 0) (y 1) (y 2)
theorem i12 (H : Has m c A) (t : Fin cfg0.N) : iblk m c 12 t = up (mat trl) := by
  have e : iblk m c 12 t = V m c main_v9 := by blk_ext! [iblk, idx t]
  rw [e, v9]

/-- The input blocks of every grid point are blocks of the real arguments. -/
theorem inp (H : Has m c A) (t : Fin cfg0.N) : In m c t A (pt t) :=
  ⟨i0 H t, i1 H t, i2 H t, i3 H t, i4 H t, i5 H t, i6 H t, i7 H t, i8 H t, i9 H t, i10 H t, i11 H t, i12 H t⟩

/-- The first result: the gradient of the layer's input. -/
theorem r13 (H : Has m c A) : (dats m 0 c).arrAt 13 cfg0.N = up (mat (dh A)) := by
  refine (dats m 0 c).arrAt_eq_of_covers 13 _ (by decide +kernel) fun t hf y => ?_
  blk_simp
  rw [after0_13, e13 (inp H t)]
  exact (mat_at _ _ (tk (pt t) (y 0)) (y 1) (by blk_simp [odx t]; simp [tk, pt]; omega) (by blk_simp [odx t])).symm
theorem r14 (H : Has m c A) : (dats m 0 c).arrAt 14 cfg0.N = up (mat (hn A)) := by
  refine (dats m 0 c).arrAt_eq_of_covers 14 _ (by decide +kernel) fun t hf y => ?_
  blk_simp
  rw [after0_14, e14 (inp H t)]
  exact (mat_at _ _ (tk (pt t) (y 0)) (y 1) (by blk_simp [odx t]; simp [tk, pt]; omega) (by blk_simp [odx t])).symm
theorem r15 (H : Has m c A) : (dats m 0 c).arrAt 15 cfg0.N = up (mat (dpre A)) := by
  refine (dats m 0 c).arrAt_eq_of_covers 15 _ (by decide +kernel) fun t hf y => ?_
  blk_simp
  rw [after0_15, e15 (inp H t)]
  exact (mat_at _ _ (tk (pt t) (y 0)) (y 1) (by blk_simp [odx t]; simp [tk, pt]; omega) (by blk_simp [odx t])).symm

/-- A result added to at every grid point and zeroed at the first one is the sum of what the points add. -/
theorem acc {S : Shape} (f : (n : ℕ) → n < cfg0.N → S.Idx → EReal) (z : S.Idx → EReal) (hz : ∀ i, z i = 0) (X : Fin 16 → S.Idx → ℝ)
    (h : ∀ (t : Fin cfg0.N) (P : S.Idx → EReal), (t.val % 16 = 0 → P = z)
      → (¬t.val % 16 = 0 → P = f (t.val - 1) (Nat.lt_of_le_of_lt (Nat.sub_le _ _) t.isLt))
      → ∀ i, f t.val t.isLt i = P i + ((X (pt t) i : ℝ) : EReal)) (i : S.Idx) :
    f t0_15.val t0_15.isLt i = ((∑ T, X T i : ℝ) : EReal) := by
  rw [Pipeline.eq_sum_fin_of_reset_step_apply_last f 16 (fun _ => 0) (fun t i => ((X (pt t) i : ℝ) : EReal))
    (fun t e i => by rw [h t z (fun _ => rfl) (fun n => absurd e n) i, hz])
    (fun t e i => h t _ (fun n => absurd n e) (fun _ => rfl) i) (le_of_eq N_0) t0_15 rfl i, zero_add, ← sum_up]
  exact Fintype.sum_equiv (finCongr N_0) _ _ fun t => rfl

/-- The 16 blocks of 256 tokens are all the tokens. -/
theorem sum_tk (f : Fin 4096 → ℝ) : ∑ T, ∑ r, f (tk T r) = ∑ t, f t := by
  rw [Fin.sum_univ_tiles 16 256 rfl]
  exact Finset.sum_congr rfl fun T _ => Finset.sum_congr rfl fun r _ => congrArg f (Fin.ext (by simp [tk]; omega))
/-- The 16 pairs of chunks are all the chunks. -/
theorem sum_nc (f : Fin 32 → ℝ) : ∑ T, (f (nc T 0) + f (nc T 1)) = ∑ n, f n := by
  rw [Fin.sum_univ_tiles 16 2 rfl]
  refine Finset.sum_congr rfl fun T _ => ?_
  rw [Fin.sum_univ_two]
  exact congrArg₂ (· + ·) (congrArg f (Fin.ext (by simp [nc]; omega))) (congrArg f (Fin.ext (by simp [nc]; omega)))

theorem sum_dw (A : Args) (g : Fin 8) (a b : Fin 128) : ∑ n, dwc A n g a b = dws A g a b := by
  unfold dwc dws; rw [Finset.sum_mul]

/-- The gradient of the spatial weights. -/
theorem r16 (H : Has m c A) : (dats m 0 c).arrAt 16 cfg0.N = up (ten (dws A)) := by
  refine (dats m 0 c).arrAt_eq_of_after_last 16 t0_15 (by decide +kernel) _ fun j => ?_
  blk_simp
  rw [after0_16, acc (fun n h => (outsAt0 m c n h).2.2.2.1) (k0_pay2 (F := Ideal)) (fun i => ?_)
    (fun T i => dwc A (nc T 0) (i 0) (i 1) (i 2) + dwc A (nc T 1) (i 0) (i 1) (i 2)) (fun t P hA hB i => ?_) j]
  · rw [sum_nc fun n => dwc A n (j 0) (j 1) (j 2)]
    refine Eq.trans ?_ (ten_at (G := up (ten (dws A))) _ (j 0) (j 1) (j 2) (by blk_simp [odx t0_15]) (by blk_simp [odx t0_15]) (by blk_simp [odx t0_15])).symm
    exact congrArg (fun x : ℝ => (x : EReal)) (sum_dw A _ _ _)
  · pointwise [k0_pay2]
  · refine (congrFun (e16 (inp H t) P hA hB) i).trans ?_
    show P i + _ + _ = _
    rw [add_assoc, add_up]
theorem r17 (H : Has m c A) : (dats m 0 c).arrAt 17 cfg0.N = up (mat (dbs A)) := by
  refine (dats m 0 c).arrAt_eq_of_after_last 17 t0_15 (by decide +kernel) _ fun j => ?_
  blk_simp
  rw [after0_17, acc (fun n h => (outsAt0 m c n h).2.2.2.2.1) (k0_pay3 (F := Ideal)) (fun i => ?_)
    (fun T i => dsv A (tok (nc T 0) (i 0)) (i 1) + dsv A (tok (nc T 1) (i 0)) (i 1)) (fun t P hA hB i => ?_) j]
  · rw [sum_nc fun n => dsv A (tok n (j 0)) (j 1)]
    exact (mat_at (dbs A) _ (j 0) (j 1) (by blk_simp [odx t0_15]) (by blk_simp [odx t0_15])).symm
  · pointwise [k0_pay3]
  · idx_vars i
    refine (e17 (inp H t) P hA hB _ _).trans ?_
    rw [add_assoc, add_up]
theorem r18 (H : Has m c A) : (dats m 0 c).arrAt 18 cfg0.N = up (mat (M := 8) fun _ => dlg A) := by
  refine (dats m 0 c).arrAt_eq_of_after_last 18 t0_15 (by decide +kernel) _ fun j => ?_
  blk_simp
  rw [after0_18, acc (fun n h => (outsAt0 m c n h).2.2.2.2.2.1) (k0_pay4 (F := Ideal)) (fun i => ?_)
    (fun T i => ∑ r, dvn A (tk T r) (i 1) * vh (Spec.V A (tk T r)) (i 1)) (fun t P hA hB i => ?_) j]
  · rw [sum_tk fun t => dvn A t (j 1) * vh (Spec.V A t) (j 1)]
    exact (mat_at (M := 8) (fun _ => dlg A) _ (j 0) (j 1) (by blk_simp [odx t0_15]) (by blk_simp [odx t0_15])).symm
  · pointwise [k0_pay4]
  · idx_vars i
    exact e18 (inp H t) P hA hB _ _
theorem r19 (H : Has m c A) : (dats m 0 c).arrAt 19 cfg0.N = up (mat (M := 8) fun _ => dlb A) := by
  refine (dats m 0 c).arrAt_eq_of_after_last 19 t0_15 (by decide +kernel) _ fun j => ?_
  blk_simp
  rw [after0_19, acc (fun n h => (outsAt0 m c n h).2.2.2.2.2.2.1) (k0_pay5 (F := Ideal)) (fun i => ?_)
    (fun T i => ∑ r, dvn A (tk T r) (i 1)) (fun t P hA hB i => ?_) j]
  · rw [sum_tk fun t => dvn A t (j 1)]
    exact (mat_at (M := 8) (fun _ => dlb A) _ (j 0) (j 1) (by blk_simp [odx t0_15]) (by blk_simp [odx t0_15])).symm
  · pointwise [k0_pay5]
  · idx_vars i
    exact e19 (inp H t) P hA hB _ _
theorem r20 (H : Has m c A) : (dats m 0 c).arrAt 20 cfg0.N = up (mat (M := 8) fun _ => dg A) := by
  refine (dats m 0 c).arrAt_eq_of_after_last 20 t0_15 (by decide +kernel) _ fun j => ?_
  blk_simp
  rw [after0_20, acc (fun n h => (outsAt0 m c n h).2.2.2.2.2.2.2) (k0_pay6 (F := Ideal)) (fun i => ?_)
    (fun T i => ∑ r, dhn A (tk T r) (i 1) * xh (A.h (tk T r)) (i 1)) (fun t P hA hB i => ?_) j]
  · rw [sum_tk fun t => dhn A t (j 1) * xh (A.h t) (j 1)]
    exact (mat_at (M := 8) (fun _ => dg A) _ (j 0) (j 1) (by blk_simp [odx t0_15]) (by blk_simp [odx t0_15])).symm
  · pointwise [k0_pay6]
  · idx_vars i
    exact e20 (inp H t) P hA hB _ _

end Cert.KernelIdeal.Final
-- ==== Proof.Ref.lean ====
/- The reference read on real arrays: each quantity its lines compute, where every argument is real, is the quantity of Spec.lean. -/
module

public import proofs.«01_k».proof.Proof.Coe
public import proofs.«01_k».proof.Proof.Gen.ReferenceIdeal.Read
public import Idealize.ShloMosaic.Lib.Pipeline.ValueKit

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Read Cert.Coe Cert.Spec

/-- A quantity of one index. -/
def vec {N : ℕ} (f : Fin N → ℝ) : (⟨1, ![N]⟩ : Shape).Idx → ℝ := fun i => f (i 0)
/-- A quantity of two indices. -/
def mat {M N : ℕ} (f : Fin M → Fin N → ℝ) : (⟨2, ![M, N]⟩ : Shape).Idx → ℝ := fun i => f (i 0) (i 1)
/-- A quantity of three indices. -/
def ten {L M N : ℕ} (f : Fin L → Fin M → Fin N → ℝ) : (⟨3, ![L, M, N]⟩ : Shape).Idx → ℝ := fun i => f (i 0) (i 1) (i 2)
/-- A quantity of four indices. -/
def quad {K L M N : ℕ} (f : Fin K → Fin L → Fin M → Fin N → ℝ) : (⟨4, ![K, L, M, N]⟩ : Shape).Idx → ℝ :=
  fun i => f (i 0) (i 1) (i 2) (i 3)

/-- Equal places of a quantity of tokens and channels. -/
theorem at_congr (f : Fin 4096 → Fin 2048 → ℝ) {t t' : Fin 4096} {c c' : Fin 2048} (ht : t.val = t'.val) (hc : c.val = c'.val) :
    f t c = f t' c' := by rw [Fin.ext ht, Fin.ext hc]

variable (A : Args)

theorem v9 : val_main_v9 (F := Ideal) (up (mat A.h)) = up (mat (N := 1) fun t _ => ((∑ k, A.h t k * A.h t k) * (1 / 1024) + eps)) := by
  funext i; idx_vars i
  simp only [val_main_v9_apply, val_main_v8_apply, val_main_cst_1_apply, val_main_v7_apply, val_main_v6_apply, val_main_cst_0_apply, val_main_v5_apply, val_main_v4_apply, val_main_cst_apply, val_main_v3_apply]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v10 : val_main_v10 (F := Ideal) (up (mat A.h)) = up (mat (N := 1) fun t _ => rr (A.h t)) := by
  funext i; idx_vars i
  simp only [val_main_v10_apply, v9 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [rsqrt_up _ (by exact ms_pos _)]; rfl
theorem v13 : val_main_v13 (F := Ideal) (up (mat A.h)) = up (mat (N := 1) fun t _ => -(1 / 2) * (rr (A.h t) / ((∑ k, A.h t k * A.h t k) * (1 / 1024) + eps))) := by
  funext i; idx_vars i
  simp only [val_main_v13_apply, val_main_v12_apply, val_main_cst_2_apply, val_main_v11_apply, v10 A, v9 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [div_up _ _ (by exact (ms_pos _).ne'), mul_up, mul_one_div]; rfl
theorem v15 : val_main_v15 (F := Ideal) (up (mat A.h)) = up (mat fun t => xh (A.h t)) := by
  funext i; idx_vars i
  simp only [val_main_v15_apply, val_main_v14_apply, v10 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v18 : val_main_v18 (F := Ideal) (up (mat A.h)) (up (vec A.g)) = up (mat (hn A)) := by
  funext i; idx_vars i
  simp only [val_main_v18_apply, val_main_v17_apply, val_main_v16_apply, v15 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v19 : val_main_v19 (F := Ideal) (up (mat A.h)) (up (vec A.g)) (up (mat A.wi)) = up (mat (pre A)) := by
  funext i; idx_vars i
  simp only [val_main_v19_apply, v18 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v20 (i : S_.Idx) : val_main_v20 (F := Ideal) i = ((gc : ℝ) : EReal) := by
  simp only [val_main_v20_apply, val_main_cst_3_apply, val_main_cst_4_apply]
  exact c_quot
theorem v25 : val_main_v25 (F := Ideal) (up (mat A.h)) (up (vec A.g)) (up (mat A.wi)) = up (mat fun t k => 3 * (pre A t k * pre A t k)) := by
  funext i; idx_vars i
  simp only [val_main_v25_apply, val_main_v24_apply, val_main_cst_5_apply, val_main_v23_apply, v19 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v31 : val_main_v31 (F := Ideal) (up (mat A.h)) (up (vec A.g)) (up (mat A.wi)) = up (mat fun t k => gelT (pre A t k)) := by
  funext i; idx_vars i
  simp only [val_main_v31_apply, val_main_v30_apply, val_main_v29_apply, val_main_cst_6_apply, val_main_v28_apply, val_main_v27_apply, val_main_v26_apply, val_main_v22_apply, val_main_v21_apply, v19 A, v20]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  refine congrArg _ ?_; unfold gelT; show Real.tanh (gk * (pre A i0 i1 + gc * (pre A i0 i1 * pre A i0 i1 * pre A i0 i1)))
    = Real.tanh (gk * (pre A i0 i1 + gc * (pre A i0 i1 * pre A i0 i1) * pre A i0 i1))
  congr 2; ring
theorem v36 : val_main_v36 (F := Ideal) (up (mat A.h)) (up (vec A.g)) (up (mat A.wi)) = up (mat fun t k => (1 + gelT (pre A t k)) * (1 - gelT (pre A t k))) := by
  funext i; idx_vars i
  simp only [val_main_v36_apply, val_main_v33_apply, val_main_v32_apply, val_main_cst_7_apply, val_main_v35_apply, val_main_v34_apply, val_main_cst_8_apply, v31 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v40 : val_main_v40 (F := Ideal) (up (mat A.h)) (up (vec A.g)) (up (mat A.wi)) = up (mat fun t k => gelH (pre A t k)) := by
  funext i; idx_vars i
  simp only [val_main_v40_apply, val_main_v39_apply, val_main_cst_10_apply, val_main_v38_apply, val_main_v37_apply, val_main_cst_9_apply, v31 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v41 : val_main_v41 (F := Ideal) (up (mat A.h)) (up (vec A.g)) (up (mat A.wi)) = up (mat fun t k => gel (pre A t k)) := by
  funext i; idx_vars i
  simp only [val_main_v41_apply, v40 A, v19 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v42 : val_main_v42 (F := Ideal) (up (mat A.h)) (up (vec A.g)) (up (mat A.wi)) = up (mat (U A)) := by
  funext i; idx_vars i
  simp only [val_main_v42_apply, v41 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ (congrArg (fun k => gel (pre A i0 k)) (Fin.ext (by first | rfl | simp [lo])))
theorem v43 : val_main_v43 (F := Ideal) (up (mat A.h)) (up (vec A.g)) (up (mat A.wi)) = up (mat (V A)) := by
  funext i; idx_vars i
  simp only [val_main_v43_apply, v41 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ (congrArg (fun k => gel (pre A i0 k)) (Fin.ext (by first | rfl | simp [hi])))
theorem v49 : val_main_v49 (F := Ideal) (up (mat A.h)) (up (vec A.g)) (up (mat A.wi)) = up (mat fun t => xc (V A t)) := by
  funext i; idx_vars i
  simp only [val_main_v49_apply, val_main_v48_apply, val_main_v47_apply, val_main_v46_apply, val_main_cst_12_apply, val_main_v45_apply, val_main_v44_apply, val_main_cst_11_apply, v43 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v56 : val_main_v56 (F := Ideal) (up (mat A.h)) (up (vec A.g)) (up (mat A.wi)) = up (mat (N := 1) fun t _ => ((∑ k, xc (V A t) k * xc (V A t) k) * (1 / 2048) + eps)) := by
  funext i; idx_vars i
  simp only [val_main_v56_apply, val_main_v55_apply, val_main_cst_15_apply, val_main_v54_apply, val_main_v53_apply, val_main_cst_14_apply, val_main_v52_apply, val_main_v51_apply, val_main_cst_13_apply, val_main_v50_apply, v49 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v57 : val_main_v57 (F := Ideal) (up (mat A.h)) (up (vec A.g)) (up (mat A.wi)) = up (mat (N := 1) fun t _ => rs (V A t)) := by
  funext i; idx_vars i
  simp only [val_main_v57_apply, v56 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [rsqrt_up _ (by exact var_pos _)]; rfl
theorem v60 : val_main_v60 (F := Ideal) (up (mat A.h)) (up (vec A.g)) (up (mat A.wi)) = up (mat (N := 1) fun t _ => -(1 / 2) * (rs (V A t) / ((∑ k, xc (V A t) k * xc (V A t) k) * (1 / 2048) + eps))) := by
  funext i; idx_vars i
  simp only [val_main_v60_apply, val_main_v59_apply, val_main_cst_16_apply, val_main_v58_apply, v57 A, v56 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [div_up _ _ (by exact (var_pos _).ne'), mul_up, mul_one_div]; rfl
theorem v62 : val_main_v62 (F := Ideal) (up (mat A.h)) (up (vec A.g)) (up (mat A.wi)) = up (mat fun t => vh (V A t)) := by
  funext i; idx_vars i
  simp only [val_main_v62_apply, val_main_v61_apply, v49 A, v57 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v68 : val_main_v68 (F := Ideal) (up (mat A.h)) (up (vec A.g)) (up (mat A.wi)) (up (vec A.lg)) (up (vec A.lb)) = up (mat (vn A)) := by
  funext i; idx_vars i
  simp only [val_main_v68_apply, val_main_v67_apply, val_main_v66_apply, val_main_v65_apply, val_main_v64_apply, val_main_v63_apply, v62 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v69 : val_main_v69 (F := Ideal) (up (mat A.h)) (up (vec A.g)) (up (mat A.wi)) (up (vec A.lg)) (up (vec A.lb)) = up (quad fun n a g e => vn A (tok n a) (chan g e)) := by
  funext i; idx_vars i
  simp only [val_main_v69_apply, v68 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ (at_congr _ (by simp [tok]; omega) (by simp [chan]; omega))
theorem v71 : val_main_v71 (F := Ideal) = up (mat trl) := by
  funext i; idx_vars i
  simp only [val_main_v71_apply, val_main_call0_v4_apply, val_main_call0_v2_apply, val_main_call0_v0_apply, val_main_call0_v1_apply,
    val_main_call0_c_apply, val_main_call0_v3_apply, val_main_v70_apply, val_main_cst_17_apply, val_main_call0_v5_apply,
    val_main_call0_cst_apply]
  pointwise
  rw [sge_eq i0 i1]
  show _ = ((if i1.val ≤ i0.val then 1 else 0 : ℝ) : EReal)
  split <;> rfl
theorem v74 : val_main_v74 (F := Ideal) (up (ten A.ws)) = up (ten (wm A)) := by
  funext i; idx_vars i
  simp only [val_main_v74_apply, val_main_v73_apply, val_main_v72_apply, v71]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v80 : val_main_v80 (F := Ideal) (up (mat A.h)) (up (vec A.g)) (up (mat A.wi)) (up (vec A.lg)) (up (vec A.lb)) (up (ten A.ws)) (up (mat A.bs)) = up (quad fun n a g e => (∑ s, wm A g a s * vn A (tok n s) (chan g e)) + A.bs g a) := by
  funext i; idx_vars i
  simp only [val_main_v80_apply, val_main_v76_apply, val_main_v75_apply, val_main_v79_apply, val_main_v78_apply, val_main_v77_apply, val_main_v2_apply, val_main_v1_apply, val_main_v0_apply, v69 A, v74 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ (congrArg₂ (· + ·) (Finset.sum_congr rfl fun k _ => mul_comm _ _) (congrArg₂ A.bs (Fin.ext (by simp; omega)) (Fin.ext (by simp; omega))))
theorem sv_close (t : Fin 4096) (c : Fin 2048) (n : Fin 32) (a : Fin 128) (g : Fin 8) (e : Fin 256) (ht : t.val = 128 * n.val + a.val)
    (hc : c.val = 256 * g.val + e.val) : (∑ s, wm A g a s * vn A (tok n s) (chan g e)) + A.bs g a = sv A t c := by
  unfold sv
  rw [show grp c = g from Fin.ext (by simp only [grp]; omega), show pos t = a from Fin.ext (by simp only [pos]; omega),
    show chk t = n from Fin.ext (by simp only [chk]; omega), show chan g e = c from Fin.ext (by simp only [chan]; omega)]
theorem dvn_close (t : Fin 4096) (c : Fin 2048) (n : Fin 32) (a : Fin 128) (g : Fin 8) (e : Fin 256) (ht : t.val = 128 * n.val + a.val)
    (hc : c.val = 256 * g.val + e.val) : (∑ s, dsv A (tok n s) (chan g e) * wm A g s a) = dvn A t c := by
  unfold dvn
  rw [show grp c = g from Fin.ext (by simp only [grp]; omega), show pos t = a from Fin.ext (by simp only [pos]; omega),
    show chk t = n from Fin.ext (by simp only [chk]; omega), show chan g e = c from Fin.ext (by simp only [chan]; omega)]
  exact Finset.sum_congr rfl fun k _ => mul_comm _ _
theorem v81 : val_main_v81 (F := Ideal) (up (mat A.h)) (up (vec A.g)) (up (mat A.wi)) (up (vec A.lg)) (up (vec A.lb)) (up (ten A.ws)) (up (mat A.bs)) = up (mat (sv A)) := by
  funext i; idx_vars i
  simp only [val_main_v81_apply, v80 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ (sv_close A i0 i1 (idx_main_v81 (ix2 i0 i1) 0) (idx_main_v81 (ix2 i0 i1) 1) (idx_main_v81 (ix2 i0 i1) 2) (idx_main_v81 (ix2 i0 i1) 3) (by simp; omega) (by simp; omega))
theorem v84 : val_main_v84 (F := Ideal) (up (mat A.ct)) (up (mat A.wo)) = up (mat (dy A)) := by
  funext i; idx_vars i
  simp only [val_main_v84_apply]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v85 : val_main_v85 (F := Ideal) (up (mat A.ct)) (up (mat A.h)) (up (vec A.g)) (up (mat A.wi)) (up (mat A.wo)) = up (mat (dsv A)) := by
  funext i; idx_vars i
  simp only [val_main_v85_apply, v42 A, v84 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ (mul_comm _ _)
theorem v86 : val_main_v86 (F := Ideal) (up (mat A.ct)) (up (mat A.h)) (up (vec A.g)) (up (mat A.wi)) (up (vec A.lg)) (up (vec A.lb)) (up (ten A.ws)) (up (mat A.bs)) (up (mat A.wo)) = up (mat fun t c => dy A t c * sv A t c) := by
  funext i; idx_vars i
  simp only [val_main_v86_apply, v84 A, v81 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v87 : val_main_v87 (F := Ideal) (up (mat A.ct)) (up (mat A.h)) (up (vec A.g)) (up (mat A.wi)) (up (mat A.wo)) = up (quad fun n a g e => dsv A (tok n a) (chan g e)) := by
  funext i; idx_vars i
  simp only [val_main_v87_apply, v85 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ (at_congr _ (by simp [tok]; omega) (by simp [chan]; omega))
theorem v91 : val_main_v91 (F := Ideal) (up (mat A.ct)) (up (mat A.h)) (up (vec A.g)) (up (mat A.wi)) (up (mat A.wo)) = up (mat (dbs A)) := by
  funext i; idx_vars i
  simp only [val_main_v91_apply, val_main_v90_apply, val_main_cst_19_apply, val_main_v89_apply, val_main_v88_apply, val_main_cst_18_apply, v87 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [Fin.sum_univ_one]
  show ((∑ k : Fin 32, dsv A (tok _ _) (chan _ _) : ℝ) : EReal) = ((∑ n, dsv A (tok n i0) i1 : ℝ) : EReal)
  refine congrArg _ (Finset.sum_congr rfl fun k _ => ?_)
  exact at_congr (dsv A) (by simp [tok]; omega) (by simp [chan]; omega)
theorem v98 : val_main_v98 (F := Ideal) (up (mat A.ct)) (up (mat A.h)) (up (vec A.g)) (up (mat A.wi)) (up (ten A.ws)) (up (mat A.wo)) = up (mat (dvn A)) := by
  funext i; idx_vars i
  simp only [val_main_v98_apply, val_main_v95_apply, val_main_v94_apply, val_main_v92_apply, v87 A, v74 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ (dvn_close A i0 i1 (idx_main_v98 (ix2 i0 i1) 0) (idx_main_v98 (ix2 i0 i1) 1) (idx_main_v98 (ix2 i0 i1) 2) (idx_main_v98 (ix2 i0 i1) 3) (by simp; omega) (by simp; omega))
theorem v101 : val_main_v101 (F := Ideal) (up (mat A.ct)) (up (mat A.h)) (up (vec A.g)) (up (mat A.wi)) (up (ten A.ws)) (up (mat A.wo)) = up (vec (dlb A)) := by
  funext i; idx_vars i
  simp only [val_main_v101_apply, val_main_cst_21_apply, val_main_v100_apply, val_main_v99_apply, val_main_cst_20_apply, v98 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [Fin.sum_univ_one]
  have e : idx_main_v100 (idx_main_v101 (ix1 i0) 0) = ix1 i0 := by
    funext a; obtain rfl : a = 0 := Subsingleton.elim _ _; exact Fin.ext (by simp)
  rw [e]; rfl
theorem v107 : val_main_v107 (F := Ideal) (up (mat A.ct)) (up (mat A.h)) (up (vec A.g)) (up (mat A.wi)) (up (ten A.ws)) (up (mat A.wo)) = up (vec (dlg A)) := by
  funext i; idx_vars i
  simp only [val_main_v107_apply, val_main_cst_23_apply, val_main_v104_apply, val_main_v103_apply, val_main_cst_22_apply, val_main_v102_apply, v98 A, v62 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [Fin.sum_univ_one]
  have e : idx_main_v104 (idx_main_v107 (ix1 i0) 0) = ix1 i0 := by
    funext a; obtain rfl : a = 0 := Subsingleton.elim _ _; exact Fin.ext (by simp)
  rw [e]
  exact congrArg _ (Finset.sum_congr rfl fun k _ => mul_comm _ _)
theorem v106 : val_main_v106 (F := Ideal) (up (mat A.ct)) (up (mat A.h)) (up (vec A.g)) (up (mat A.wi)) (up (vec A.lg)) (up (ten A.ws)) (up (mat A.wo)) = up (mat fun t c => dvn A t c * A.lg c) := by
  funext i; idx_vars i
  simp only [val_main_v106_apply, val_main_v105_apply, val_main_v63_apply, v98 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl

/-- The layer norm's inner gradient of a token. -/
def gln (t : Fin 4096) : ℝ :=
  (∑ k, xc (V A t) k * (dvn A t k * A.lg k)) * (-(1 / 2) * (rs (V A t) / ((∑ k, xc (V A t) k * xc (V A t) k) * (1 / 2048) + eps))) * (1 / 2048)
theorem v116 : val_main_v116 (F := Ideal) (up (mat A.ct)) (up (mat A.h)) (up (vec A.g)) (up (mat A.wi)) (up (vec A.lg)) (up (ten A.ws)) (up (mat A.wo)) = up (vec (gln A)) := by
  funext i; idx_vars i
  simp only [val_main_v116_apply, val_main_cst_26_apply, val_main_v115_apply, val_main_v114_apply, val_main_cst_25_apply, val_main_v113_apply, val_main_v110_apply, val_main_v109_apply, val_main_cst_24_apply, val_main_v108_apply, v49 A, v106 A, v60 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [Fin.sum_univ_one]
  have e : idx_main_v110 (idx_main_v116 (ix1 i0) 0) = ix1 i0 := by
    funext a; obtain rfl : a = 0 := Subsingleton.elim _ _; exact Fin.ext (by simp)
  rw [e]; rfl
theorem v121 : val_main_v121 (F := Ideal) (up (mat A.ct)) (up (mat A.h)) (up (vec A.g)) (up (mat A.wi)) (up (vec A.lg)) (up (ten A.ws)) (up (mat A.wo)) = up (mat fun t c => dvn A t c * A.lg c * rs (V A t) + xc (V A t) c * gln A t + gln A t * xc (V A t) c) := by
  funext i; idx_vars i
  simp only [val_main_v121_apply, val_main_v119_apply, val_main_v112_apply, val_main_v111_apply, val_main_v118_apply, val_main_v117_apply, val_main_v120_apply, v106 A, v57 A, v49 A, v116 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v129 : val_main_v129 (F := Ideal) (up (mat A.ct)) (up (mat A.h)) (up (vec A.g)) (up (mat A.wi)) (up (vec A.lg)) (up (ten A.ws)) (up (mat A.wo)) = up (mat fun t c => lnB (V A t) (fun k => dvn A t k * A.lg k) c) := by
  funext i; idx_vars i
  simp only [val_main_v129_apply, val_main_v128_apply, val_main_v127_apply, val_main_cst_29_apply, val_main_v126_apply, val_main_v125_apply, val_main_cst_28_apply, val_main_v124_apply, val_main_v123_apply, val_main_cst_27_apply, val_main_v122_apply, v121 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [Fin.sum_univ_one]
  have e : idx_main_v124 (idx_main_v127 (idx_main_v128 (ix2 i0 i1)) 0) = ix1 i0 := by
    funext a; obtain rfl : a = 0 := Subsingleton.elim _ _; exact Fin.ext (by simp)
  rw [e]
  exact congrArg _ (lnB_eq (V A i0) (fun k => dvn A i0 k * A.lg k) i1 (gln A i0) _ rfl fun k => rfl)

/-- The gradient of gelu's result. -/
def dz (t k : Fin 4096) : ℝ :=
  if h : k.val < 2048 then dy A t ⟨k.val, h⟩ * sv A t ⟨k.val, h⟩
  else lnB (V A t) (fun c => dvn A t c * A.lg c) ⟨k.val - 2048, by omega⟩
theorem dpre_eq (t k : Fin 4096) : dz A t k * gelD (pre A t k) = dpre A t k := by
  unfold dz dpre dpu dpv
  split
  · rfl
  · rename_i h
    rw [show hi ⟨k.val - 2048, by omega⟩ = k from Fin.ext (by simp only [hi]; omega)]
theorem v130 : val_main_v130 (F := Ideal) (up (mat A.ct)) (up (mat A.h)) (up (vec A.g)) (up (mat A.wi)) (up (vec A.lg)) (up (vec A.lb)) (up (ten A.ws)) (up (mat A.bs)) (up (mat A.wo)) = up (mat (dz A)) := by
  unfold val_main_v130
  rw [v86 A, v129 A]
  funext i; idx_vars i
  pointwise
  show _ = ((dz A i0 i1 : ℝ) : EReal)
  unfold dz
  split <;> rfl
theorem v93 : val_main_v93 (F := Ideal) (up (mat A.ct)) (up (mat A.h)) (up (vec A.g)) (up (mat A.wi)) (up (vec A.lg)) (up (vec A.lb)) (up (mat A.wo)) = up (ten fun g a b => ∑ n, ∑ e, dsv A (tok n a) (chan g e) * vn A (tok n b) (chan g e)) := by
  unfold val_main_v93
  have h92 : val_main_v92 (F := Ideal) (up (mat A.ct)) (up (mat A.h)) (up (vec A.g)) (up (mat A.wi)) (up (mat A.wo)) = up (quad fun g n e a => dsv A (tok n a) (chan g e)) := by
    funext i; idx_vars i
    rw [val_main_v92_apply, v87 A]; rfl
  rw [h92, v69 A]
  funext i; idx_vars i
  pointwise
  simp only [up_apply, mul_up, sum_up]; rfl
theorem v97 : val_main_v97 (F := Ideal) (up (mat A.ct)) (up (mat A.h)) (up (vec A.g)) (up (mat A.wi)) (up (vec A.lg)) (up (vec A.lb)) (up (mat A.wo)) = up (ten (dws A)) := by
  funext i; idx_vars i
  simp only [val_main_v97_apply, val_main_v96_apply, val_main_v72_apply, v93 A, v71]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v142 : val_main_v142 (F := Ideal) (up (mat A.ct)) (up (mat A.h)) (up (vec A.g)) (up (mat A.wi)) (up (vec A.lg)) (up (vec A.lb)) (up (ten A.ws)) (up (mat A.bs)) (up (mat A.wo)) = up (mat (dpre A)) := by
  funext i; idx_vars i
  simp only [val_main_v142_apply, val_main_v138_apply, val_main_v132_apply, val_main_v137_apply, val_main_v136_apply, val_main_cst_31_apply, val_main_v135_apply, val_main_v134_apply, val_main_v133_apply, val_main_cst_30_apply, val_main_v131_apply, val_main_v141_apply, val_main_v140_apply, val_main_v139_apply, v19 A, v130 A, v40 A, v36 A, v25 A, v20]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg _ ((gelD_eq (pre A i0 i1) (dz A i0 i1)).trans (dpre_eq A i0 i1))
theorem v143 : val_main_v143 (F := Ideal) (up (mat A.ct)) (up (mat A.h)) (up (vec A.g)) (up (mat A.wi)) (up (vec A.lg)) (up (vec A.lb)) (up (ten A.ws)) (up (mat A.bs)) (up (mat A.wo)) = up (mat (dhn A)) := by
  funext i; idx_vars i
  simp only [val_main_v143_apply, v142 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v149 : val_main_v149 (F := Ideal) (up (mat A.ct)) (up (mat A.h)) (up (vec A.g)) (up (mat A.wi)) (up (vec A.lg)) (up (vec A.lb)) (up (ten A.ws)) (up (mat A.bs)) (up (mat A.wo)) = up (vec (dg A)) := by
  funext i; idx_vars i
  simp only [val_main_v149_apply, val_main_cst_33_apply, val_main_v146_apply, val_main_v145_apply, val_main_cst_32_apply, val_main_v144_apply, v15 A, v143 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [Fin.sum_univ_one]
  have e : idx_main_v146 (idx_main_v149 (ix1 i0) 0) = ix1 i0 := by
    funext a; obtain rfl : a = 0 := Subsingleton.elim _ _; exact Fin.ext (by simp)
  rw [e]
  exact congrArg _ (Finset.sum_congr rfl fun k _ => mul_comm _ _)
theorem v148 : val_main_v148 (F := Ideal) (up (mat A.ct)) (up (mat A.h)) (up (vec A.g)) (up (mat A.wi)) (up (vec A.lg)) (up (vec A.lb)) (up (ten A.ws)) (up (mat A.bs)) (up (mat A.wo)) = up (mat fun t j => dhn A t j * A.g j) := by
  funext i; idx_vars i
  simp only [val_main_v148_apply, val_main_v147_apply, val_main_v16_apply, v143 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl

/-- The norm's inner gradient of a token. -/
def grm (t : Fin 4096) : ℝ :=
  (∑ k, A.h t k * (dhn A t k * A.g k)) * (-(1 / 2) * (rr (A.h t) / ((∑ k, A.h t k * A.h t k) * (1 / 1024) + eps))) * (1 / 1024)
theorem v158 : val_main_v158 (F := Ideal) (up (mat A.ct)) (up (mat A.h)) (up (vec A.g)) (up (mat A.wi)) (up (vec A.lg)) (up (vec A.lb)) (up (ten A.ws)) (up (mat A.bs)) (up (mat A.wo)) = up (vec (grm A)) := by
  funext i; idx_vars i
  simp only [val_main_v158_apply, val_main_cst_36_apply, val_main_v157_apply, val_main_v156_apply, val_main_cst_35_apply, val_main_v155_apply, val_main_v152_apply, val_main_v151_apply, val_main_cst_34_apply, val_main_v150_apply, v148 A, v13 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [Fin.sum_univ_one]
  have e : idx_main_v152 (idx_main_v158 (ix1 i0) 0) = ix1 i0 := by
    funext a; obtain rfl : a = 0 := Subsingleton.elim _ _; exact Fin.ext (by simp)
  rw [e]; rfl
theorem v164 : val_main_v164 (F := Ideal) (up (mat A.ct)) (up (mat A.h)) (up (vec A.g)) (up (mat A.wi)) (up (vec A.lg)) (up (vec A.lb)) (up (ten A.ws)) (up (mat A.bs)) (up (mat A.wo)) = up (mat (dh A)) := by
  funext i; idx_vars i
  simp only [val_main_v164_apply, val_main_v163_apply, val_main_v161_apply, val_main_v154_apply, val_main_v153_apply, val_main_v160_apply, val_main_v159_apply, val_main_v162_apply, v148 A, v10 A, v158 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  exact congrArg (fun y : ℝ => ((A.ct i0 i1 + y : ℝ) : EReal)) (rmsB_eq (A.h i0) (fun k => dhn A i0 k * A.g k) i1 (grm A i0) rfl)
theorem v172 : val_main_v172 (F := Ideal) (up (mat A.h)) = up (mat (N := 1) fun t _ => rr (A.h t)) := by
  funext i; idx_vars i
  simp only [val_main_v172_apply, val_main_v171_apply, val_main_v170_apply, val_main_cst_38_apply, val_main_v169_apply, val_main_v168_apply, val_main_cst_39_apply, val_main_v167_apply, val_main_v166_apply, val_main_cst_37_apply, val_main_v165_apply]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rw [rsqrt_up _ (by exact ms_pos _)]; rfl
theorem v178 : val_main_v178 (F := Ideal) (up (mat A.h)) (up (vec A.g)) = up (mat (hn A)) := by
  funext i; idx_vars i
  simp only [val_main_v178_apply, val_main_v177_apply, val_main_v176_apply, val_main_v175_apply, val_main_v174_apply, val_main_v173_apply, v172 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v179 : val_main_v179 (F := Ideal) (up (mat A.ct)) (up (mat A.h)) (up (vec A.g)) (up (mat A.wi)) (up (vec A.lg)) (up (vec A.lb)) (up (ten A.ws)) (up (mat A.bs)) (up (mat A.wo)) = up (mat (dpre A)) := by
  funext i; idx_vars i
  rw [val_main_v179_apply, v142 A]; rfl
theorem v180 : val_main_v180 (F := Ideal) (up (mat A.ct)) (up (mat A.h)) (up (vec A.g)) (up (mat A.wi)) (up (ten A.ws)) (up (mat A.wo)) = up (mat (M := 8) fun _ => dlg A) := by
  funext i; idx_vars i
  simp only [val_main_v180_apply, v107 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v181 : val_main_v181 (F := Ideal) (up (mat A.ct)) (up (mat A.h)) (up (vec A.g)) (up (mat A.wi)) (up (ten A.ws)) (up (mat A.wo)) = up (mat (M := 8) fun _ => dlb A) := by
  funext i; idx_vars i
  simp only [val_main_v181_apply, v101 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl
theorem v182 : val_main_v182 (F := Ideal) (up (mat A.ct)) (up (mat A.h)) (up (vec A.g)) (up (mat A.wi)) (up (vec A.lg)) (up (vec A.lb)) (up (ten A.ws)) (up (mat A.bs)) (up (mat A.wo)) = up (mat (M := 8) fun _ => dg A) := by
  funext i; idx_vars i
  simp only [val_main_v182_apply, v149 A]
  pointwise
  simp only [up_apply, mul_up, sum_up, c_1024, c_2048, c_eps, c_gk, c_zero, c_one, c_half, c_nhalf, c_three, zero_up, one_up, zero_add_up, div_up _ _ (show (1024 : ℝ) ≠ 0 by norm_num), div_up _ _ (show (2048 : ℝ) ≠ 0 by norm_num), add_up, sub_up, neg_up, tanh_up]
  rfl

end Cert.ReferenceIdeal.Val

end
-- ==== Proof.Finite.lean ====
/- Finite arguments are real arrays: what the precondition says of every argument. -/
module

public import proofs.«01_k».proof.Defs
public import proofs.«01_k».proof.Proof.Final
public import proofs.«01_k».proof.Proof.Ref

@[expose] public section

set_option maxRecDepth 16384

noncomputable section

namespace Cert.Fin

open Idealize.ShloMosaic Idealize.ShloMosaic.TcCoe Idealize.SL.Sem
open Cert.Coe Cert.Spec

/-- The precondition's stated shape facts. -/
theorem facts : Cert.Pre_finite.Facts where
  bcast_S_S4096x1024 := by decide
  bcast_S_S1024 := by decide
  bcast_S_S1024x4096 := by decide
  bcast_S_S2048 := by decide
  bcast_S_S8x128x128 := by decide
  bcast_S_S8x128 := by decide
  bcast_S_S2048x1024 := by decide

/-- An array whose absolute values are all below infinity is a real array. -/
theorem real_of {S : Shape} (x : FVec Ideal S .f32) (b : (⟨0, ![]⟩ : Shape).BroadcastsInDim S (![] : Fin 0 → Fin S.rank))
    (h : cmpf .olt (Host.absf x) (broadcastInDim S ![] b (constant (F := Ideal) ⟨0, ![]⟩ .f32 0x7F800000#32)) = fun _ => 1#1) (i : S.Idx) :
    x i = (((x i).toReal : ℝ) : EReal) := by
  have e := congrFun h i
  refine eq_up_of_abs_lt _ ?_
  have e' : Scalar.cmpf (F := Ideal) .olt (max (x i) (-(x i))) (Ideal.ofBits .f32 0x7F800000#32) = 1#1 := e
  rw [c_top] at e'
  by_contra n
  have e0 : Scalar.cmpf (F := Ideal) .olt (max (x i) (-(x i))) (⊤ : EReal) = 0#1 :=
    (congrArg BitVec.ofBool (decide_eq_false n) : BitVec.ofBool (decide (max (x i) (-(x i)) < (⊤ : EReal))) = 0#1)
  rw [e0] at e'
  exact absurd e' (by decide)

/-- The arguments' real parts. -/
def args (m : (ℓ : Loc Cert.KernelIdeal.nD Cert.KernelIdeal.τ Cert.KernelIdeal.sig) → Buf (Elt Ideal) ℓ) (c : Dev Cert.KernelIdeal.nD) : Args where
  ct := fun a b => EReal.toReal (m ((c.tc : Thread Cert.KernelIdeal.nD Cert.KernelIdeal.τ).loc Cert.KernelIdeal.main_arg0) (ix2 a b))
  h := fun a b => EReal.toReal (m ((c.tc : Thread Cert.KernelIdeal.nD Cert.KernelIdeal.τ).loc Cert.KernelIdeal.main_arg1) (ix2 a b))
  g := fun a => EReal.toReal (m ((c.tc : Thread Cert.KernelIdeal.nD Cert.KernelIdeal.τ).loc Cert.KernelIdeal.main_arg2) (ix1 a))
  wi := fun a b => EReal.toReal (m ((c.tc : Thread Cert.KernelIdeal.nD Cert.KernelIdeal.τ).loc Cert.KernelIdeal.main_arg3) (ix2 a b))
  lg := fun a => EReal.toReal (m ((c.tc : Thread Cert.KernelIdeal.nD Cert.KernelIdeal.τ).loc Cert.KernelIdeal.main_arg4) (ix1 a))
  lb := fun a => EReal.toReal (m ((c.tc : Thread Cert.KernelIdeal.nD Cert.KernelIdeal.τ).loc Cert.KernelIdeal.main_arg5) (ix1 a))
  ws := fun q a b => EReal.toReal (m ((c.tc : Thread Cert.KernelIdeal.nD Cert.KernelIdeal.τ).loc Cert.KernelIdeal.main_arg6) (ix3 q a b))
  bs := fun a b => EReal.toReal (m ((c.tc : Thread Cert.KernelIdeal.nD Cert.KernelIdeal.τ).loc Cert.KernelIdeal.main_arg7) (ix2 a b))
  wo := fun a b => EReal.toReal (m ((c.tc : Thread Cert.KernelIdeal.nD Cert.KernelIdeal.τ).loc Cert.KernelIdeal.main_arg8) (ix2 a b))

/-- Where the precondition holds, the arguments are their real parts. -/
theorem has [h : Cert.Pre_finite.Facts] (m : (ℓ : Loc Cert.KernelIdeal.nD Cert.KernelIdeal.τ Cert.KernelIdeal.sig) → Buf (Elt Ideal) ℓ)
    (hp : Cert.Pre_KernelIdeal_finite m) (c : Dev Cert.KernelIdeal.nD) : Cert.KernelIdeal.Host.Has m c (args m c) := by
  obtain ⟨h0, h1, h2, h3, h4, h5, h6, h7, h8⟩ := hp c
  exact {
    a0 := funext fun i => (real_of _ Cert.Pre_finite.Facts.bcast_S_S4096x1024 h0 i).trans (congrArg (fun j => ((EReal.toReal (m ((c.tc : Thread Cert.KernelIdeal.nD Cert.KernelIdeal.τ).loc Cert.KernelIdeal.main_arg0) j) : ℝ) : EReal)) (eq_ix2 i))
    a1 := funext fun i => (real_of _ Cert.Pre_finite.Facts.bcast_S_S4096x1024 h1 i).trans (congrArg (fun j => ((EReal.toReal (m ((c.tc : Thread Cert.KernelIdeal.nD Cert.KernelIdeal.τ).loc Cert.KernelIdeal.main_arg1) j) : ℝ) : EReal)) (eq_ix2 i))
    a2 := funext fun i => (real_of _ Cert.Pre_finite.Facts.bcast_S_S1024 h2 i).trans (congrArg (fun j => ((EReal.toReal (m ((c.tc : Thread Cert.KernelIdeal.nD Cert.KernelIdeal.τ).loc Cert.KernelIdeal.main_arg2) j) : ℝ) : EReal)) (eq_ix1 i))
    a3 := funext fun i => (real_of _ Cert.Pre_finite.Facts.bcast_S_S1024x4096 h3 i).trans (congrArg (fun j => ((EReal.toReal (m ((c.tc : Thread Cert.KernelIdeal.nD Cert.KernelIdeal.τ).loc Cert.KernelIdeal.main_arg3) j) : ℝ) : EReal)) (eq_ix2 i))
    a4 := funext fun i => (real_of _ Cert.Pre_finite.Facts.bcast_S_S2048 h4 i).trans (congrArg (fun j => ((EReal.toReal (m ((c.tc : Thread Cert.KernelIdeal.nD Cert.KernelIdeal.τ).loc Cert.KernelIdeal.main_arg4) j) : ℝ) : EReal)) (eq_ix1 i))
    a5 := funext fun i => (real_of _ Cert.Pre_finite.Facts.bcast_S_S2048 h5 i).trans (congrArg (fun j => ((EReal.toReal (m ((c.tc : Thread Cert.KernelIdeal.nD Cert.KernelIdeal.τ).loc Cert.KernelIdeal.main_arg5) j) : ℝ) : EReal)) (eq_ix1 i))
    a6 := funext fun i => (real_of _ Cert.Pre_finite.Facts.bcast_S_S8x128x128 h6 i).trans (congrArg (fun j => ((EReal.toReal (m ((c.tc : Thread Cert.KernelIdeal.nD Cert.KernelIdeal.τ).loc Cert.KernelIdeal.main_arg6) j) : ℝ) : EReal)) (eq_ix3 i))
    a7 := funext fun i => (real_of _ Cert.Pre_finite.Facts.bcast_S_S8x128 h7 i).trans (congrArg (fun j => ((EReal.toReal (m ((c.tc : Thread Cert.KernelIdeal.nD Cert.KernelIdeal.τ).loc Cert.KernelIdeal.main_arg7) j) : ℝ) : EReal)) (eq_ix2 i))
    a8 := funext fun i => (real_of _ Cert.Pre_finite.Facts.bcast_S_S2048x1024 h8 i).trans (congrArg (fun j => ((EReal.toReal (m ((c.tc : Thread Cert.KernelIdeal.nD Cert.KernelIdeal.τ).loc Cert.KernelIdeal.main_arg8) j) : ℝ) : EReal)) (eq_ix2 i))
  }

end Cert.Fin

namespace Cert.ReferenceIdeal.Val

open Idealize.ShloMosaic Idealize.ShloMosaic.TcCoe Idealize.SL.Sem
open Cert.ReferenceIdeal Cert.ReferenceIdeal.Gen Cert.ReferenceIdeal.Read Cert.Coe Cert.Spec

/-- The reference's arguments are real arrays. -/
structure Has (V : Valuation τ sig (Elt Ideal)) (A : Args) : Prop where
  a0 : V (Proc.devRef .tc main_arg0) = up (mat A.ct)
  a1 : V (Proc.devRef .tc main_arg1) = up (mat A.h)
  a2 : V (Proc.devRef .tc main_arg2) = up (vec A.g)
  a3 : V (Proc.devRef .tc main_arg3) = up (mat A.wi)
  a4 : V (Proc.devRef .tc main_arg4) = up (vec A.lg)
  a5 : V (Proc.devRef .tc main_arg5) = up (vec A.lb)
  a6 : V (Proc.devRef .tc main_arg6) = up (ten A.ws)
  a7 : V (Proc.devRef .tc main_arg7) = up (mat A.bs)
  a8 : V (Proc.devRef .tc main_arg8) = up (mat A.wo)

variable {V : Valuation τ sig (Elt Ideal)} {A : Args}

theorem r164 (H : Has V A) : val_main_v164 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) = up (mat (dh A)) := by
  rw [H.a0, H.a1, H.a2, H.a3, H.a4, H.a5, H.a6, H.a7, H.a8]; exact v164 A
theorem r178 (H : Has V A) : val_main_v178 (F := Ideal) (V (Proc.devRef .tc main_arg1)) (V (Proc.devRef .tc main_arg2)) = up (mat (hn A)) := by
  rw [H.a1, H.a2]; exact v178 A
theorem r179 (H : Has V A) : val_main_v179 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) = up (mat (dpre A)) := by
  rw [H.a0, H.a1, H.a2, H.a3, H.a4, H.a5, H.a6, H.a7, H.a8]; exact v179 A
theorem r97 (H : Has V A) : val_main_v97 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg8)) = up (ten (dws A)) := by
  rw [H.a0, H.a1, H.a2, H.a3, H.a4, H.a5, H.a8]; exact v97 A
theorem r91 (H : Has V A) : val_main_v91 (F := Ideal) (V (Proc.devRef .tc main_arg0)) (V (Proc.devRef .tc main_arg1)) (V (Proc.devRef .tc main_arg2)) (V (Proc.devRef .tc main_arg3)) (V (Proc.devRef .tc main_arg8)) = up (mat (dbs A)) := by
  rw [H.a0, H.a1, H.a2, H.a3, H.a8]; exact v91 A
theorem r180 (H : Has V A) : val_main_v180 (F := Ideal) (V (Proc.devRef .tc main_arg0)) (V (Proc.devRef .tc main_arg1)) (V (Proc.devRef .tc main_arg2)) (V (Proc.devRef .tc main_arg3)) (V (Proc.devRef .tc main_arg6)) (V (Proc.devRef .tc main_arg8)) = up (mat (M := 8) fun _ => dlg A) := by
  rw [H.a0, H.a1, H.a2, H.a3, H.a6, H.a8]; exact v180 A
theorem r181 (H : Has V A) : val_main_v181 (F := Ideal) (V (Proc.devRef .tc main_arg0)) (V (Proc.devRef .tc main_arg1)) (V (Proc.devRef .tc main_arg2)) (V (Proc.devRef .tc main_arg3)) (V (Proc.devRef .tc main_arg6)) (V (Proc.devRef .tc main_arg8)) = up (mat (M := 8) fun _ => dlb A) := by
  rw [H.a0, H.a1, H.a2, H.a3, H.a6, H.a8]; exact v181 A
theorem r182 (H : Has V A) : val_main_v182 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) = up (mat (M := 8) fun _ => dg A) := by
  rw [H.a0, H.a1, H.a2, H.a3, H.a4, H.a5, H.a6, H.a7, H.a8]; exact v182 A

end Cert.ReferenceIdeal.Val
-- ==== Proof.FfnSpec.lean ====
/- The gradient of the feed-forward layer over the real numbers: what the kernel and the reference both compute where every
   argument is finite. -/
module

public import proofs.«01_k».proof.Proof.Spec

@[expose] public section

noncomputable section

namespace Cert.Ffn

open scoped BigOperators
open Cert.Spec (xh rmsB)

/-- The arguments: the cotangent, the stream, the norm's scale, the up and the down projection. -/
structure Args where
  ct : Fin 4096 → Fin 1024 → ℝ
  h : Fin 4096 → Fin 1024 → ℝ
  g : Fin 1024 → ℝ
  wu : Fin 1024 → Fin 4096 → ℝ
  wd : Fin 4096 → Fin 1024 → ℝ

variable (A : Args)

/-- The normalized stream, scaled. -/
def hn (t : Fin 4096) (j : Fin 1024) : ℝ := xh (A.h t) j * A.g j
/-- The up projection. -/
def u (t : Fin 4096) (k : Fin 4096) : ℝ := ∑ j, hn A t j * A.wu j k
/-- Its positive part. -/
def r (t : Fin 4096) (k : Fin 4096) : ℝ := max (u A t k) 0
/-- The activation: the positive part squared. -/
def a (t : Fin 4096) (k : Fin 4096) : ℝ := r A t k * r A t k
/-- The gradient of the activation. -/
def da (t : Fin 4096) (k : Fin 4096) : ℝ := ∑ j, A.ct t j * A.wd k j
/-- The gradient of the up projection. -/
def du (t : Fin 4096) (k : Fin 4096) : ℝ := da A t k * (2 * r A t k)
/-- The gradient of the normalized stream. -/
def dhn (t : Fin 4096) (j : Fin 1024) : ℝ := ∑ k, du A t k * A.wu j k
/-- The gradient of the layer's input. -/
def dh (t : Fin 4096) (j : Fin 1024) : ℝ := A.ct t j + rmsB (A.h t) (fun k => dhn A t k * A.g k) j
/-- The gradient of the norm's scale. -/
def dg (j : Fin 1024) : ℝ := ∑ t, dhn A t j * xh (A.h t) j

/-- Columns `1024 q` on of a quantity of tokens and hidden channels. -/
def sl (q : Fin 4) (f : Fin 4096 → Fin 4096 → ℝ) (t : Fin 4096) (k : Fin 1024) : ℝ := f t ⟨1024 * q.val + k.val, by omega⟩

end Cert.Ffn

end
-- ==== Proof.FfnRows.lean ====
/- The feed-forward kernel's payloads on real arrays: each, given the blocks of 256 tokens of the quantities it reads, is the
   block of the next. -/
module

public import proofs.«01_k».proof.Proof.FfnSpec
public import proofs.«01_k».proof.Proof.Rows
public import proofs.«01_k».proof.Proof.Gen.Kernel2Ideal.Skeleton

@[expose] public section

set_option maxRecDepth 16384

noncomputable section

namespace Cert.Ffn

open Idealize.ShloMosaic Idealize.ShloMosaic.TcCoe Idealize.SL.Sem
open Cert.Kernel2Ideal Cert.Kernel2Ideal.Gen Cert.Coe
open Cert.Spec (rr xh rmsB)
open Cert.KernelIdeal.Pay (tk blk col row mat mat1 ten blk_ix col_ix row_ix mat_ix mat1_ix ten_ix sum4)

theorem c_two : Ideal.ofBits .f32 0x40000000#32 = ((2 : ℝ) : EReal) := by
  simp [Ideal.ofBits, Ideal.ieee, -EReal.coe_mul]; norm_num

variable (A : Args) (T : Fin 16)

/-- Shard `q` of the up projection: its columns `1024 q` on. -/
def wuB (q : Fin 4) : S1x1024x1024.Idx → ℝ := mat1 (M := 1024) (N := 1024) fun j k => A.wu j ⟨1024 * q.val + k.val, by omega⟩
/-- Shard `q` of the down projection: its rows `1024 q` on. -/
def wdB (q : Fin 4) : S1x1024x1024.Idx → ℝ := mat1 (M := 1024) (N := 1024) fun k j => A.wd ⟨1024 * q.val + k.val, by omega⟩ j
/-- Columns `1024 q` on of a quantity, at block `T`. -/
def slB (q : Fin 4) (f : Fin 4096 → Fin 4096 → ℝ) : S256x1024.Idx → ℝ := blk (N := 1024) T (sl q f)

theorem p5 (f : Fin 4096 → Fin 1024 → ℝ) : k0_pay5 (F := Ideal) (up (blk T f)) = up (blk T f) := by
  funext i; idx_vars i; pointwise [k0_pay5]
theorem p6 (f : Fin 1024 → ℝ) : k0_pay6 (F := Ideal) (up (row f)) = up (row f) := by
  funext i; idx_vars i; pointwise [k0_pay6]
theorem p7 : k0_pay7 (F := Ideal) (up (blk T A.h)) = up (col T fun t => rr (A.h t)) := by
  funext i; idx_vars i; pointwise [k0_pay7]
  simp only [blk_ix, mul_up, sum_up, c_inv1024, c_eps, add_up]
  rw [rsqrt_up _ (ms_pos _)]; rfl
theorem p8 : k0_pay8 (F := Ideal) (up (blk T A.h)) = up (blk T fun t => xh (A.h t)) := by
  unfold k0_pay8; rw [p7]
  funext i; idx_vars i; pointwise
  simp only [blk_ix, col_ix, mul_up]; rfl

/-- The widened rectified block, shard by shard. -/
theorem p10 (f : S256x1024.Idx → ℝ) : k0_pay10 (F := Ideal) (up f) = up f := by
  funext i; idx_vars i; pointwise [k0_pay10]
theorem p17 (f : S256x1024.Idx → ℝ) : k0_pay17 (F := Ideal) (up f) = up f := p10 f
theorem p11 (q : Fin 4) : k0_pay11 (F := Ideal) (up (slB T q (r A))) = up (slB T q (a A)) := by
  unfold k0_pay11; rw [p10]; unfold slB
  funext i; idx_vars i; pointwise
  simp only [blk_ix, mul_up]; rfl
theorem p14 (q : Fin 4) : k0_pay14 (F := Ideal) (up (slB T q (r A))) = up (slB T q (a A)) := p11 A T q
theorem p18 (q : Fin 4) : k0_pay18 (F := Ideal) (up (slB T q (r A))) = up (slB T q (a A)) := p11 A T q
theorem p21 (q : Fin 4) : k0_pay21 (F := Ideal) (up (slB T q (r A))) = up (slB T q (a A)) := p11 A T q
/-- One shard's gradient of the up projection. -/
theorem p15 (q : Fin 4) : k0_pay15 (F := Ideal) (up (blk T A.ct)) (up (slB T q (r A))) (up (wdB A q)) = up (slB T q (du A)) := by
  unfold k0_pay15; rw [show k0_pay13 (F := Ideal) (up (slB T q (r A))) = up (slB T q (r A)) from p10 _]
  unfold slB wdB
  funext i; idx_vars i; pointwise
  simp only [blk_ix, mat1_ix, c_two, mul_up, sum_up]; rfl
theorem p12 (q : Fin 4) : k0_pay12 (F := Ideal) (up (blk T A.ct)) (up (slB T q (r A))) (up (wdB A q)) = up (slB T q (du A)) := by
  refine Eq.trans ?_ (p15 A T q)
  exact congrArg (fun x => k0_pay15 (F := Ideal) x (up (slB T q (r A))) (up (wdB A q))) (p5 T A.ct)
theorem p19 (q : Fin 4) : k0_pay19 (F := Ideal) (up (blk T A.ct)) (up (slB T q (r A))) (up (wdB A q)) = up (slB T q (du A)) := by
  refine Eq.trans ?_ (p15 A T q)
  exact congrArg (fun x => k0_pay19 (F := Ideal) (up (blk T A.ct)) x (up (wdB A q))) (p10 (slB T q (r A))).symm
theorem p22 (q : Fin 4) : k0_pay22 (F := Ideal) (up (blk T A.ct)) (up (slB T q (r A))) (up (wdB A q)) = up (slB T q (du A)) := p15 A T q

/-- The gradient of the normalized stream, as the four products of the body sum to it. -/
theorem p23 : k0_pay23 (F := Ideal) (up (blk T A.ct))
      (k0_pay16 (F := Ideal) (up (blk T A.ct)) (k0_pay9 (F := Ideal)) (up (slB T 0 (du A))) (up (wuB A 0)) (up (slB T 1 (r A))) (up (wdB A 1)) (up (wuB A 1)))
      (up (slB T 2 (r A))) (up (wdB A 2)) (up (wuB A 2)) (up (slB T 3 (r A))) (up (wdB A 3)) (up (wuB A 3)) = up (blk T (dhn A)) := by
  unfold k0_pay23 k0_pay16
  rw [p15, p19, p22]
  unfold slB wuB
  funext i; idx_vars i; pointwise [k0_pay9]
  simp only [blk_ix, mat1_ix, mul_up, sum_up, c_zero, add_up]
  show _ = ((dhn A (tk T i0) i1 : ℝ) : EReal)
  unfold dhn; rw [sum4]
  rfl
theorem p24 : k0_pay24 (F := Ideal) (up (blk T A.ct)) (up (blk T fun t => xh (A.h t)))
      (k0_pay16 (F := Ideal) (up (blk T A.ct)) (k0_pay9 (F := Ideal)) (up (slB T 0 (du A))) (up (wuB A 0)) (up (slB T 1 (r A))) (up (wdB A 1)) (up (wuB A 1)))
      (up (slB T 2 (r A))) (up (wdB A 2)) (up (wuB A 2)) (up (slB T 3 (r A))) (up (wdB A 3)) (up (wuB A 3))
      = up (blk T fun t j => dhn A t j * xh (A.h t) j) := by
  unfold k0_pay24; rw [p23]
  funext i; idx_vars i; pointwise
  simp only [blk_ix, mul_up]
theorem p1 (x : S8x1024.Idx → EReal) (f : Fin 4096 → Fin 1024 → ℝ) (q : Fin 8) (j : Fin 1024) :
    k0_pay1 (F := Ideal) (up (blk T f)) x (ix2 q j) = x (ix2 q j) + ((∑ r, f (tk T r) j : ℝ) : EReal) := by
  pointwise [k0_pay1]
  simp only [blk_ix, sum_up]
theorem p2 : k0_pay2 (F := Ideal) (up (row A.g)) (up (col T fun t => rr (A.h t))) (up (blk T fun t => xh (A.h t))) (up (blk T (dhn A)))
      (up (blk T A.ct)) = up (blk T (dh A)) := by
  funext i; idx_vars i; pointwise [k0_pay2]
  simp only [blk_ix, col_ix, row_ix, c_inv1024, mul_up, sum_up, add_up, sub_up]; rfl
theorem p3 : k0_pay3 (F := Ideal) (up (row A.g)) (up (col T fun t => rr (A.h t))) (up (blk T fun t => xh (A.h t))) (up (blk T (dhn A)))
      (up (blk T A.ct)) = up (blk T (dh A)) := by
  unfold k0_pay3; rw [p2]
  funext i; idx_vars i; pointwise

end Cert.Ffn

end
-- ==== Proof.FfnBody.lean ====
/- The feed-forward kernel's outputs at one grid point, from blocks of real arrays: what each store leaves is the block of the
   quantity that it is named for, and the accumulator gains its block's sum. -/
module

public import proofs.«01_k».proof.Proof.FfnRows
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen Cert.Coe
open Cert.Spec (rr xh rmsB)
open Cert.KernelIdeal.Pay (tk blk col row mat mat1 ten)

theorem ld_of {s : Shape} {e : EltTy} (X : s.Idx → Elt Ideal e) (r : Rect s) (G : r.shape.Idx → Elt Ideal e)
    (h : ∀ x, X (r.idx x) = G x) : View.ld X r = G := funext h
theorem canon_of {s : Shape} {e : EltTy} (G : s.Idx → Elt Ideal e) (L : List (View.Piece (Elt Ideal) s e)) (g : Fin s.rank → ℕ)
    (hc : View.Piece.tiledBy L g = true) (hp : View.PiecesOf G L) : View.canon L = G :=
  funext fun y => View.canon_apply_of_pieces G L hp.mem y (View.cover_of_tiledBy L g hc y)

variable (m : (ℓ : Loc nD τ sig) → Buf (Elt Ideal) ℓ)

/-- The up projection as the kernel's window holds it: four shards of its columns. -/
def wuS (A : Args) : S4x1024x1024.Idx → ℝ :=
  ten (L := 4) (M := 1024) (N := 1024) fun q j k => A.wu j ⟨1024 * q.val + k.val, by omega⟩
/-- The down projection as the kernel's window holds it: four shards of its rows. -/
def wdS (A : Args) : S4x1024x1024.Idx → ℝ :=
  ten (L := 4) (M := 1024) (N := 1024) fun q k j => A.wd ⟨1024 * q.val + k.val, by omega⟩ j

/-- The input blocks at one grid point are blocks of real arrays. -/
structure In (c : Dev nD) (t : Fin cfg0.N) (A : Args) (T : Fin 16) : Prop where
  b0 : iblk m c 0 t = up (blk T A.ct)
  b1 : iblk m c 1 t = up (blk T A.h)
  b2 : iblk m c 2 t = up (blk T (r A))
  b3 : iblk m c 3 t = up (row A.g)
  b4 : iblk m c 4 t = up (wuS A)
  b5 : iblk m c 5 t = up (wdS A)

variable {m} {c : Dev nD} {t : Fin cfg0.N} {A : Args} {T : Fin 16}

theorem ld_r (H : In m c t A T) (q : Fin 4) (G : ℕ) (hG : G = 1024 * q.val) (inb) :
    View.ld (Val := Elt Ideal) (e' := .bf16) (S := S256x4096) (iblk m c 2 t)
      (Rect.unit (s := S256x4096) ![0, G] ![256, 1024] inb) = up (slB T q (r A)) := by
  subst hG
  rw [H.b2]; refine ld_of _ _ _ fun x => ?_
  exact congrArg Real.toEReal (congrArg₂ (fun a b => r A (tk T a) b) (Fin.ext (by simp)) (Fin.ext (by simp)))
theorem ld_wu (H : In m c t A T) (q : Fin 4) (G : ℕ) (hG : G = q.val) (inb) :
    View.ld (Val := Elt Ideal) (e' := .bf16) (S := S4x1024x1024) (iblk m c 4 t)
      (Rect.unit (s := S4x1024x1024) ![G, 0, 0] ![1, 1024, 1024] inb) = up (wuB A q) := by
  subst hG
  rw [H.b4]; refine ld_of _ _ _ fun x => ?_
  have h0 : (x 0).val < 1 := (x 0).isLt
  show ((A.wu _ _ : ℝ) : EReal) = ((A.wu _ _ : ℝ) : EReal)
  exact congrArg Real.toEReal (congrArg₂ A.wu (Fin.ext (by simp)) (Fin.ext (by simp)))
theorem ld_wd (H : In m c t A T) (q : Fin 4) (G : ℕ) (hG : G = q.val) (inb) :
    View.ld (Val := Elt Ideal) (e' := .bf16) (S := S4x1024x1024) (iblk m c 5 t)
      (Rect.unit (s := S4x1024x1024) ![G, 0, 0] ![1, 1024, 1024] inb) = up (wdB A q) := by
  subst hG
  rw [H.b5]; refine ld_of _ _ _ fun x => ?_
  have h0 : (x 0).val < 1 := (x 0).isLt
  show ((A.wd _ _ : ℝ) : EReal) = ((A.wd _ _ : ℝ) : EReal)
  exact congrArg Real.toEReal (congrArg₂ A.wd (Fin.ext (by simp)) (Fin.ext (by simp)))

/-- A stored shard agrees with the block of the whole. -/
theorem at_sl (f : Fin 4096 → Fin 4096 → ℝ) (q : Fin 4) (b : ℕ) (hb : b = 1024 * q.val) (inb)
    (x : (Rect.unit (s := S256x4096) ![0, b] ![256, 1024] inb).shape.Idx) :
    up (slB T q f) x = up (blk T f) ((Rect.unit (s := S256x4096) ![0, b] ![256, 1024] inb).emb x) := by
  subst hb
  show ((f _ _ : ℝ) : EReal) = ((f _ _ : ℝ) : EReal)
  exact congrArg Real.toEReal (congrArg₂ f (Fin.ext (by simp [tk])) (Fin.ext (by simp)))
/-- Four stored shards agree with the block of the whole. -/
theorem sl_pieces (f : Fin 4096 → Fin 4096 → ℝ) (T : Fin 16) : View.PiecesOf (e := .bf16) (s := S256x4096) (Val := Elt Ideal) (up (blk T f)) [
    ⟨Rect.unit (s := S256x4096) ![0, 3072] ![256, 1024] (by decide), up (slB T 3 f)⟩,
    ⟨Rect.unit (s := S256x4096) ![0, 2048] ![256, 1024] (by decide), up (slB T 2 f)⟩,
    ⟨Rect.unit (s := S256x4096) ![0, 1024] ![256, 1024] (by decide), up (slB T 1 f)⟩,
    ⟨Rect.unit (s := S256x4096) ![0, 0] ![256, 1024] (by decide), up (slB T 0 f)⟩] :=
  ⟨fun x => at_sl f 3 _ (by decide) (by decide) x, fun x => at_sl f 2 _ (by decide) (by decide) x,
    fun x => at_sl f 1 _ (by decide) (by decide) x, fun x => at_sl f 0 _ (by decide) (by decide) x, trivial⟩

/-- The stored block of the stream's gradient. -/
theorem e6 (H : In m c t A T) : (outsAt0 m c t.val t.isLt).1 = up (blk T (dh A)) := by
  by_cases h0 : t.val % 16 = 0 <;> [rw [outsAt0_A m c t h0]; rw [outsAt0_B m c t h0]] <;> frame_out
  all_goals simp only [H.b0, H.b1, H.b3, p5, p6, p7, p8, ld_r H 0 0 rfl, ld_r H 1 1024 rfl, ld_r H 2 2048 rfl, ld_r H 3 3072 rfl, ld_wu H 0 0 rfl, ld_wu H 1 1 rfl, ld_wu H 2 2 rfl, ld_wu H 3 3 rfl, ld_wd H 0 0 rfl, ld_wd H 1 1 rfl, ld_wd H 2 2 rfl, ld_wd H 3 3 rfl, p10, p12, p17]
  all_goals rw [p23, p2]
theorem e7 (H : In m c t A T) : (outsAt0 m c t.val t.isLt).2.1 = up (blk T (dh A)) := by
  by_cases h0 : t.val % 16 = 0 <;> [rw [outsAt0_A m c t h0]; rw [outsAt0_B m c t h0]] <;> frame_out
  all_goals simp only [H.b0, H.b1, H.b3, p5, p6, p7, p8, ld_r H 0 0 rfl, ld_r H 1 1024 rfl, ld_r H 2 2048 rfl, ld_r H 3 3072 rfl, ld_wu H 0 0 rfl, ld_wu H 1 1 rfl, ld_wu H 2 2 rfl, ld_wu H 3 3 rfl, ld_wd H 0 0 rfl, ld_wd H 1 1 rfl, ld_wd H 2 2 rfl, ld_wd H 3 3 rfl, p10, p12, p17]
  all_goals rw [p23, p3]
/-- The stored block of the up projection's gradient. -/
theorem e8 (H : In m c t A T) : (outsAt0 m c t.val t.isLt).2.2.1 = up (blk T (du A)) := by
  by_cases h0 : t.val % 16 = 0 <;> [rw [outsAt0_A m c t h0]; rw [outsAt0_B m c t h0]] <;> frame_out
  all_goals simp only [H.b0, H.b1, H.b3, p5, p6, p7, p8, ld_r H 0 0 rfl, ld_r H 1 1024 rfl, ld_r H 2 2048 rfl, ld_r H 3 3072 rfl, ld_wu H 0 0 rfl, ld_wu H 1 1 rfl, ld_wu H 2 2 rfl, ld_wu H 3 3 rfl, ld_wd H 0 0 rfl, ld_wd H 1 1 rfl, ld_wd H 2 2 rfl, ld_wd H 3 3 rfl, p10, p12, p17, p15, p19, p22]
  all_goals exact canon_of _ _ ![256, 1024] (by sl_kernel_rfl) (sl_pieces (du A) T)
/-- The stored block of the activations. -/
theorem e9 (H : In m c t A T) : (outsAt0 m c t.val t.isLt).2.2.2.1 = up (blk T (a A)) := by
  by_cases h0 : t.val % 16 = 0 <;> [rw [outsAt0_A m c t h0]; rw [outsAt0_B m c t h0]] <;> frame_out
  all_goals simp only [H.b0, H.b1, H.b3, p5, p6, p7, p8, ld_r H 0 0 rfl, ld_r H 1 1024 rfl, ld_r H 2 2048 rfl, ld_r H 3 3072 rfl, ld_wu H 0 0 rfl, ld_wu H 1 1 rfl, ld_wu H 2 2 rfl, ld_wu H 3 3 rfl, ld_wd H 0 0 rfl, ld_wd H 1 1 rfl, ld_wd H 2 2 rfl, ld_wd H 3 3 rfl, p10, p12, p17, p11, p14, p18, p21]
  all_goals exact canon_of _ _ ![256, 1024] (by sl_kernel_rfl) (sl_pieces (a A) T)
/-- The scale gradient after a point: the previous one, or zero at the first, with the block's sum added. -/
theorem e10 (H : In m c t A T) (P : S8x1024.Idx → EReal) (hA : t.val % 16 = 0 → P = k0_pay4 (F := Ideal))
    (hB : ¬t.val % 16 = 0 → P = (outsAt0 m c (t.val - 1) (Nat.lt_of_le_of_lt (Nat.sub_le _ _) t.isLt)).2.2.2.2.1) (q : Fin 8) (n : Fin 1024) :
    (outsAt0 m c t.val t.isLt).2.2.2.2.1 (ix2 q n) = P (ix2 q n) + ((∑ r, dhn A (tk T r) n * xh (A.h (tk T r)) n : ℝ) : EReal) := by
  by_cases h0 : t.val % 16 = 0 <;> [rw [outsAt0_A m c t h0]; rw [outsAt0_B m c t h0]] <;> frame_out
  all_goals simp only [H.b0, H.b1, H.b3, p5, p6, p7, p8, ld_r H 0 0 rfl, ld_r H 1 1024 rfl, ld_r H 2 2048 rfl, ld_r H 3 3072 rfl, ld_wu H 0 0 rfl, ld_wu H 1 1 rfl, ld_wu H 2 2 rfl, ld_wu H 3 3 rfl, ld_wd H 0 0 rfl, ld_wd H 1 1 rfl, ld_wd H 2 2 rfl, ld_wd H 3 3 rfl, p10, p12, p17]
  all_goals rw [p24]
  · obtain rfl := hA h0
    exact p1 T _ _ q n
  · obtain rfl := hB h0
    exact p1 T _ _ q n
/-- The stored copy of the result's gradient. -/
theorem e11 (H : In m c t A T) : (outsAt0 m c t.val t.isLt).2.2.2.2.2 = up (blk T A.ct) := by
  by_cases h0 : t.val % 16 = 0 <;> [rw [outsAt0_A m c t h0]; rw [outsAt0_B m c t h0]] <;> frame_out
  all_goals rw [H.b0, p5]

end Cert.Ffn

end
-- ==== Proof.FfnHost.lean ====
/- The feed-forward kernel's operands on real arguments: what the lines before the call leave in the arrays it reads. -/
module

public import proofs.«01_k».proof.Proof.FfnBody

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen Cert.Coe
open Cert.Spec (rr xh rmsB)
open Cert.KernelIdeal.Pay (tk blk col row mat mat1 ten blk_ix col_ix row_ix mat_ix mat1_ix ten_ix)

variable (m : (ℓ : Loc nD τ sig) → Buf (Elt Ideal) ℓ)

/-- A quantity of one index. -/
def vec1 {N : ℕ} (f : Fin N → ℝ) : (⟨1, ![N]⟩ : Shape).Idx → ℝ := fun i => f (i 0)
theorem vec1_ix {N : ℕ} (f : Fin N → ℝ) (i : Fin N) : up (vec1 f) (ix1 i) = ((f i : ℝ) : EReal) := rfl

/-- The arguments are real arrays. -/
structure Has (c : Dev nD) (A : Args) : Prop where
  a0 : m ((c : Thread nD τ).loc main_arg0) = up (mat A.ct)
  a1 : m ((c : Thread nD τ).loc main_arg1) = up (mat A.h)
  a2 : m ((c : Thread nD τ).loc main_arg2) = up (vec1 A.g)
  a3 : m ((c : Thread nD τ).loc main_arg3) = up (mat A.wu)
  a4 : m ((c : Thread nD τ).loc main_arg4) = up (mat A.wd)

variable {m} {c : Dev nD} {A : Args}

theorem h23 (H : Has m c A) : V m c main_v23 = up (row A.g) := by
  unfold Gen.V; simp only [hostOps0, hostOps0_1, hostOps0_2, List.flatten_cons, List.flatten_nil, List.cons_append, List.nil_append]; after_results_simp; rw [H.a2]; funext i; idx_vars i; pointwise; rfl
theorem max_zero (x : ℝ) : max (x : EReal) ((0 : ℝ) : EReal) = ((max x 0 : ℝ) : EReal) := (EReal.coe_strictMono.monotone.map_max).symm
theorem h22 (H : Has m c A) : V m c main_v22 = up (mat (r A)) := by
  unfold Gen.V; simp only [hostOps0, hostOps0_1, hostOps0_2, List.flatten_cons, List.flatten_nil, List.cons_append, List.nil_append]; after_results_simp; rw [H.a1, H.a2, H.a3]; simp only [StableHlo.TRef.toBuf, StableHlo.TRef.ofBuf, cast_cast, cast_eq]; funext i; idx_vars i; pointwise
  simp only [mat_ix, vec1_ix, mul_up, sum_up, c_1024, c_eps, c_zero, div_up _ _ (show (1024 : ℝ) ≠ 0 by norm_num), add_up, rsqrt_up _ (ms_pos _), max_zero]
  rfl
theorem h6 (H : Has m c A) : V m c main_v6 = concatenate S4x4096x1024 1 [
    ⟨S4x1024x1024, truncf .bf16 (transpose S4x1024x1024 [1, 0, 2] (shapeCast S1024x4x1024 (up (mat A.wu)) shapeCasts_S1024x4096_S1024x4x1024) transposes_S1024x4x1024_S4x1024x1024_1_0_2) bitsLt_bf16_f32⟩,
    ⟨S4x1024x1024, truncf .bf16 (shapeCast S4x1024x1024 (up (mat A.wd)) shapeCasts_S4096x1024_S4x1024x1024) bitsLt_bf16_f32⟩,
    ⟨S4x2048x1024, broadcastInDim S4x2048x1024 ![] bcast_S_S4x2048x1024 (constant (F := Ideal) S_ .bf16 0#16)⟩] concatenates_S4x1024x1024_S4x1024x1024_S4x2048x1024_S4x4096x1024_d1 := by
  rw [← H.a3, ← H.a4]
  unfold Gen.V; simp only [hostOps0, hostOps0_1, hostOps0_2, List.flatten_cons, List.flatten_nil, List.cons_append, List.nil_append]; after_results_simp
  rfl
theorem h6_up (H : Has m c A) (q : Fin 4) (j k : Fin 1024) : V m c main_v6 (ix3 q ⟨j.val, by omega⟩ k) = ((A.wu j ⟨1024 * q.val + k.val, by omega⟩ : ℝ) : EReal) := by
  rw [h6 H]; pointwise
  exact congrArg (fun y => ((A.wu j y : ℝ) : EReal)) (Fin.ext (by simp; omega))
theorem h6_down (H : Has m c A) (q : Fin 4) (j k : Fin 1024) : V m c main_v6 (ix3 q ⟨1024 + j.val, by omega⟩ k) = ((A.wd ⟨1024 * q.val + j.val, by omega⟩ k : ℝ) : EReal) := by
  rw [h6 H]; pointwise
  exact congrArg (fun y => ((A.wd y k : ℝ) : EReal)) (Fin.ext (by simp; omega))

end Cert.Ffn

end
-- ==== Proof.FfnFinal.lean ====
/- The feed-forward kernel's result arrays on real arguments. -/
module

public import proofs.«01_k».proof.Proof.FfnHost

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen Cert.Coe
open Cert.Spec (rr xh rmsB)
open Cert.KernelIdeal.Pay (tk blk col row mat mat1 ten)

/-- Where each window's block lies. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 1, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![t.val, 0] :=
  (by decide +kernel : ∀ t : Fin grid0.N, _)

variable {m : (ℓ : Loc nD τ sig) → Buf (Elt Ideal) ℓ} {c : Dev nD} {A : Args}

/-- A grid point as one of the 16 blocks of tokens. -/
def pt (t : Fin cfg0.N) : Fin 16 := ⟨t.val, by have h := t.isLt; have := N_0; change t.val < grid0.N at h; omega⟩

theorem at2 {M N : ℕ} (f : Fin M → Fin N → ℝ) {i i' : Fin M} {j j' : Fin N} (hi : i.val = i'.val) (hj : j.val = j'.val) :
    ((f i j : ℝ) : EReal) = ((f i' j' : ℝ) : EReal) := by rw [Fin.ext hi, Fin.ext hj]
theorem mat_at {M N : ℕ} (f : Fin M → Fin N → ℝ) (i : (⟨2, ![M, N]⟩ : Shape).Idx) (a : Fin M) (b : Fin N)
    (h0 : (i 0).val = a.val) (h1 : (i 1).val = b.val) : up (mat f) i = ((f a b : ℝ) : EReal) := at2 f h0 h1
theorem ten_at {L M N : ℕ} {G : (⟨3, ![L, M, N]⟩ : Shape).Idx → EReal} (i : (⟨3, ![L, M, N]⟩ : Shape).Idx) (q : Fin L) (a : Fin M) (b : Fin N)
    (h0 : (i 0).val = q.val) (h1 : (i 1).val = a.val) (h2 : (i 2).val = b.val) : G i = G (ix3 q a b) := by
  obtain rfl : i 0 = q := Fin.ext h0
  obtain rfl : i 1 = a := Fin.ext h1
  obtain rfl : i 2 = b := Fin.ext h2
  rw [← eq_ix3 i]

theorem i0 (H : Has m c A) (t : Fin cfg0.N) : iblk m c 0 t = up (blk (pt t) A.ct) := by
  funext y
  blk_simp [iblk]
  rw [V_main_arg0, H.a0]
  exact mat_at _ _ (tk (pt t) (y 0)) (y 1) (by blk_simp [idx t]; simp [tk, pt]; omega) (by blk_simp [idx t])
theorem i1 (H : Has m c A) (t : Fin cfg0.N) : iblk m c 1 t = up (blk (pt t) A.h) := by
  funext y
  blk_simp [iblk]
  rw [V_main_arg1, H.a1]
  exact mat_at _ _ (tk (pt t) (y 0)) (y 1) (by blk_simp [idx t]; simp [tk, pt]; omega) (by blk_simp [idx t])
theorem i2 (H : Has m c A) (t : Fin cfg0.N) : iblk m c 2 t = up (blk (pt t) (r A)) := by
  funext y
  blk_simp [iblk]
  rw [h22 H]
  exact mat_at _ _ (tk (pt t) (y 0)) (y 1) (by blk_simp [idx t]; simp [tk, pt]; omega) (by blk_simp [idx t])
theorem i3 (H : Has m c A) (t : Fin cfg0.N) : iblk m c 3 t = up (row A.g) := by
  have e : iblk m c 3 t = V m c main_v23 := by blk_ext! [iblk, idx t]
  rw [e, h23 H]
theorem i4 (H : Has m c A) (t : Fin cfg0.N) : iblk m c 4 t = up (wuS A) := by
  funext y
  blk_simp [iblk]
  refine (ten_at _ (y 0) ⟨(y 1).val, by idx_bounds y; omega⟩ (y 2) (by blk_simp [idx t]) (by blk_simp [idx t]) (by blk_simp [idx t])).trans ?_
  exact h6_up H (y 0) (y 1) (y 2)
theorem i5 (H : Has m c A) (t : Fin cfg0.N) : iblk m c 5 t = up (wdS A) := by
  funext y
  blk_simp [iblk]
  refine (ten_at _ (y 0) ⟨1024 + (y 1).val, by idx_bounds y; omega⟩ (y 2) (by blk_simp [idx t]) (by blk_simp [idx t]) (by blk_simp [idx t])).trans ?_
  exact h6_down H (y 0) (y 1) (y 2)

/-- The input blocks of every grid point are blocks of the real arguments. -/
theorem inp (H : Has m c A) (t : Fin cfg0.N) : In m c t A (pt t) := ⟨i0 H t, i1 H t, i2 H t, i3 H t, i4 H t, i5 H t⟩

/-- The first result: the gradient of the layer's input. -/
theorem r6 (H : Has m c A) : (dats m 0 c).arrAt 6 cfg0.N = up (mat (dh A)) := by
  refine (dats m 0 c).arrAt_eq_of_covers 6 _ (by decide +kernel) fun t hf y => ?_
  blk_simp
  rw [after0_6, e6 (inp H t)]
  exact (mat_at _ _ (tk (pt t) (y 0)) (y 1) (by blk_simp [idx t]; simp [tk, pt]; omega) (by blk_simp [idx t])).symm
theorem r7 (H : Has m c A) : (dats m 0 c).arrAt 7 cfg0.N = up (mat (dh A)) := by
  refine (dats m 0 c).arrAt_eq_of_covers 7 _ (by decide +kernel) fun t hf y => ?_
  blk_simp
  rw [after0_7, e7 (inp H t)]
  exact (mat_at _ _ (tk (pt t) (y 0)) (y 1) (by blk_simp [idx t]; simp [tk, pt]; omega) (by blk_simp [idx t])).symm
theorem r8 (H : Has m c A) : (dats m 0 c).arrAt 8 cfg0.N = up (mat (du A)) := by
  refine (dats m 0 c).arrAt_eq_of_covers 8 _ (by decide +kernel) fun t hf y => ?_
  blk_simp
  rw [after0_8, e8 (inp H t)]
  exact (mat_at _ _ (tk (pt t) (y 0)) (y 1) (by blk_simp [idx t]; simp [tk, pt]; omega) (by blk_simp [idx t])).symm
theorem r9 (H : Has m c A) : (dats m 0 c).arrAt 9 cfg0.N = up (mat (a A)) := by
  refine (dats m 0 c).arrAt_eq_of_covers 9 _ (by decide +kernel) fun t hf y => ?_
  blk_simp
  rw [after0_9, e9 (inp H t)]
  exact (mat_at _ _ (tk (pt t) (y 0)) (y 1) (by blk_simp [idx t]; simp [tk, pt]; omega) (by blk_simp [idx t])).symm
theorem r11 (H : Has m c A) : (dats m 0 c).arrAt 11 cfg0.N = up (mat A.ct) := by
  refine (dats m 0 c).arrAt_eq_of_covers 11 _ (by decide +kernel) fun t hf y => ?_
  blk_simp
  rw [after0_11, e11 (inp H t)]
  exact (mat_at _ _ (tk (pt t) (y 0)) (y 1) (by blk_simp [idx t]; simp [tk, pt]; omega) (by blk_simp [idx t])).symm

/-- A result added to at every grid point and zeroed at the first one is the sum of what the points add. -/
theorem acc {S : Shape} (f : (n : ℕ) → n < cfg0.N → S.Idx → EReal) (z : S.Idx → EReal) (hz : ∀ i, z i = 0) (X : Fin 16 → S.Idx → ℝ)
    (h : ∀ (t : Fin cfg0.N) (P : S.Idx → EReal), (t.val % 16 = 0 → P = z)
      → (¬t.val % 16 = 0 → P = f (t.val - 1) (Nat.lt_of_le_of_lt (Nat.sub_le _ _) t.isLt))
      → ∀ i, f t.val t.isLt i = P i + ((X (pt t) i : ℝ) : EReal)) (i : S.Idx) :
    f t0_15.val t0_15.isLt i = ((∑ T, X T i : ℝ) : EReal) := by
  rw [Pipeline.eq_sum_fin_of_reset_step_apply_last f 16 (fun _ => 0) (fun t i => ((X (pt t) i : ℝ) : EReal))
    (fun t e i => by rw [h t z (fun _ => rfl) (fun n => absurd e n) i, hz])
    (fun t e i => h t _ (fun n => absurd n e) (fun _ => rfl) i) (le_of_eq N_0) t0_15 rfl i, zero_add, ← sum_up]
  exact Fintype.sum_equiv (finCongr N_0) _ _ fun t => rfl
/-- The 16 blocks of 256 tokens are all the tokens. -/
theorem sum_tk (f : Fin 4096 → ℝ) : ∑ T, ∑ r, f (tk T r) = ∑ t, f t := by
  rw [Fin.sum_univ_tiles 16 256 rfl]
  exact Finset.sum_congr rfl fun T _ => Finset.sum_congr rfl fun r _ => congrArg f (Fin.ext (by simp [tk]; omega))

/-- The gradient of the norm's scale, in eight rows alike. -/
theorem r10 (H : Has m c A) : (dats m 0 c).arrAt 10 cfg0.N = up (mat (M := 8) fun _ => dg A) := by
  refine (dats m 0 c).arrAt_eq_of_after_last 10 t0_15 (by decide +kernel) _ fun j => ?_
  blk_simp
  rw [after0_10, acc (fun n h => (outsAt0 m c n h).2.2.2.2.1) (k0_pay4 (F := Ideal)) (fun i => ?_)
    (fun T i => ∑ r, dhn A (tk T r) (i 1) * xh (A.h (tk T r)) (i 1)) (fun t P hA hB i => ?_) j]
  · rw [sum_tk fun t => dhn A t (j 1) * xh (A.h t) (j 1)]
    exact (mat_at (M := 8) (fun _ => dg A) _ (j 0) (j 1) (by blk_simp [idx t0_15]) (by blk_simp [idx t0_15])).symm
  · pointwise [k0_pay4]
  · idx_vars i
    exact e10 (inp H t) P hA hB _ _

end Cert.Ffn

end
-- ==== Proof.FfnRef.lean ====
/- The feed-forward reference read on real arrays: each quantity its lines compute, where every argument is real, is the
   quantity of FfnSpec.lean. -/
module

public import proofs.«01_k».proof.Proof.FfnRows
public import proofs.«01_k».proof.Proof.Gen.Reference2Ideal.Read
public import Idealize.ShloMosaic.Lib.Pipeline.ValueKit

@[expose] public section

set_option maxRecDepth 16384

noncomputable section

namespace Cert.Ffn.Val

open Idealize.ShloMosaic Idealize.ShloMosaic.TcCoe Idealize.SL.Sem
open Cert.Reference2Ideal Cert.Reference2Ideal.Gen Cert.Reference2Ideal.Read Cert.Coe Cert.Ffn
open Cert.Spec (rr xh rmsB eps rmsB_eq)
open Cert.KernelIdeal.Pay (mat)

/-- A quantity of one index. -/
def vec {N : ℕ} (f : Fin N → ℝ) : (⟨1, ![N]⟩ : Shape).Idx → ℝ := fun i => f (i 0)

theorem max_up (a b : ℝ) : max (a : EReal) (b : EReal) = ((max a b : ℝ) : EReal) :=
  (EReal.coe_strictMono.monotone.map_max).symm

variable (A : Args)

theorem v6 : val_main_v6 (F := Ideal) (up (mat A.h)) = up (mat (N := 1) fun t _ => ((∑ k, A.h t k * A.h t k) * (1 / 1024) + eps)) := by
  funext i; idx_vars i
  simp only [val_main_v6_apply, val_main_v5_apply, val_main_cst_1_apply, val_main_v4_apply, val_main_v3_apply, val_main_cst_0_apply, val_main_v2_apply, val_main_v1_apply, val_main_cst_apply, val_main_v0_apply]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v7 : val_main_v7 (F := Ideal) (up (mat A.h)) = up (mat (N := 1) fun t _ => rr (A.h t)) := by
  funext i; idx_vars i
  simp only [val_main_v7_apply, v6 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rw [rsqrt_up _ (by exact ms_pos _)]; rfl
theorem v10 : val_main_v10 (F := Ideal) (up (mat A.h)) = up (mat (N := 1) fun t _ => -(1 / 2) * (rr (A.h t) / ((∑ k, A.h t k * A.h t k) * (1 / 1024) + eps))) := by
  funext i; idx_vars i
  simp only [val_main_v10_apply, val_main_v9_apply, val_main_cst_2_apply, val_main_v8_apply, v7 A, v6 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rw [div_up _ _ (by exact (ms_pos _).ne'), mul_up, mul_one_div]; rfl
theorem v12 : val_main_v12 (F := Ideal) (up (mat A.h)) = up (mat fun t => xh (A.h t)) := by
  funext i; idx_vars i
  simp only [val_main_v12_apply, val_main_v11_apply, v7 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v15 : val_main_v15 (F := Ideal) (up (mat A.h)) (up (vec A.g)) = up (mat (hn A)) := by
  funext i; idx_vars i
  simp only [val_main_v15_apply, val_main_v14_apply, val_main_v13_apply, v12 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v16 : val_main_v16 (F := Ideal) (up (mat A.h)) (up (vec A.g)) (up (mat A.wu)) = up (mat (u A)) := by
  funext i; idx_vars i
  simp only [val_main_v16_apply, v15 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v17 : val_main_v17 (F := Ideal) (up (mat A.h)) (up (vec A.g)) (up (mat A.wu)) = up (mat (r A)) := by
  funext i; idx_vars i
  simp only [val_main_v17_apply, val_main_call0_v0_apply, val_main_call0_cst_apply, v16 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v21 : val_main_v21 (F := Ideal) (up (mat A.h)) (up (vec A.g)) (up (mat A.wu)) = up (mat (a A)) := by
  funext i; idx_vars i
  simp only [val_main_v21_apply, v17 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v25 : val_main_v25 (F := Ideal) (up (mat A.ct)) (up (mat A.wd)) = up (mat (da A)) := by
  funext i; idx_vars i
  simp only [val_main_v25_apply]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v28 : val_main_v28 (F := Ideal) (up (mat A.ct)) (up (mat A.h)) (up (vec A.g)) (up (mat A.wu)) (up (mat A.wd)) = up (mat (du A)) := by
  funext i; idx_vars i
  simp only [val_main_v28_apply, val_main_v19_apply, val_main_v18_apply, val_main_cst_3_apply, val_main_v26_apply, val_main_v23_apply, val_main_v22_apply, val_main_cst_5_apply, val_main_v27_apply, val_main_cst_6_apply, v16 A, v17 A, v25 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  show (if ((0 : ℝ) : EReal) < ((u A i0 i1 : ℝ) : EReal) then ((du A i0 i1 : ℝ) : EReal) else ((0 : ℝ) : EReal)) = ((du A i0 i1 : ℝ) : EReal)
  split
  · rfl
  · rename_i h
    have h' : u A i0 i1 ≤ 0 := not_lt.mp fun k => h (EReal.coe_lt_coe_iff.mpr k)
    unfold du r
    rw [max_eq_right h', mul_zero, mul_zero]
theorem v29 : val_main_v29 (F := Ideal) (up (mat A.ct)) (up (mat A.h)) (up (vec A.g)) (up (mat A.wu)) (up (mat A.wd)) = up (mat (dhn A)) := by
  funext i; idx_vars i
  simp only [val_main_v29_apply, v28 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v35 : val_main_v35 (F := Ideal) (up (mat A.ct)) (up (mat A.h)) (up (vec A.g)) (up (mat A.wu)) (up (mat A.wd)) = up (vec (dg A)) := by
  funext i; idx_vars i
  simp only [val_main_v35_apply, val_main_cst_8_apply, val_main_v32_apply, val_main_v31_apply, val_main_cst_7_apply, val_main_v30_apply, v12 A, v29 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rw [Fin.sum_univ_one]
  have e : idx_main_v32 (idx_main_v35 (ix1 i0) 0) = ix1 i0 := by
    funext a; obtain rfl : a = 0 := Subsingleton.elim _ _; exact Fin.ext (by simp)
  rw [e]
  exact congrArg _ (Finset.sum_congr rfl fun k _ => mul_comm _ _)
theorem v34 : val_main_v34 (F := Ideal) (up (mat A.ct)) (up (mat A.h)) (up (vec A.g)) (up (mat A.wu)) (up (mat A.wd)) = up (mat fun t j => dhn A t j * A.g j) := by
  funext i; idx_vars i
  simp only [val_main_v34_apply, val_main_v33_apply, val_main_v13_apply, v29 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl

/-- The norm's inner gradient of a token. -/
def grm (t : Fin 4096) : ℝ :=
  (∑ k, A.h t k * (dhn A t k * A.g k)) * (-(1 / 2) * (rr (A.h t) / ((∑ k, A.h t k * A.h t k) * (1 / 1024) + eps))) * (1 / 1024)
theorem v44 : val_main_v44 (F := Ideal) (up (mat A.ct)) (up (mat A.h)) (up (vec A.g)) (up (mat A.wu)) (up (mat A.wd)) = up (vec (grm A)) := by
  funext i; idx_vars i
  simp only [val_main_v44_apply, val_main_cst_11_apply, val_main_v43_apply, val_main_v42_apply, val_main_cst_10_apply, val_main_v41_apply, val_main_v38_apply, val_main_v37_apply, val_main_cst_9_apply, val_main_v36_apply, v34 A, v10 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rw [Fin.sum_univ_one]
  have e : idx_main_v38 (idx_main_v44 (ix1 i0) 0) = ix1 i0 := by
    funext a; obtain rfl : a = 0 := Subsingleton.elim _ _; exact Fin.ext (by simp)
  rw [e]; rfl
theorem v50 : val_main_v50 (F := Ideal) (up (mat A.ct)) (up (mat A.h)) (up (vec A.g)) (up (mat A.wu)) (up (mat A.wd)) = up (mat (dh A)) := by
  funext i; idx_vars i
  simp only [val_main_v50_apply, val_main_v49_apply, val_main_v47_apply, val_main_v40_apply, val_main_v39_apply, val_main_v46_apply, val_main_v45_apply, val_main_v48_apply, v34 A, v7 A, v44 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  exact congrArg (fun y : ℝ => ((A.ct i0 i1 + y : ℝ) : EReal)) (rmsB_eq (A.h i0) (fun k => dhn A i0 k * A.g k) i1 (grm A i0) rfl)
theorem v51 : val_main_v51 (F := Ideal) (up (mat A.ct)) (up (mat A.h)) (up (vec A.g)) (up (mat A.wu)) (up (mat A.wd)) = up (mat (dh A)) := by
  funext i; idx_vars i
  rw [val_main_v51_apply, v50 A]; rfl
theorem v52 : val_main_v52 (F := Ideal) (up (mat A.ct)) (up (mat A.h)) (up (vec A.g)) (up (mat A.wu)) (up (mat A.wd)) = up (mat (du A)) := by
  funext i; idx_vars i
  rw [val_main_v52_apply, v28 A]; rfl
theorem v53 : val_main_v53 (F := Ideal) (up (mat A.h)) (up (vec A.g)) (up (mat A.wu)) = up (mat (a A)) := by
  funext i; idx_vars i
  rw [val_main_v53_apply, v21 A]; rfl
theorem v54 : val_main_v54 (F := Ideal) (up (mat A.ct)) (up (mat A.h)) (up (vec A.g)) (up (mat A.wu)) (up (mat A.wd)) = up (mat (M := 8) fun _ => dg A) := by
  funext i; idx_vars i
  simp only [val_main_v54_apply, v35 A]
  pointwise
  simp only [up_apply, mul_up, sum_up, c_1024, c_eps, c_zero, c_one, c_half, c_nhalf, c_two, zero_up, one_up, zero_add_up, div_up _ _ (show (1024 : ℝ) ≠ 0 by norm_num), add_up, sub_up, neg_up, max_up]
  rfl
theorem v55 : val_main_v55 (F := Ideal) (up (mat A.ct)) = up (mat A.ct) := by
  funext i; idx_vars i
  rw [val_main_v55_apply]; rfl

end Cert.Ffn.Val

end
-- ==== Proof.FfnFinite.lean ====
/- Finite arguments of the feed-forward kernel are real arrays: what the precondition says of every argument. -/
module

public import proofs.«01_k».proof.Defs
public import proofs.«01_k».proof.Proof.Finite
public import proofs.«01_k».proof.Proof.FfnFinal
public import proofs.«01_k».proof.Proof.FfnRef

@[expose] public section

set_option maxRecDepth 16384

noncomputable section

namespace Cert.Ffn

open Idealize.ShloMosaic Idealize.ShloMosaic.TcCoe Idealize.SL.Sem
open Cert.Coe
open Cert.KernelIdeal.Pay (mat)

/-- The precondition's stated shape facts. -/
theorem facts : Cert.Pre_finite2.Facts where
  bcast_S_S4096x1024 := by decide
  bcast_S_S1024 := by decide
  bcast_S_S1024x4096 := by decide

/-- The arguments' real parts. -/
def args (m : (ℓ : Loc Cert.Kernel2Ideal.nD Cert.Kernel2Ideal.τ Cert.Kernel2Ideal.sig) → Buf (Elt Ideal) ℓ) (c : Dev Cert.Kernel2Ideal.nD) : Args where
  ct := fun a b => EReal.toReal (m ((c.tc : Thread Cert.Kernel2Ideal.nD Cert.Kernel2Ideal.τ).loc Cert.Kernel2Ideal.main_arg0) (ix2 a b))
  h := fun a b => EReal.toReal (m ((c.tc : Thread Cert.Kernel2Ideal.nD Cert.Kernel2Ideal.τ).loc Cert.Kernel2Ideal.main_arg1) (ix2 a b))
  g := fun a => EReal.toReal (m ((c.tc : Thread Cert.Kernel2Ideal.nD Cert.Kernel2Ideal.τ).loc Cert.Kernel2Ideal.main_arg2) (ix1 a))
  wu := fun a b => EReal.toReal (m ((c.tc : Thread Cert.Kernel2Ideal.nD Cert.Kernel2Ideal.τ).loc Cert.Kernel2Ideal.main_arg3) (ix2 a b))
  wd := fun a b => EReal.toReal (m ((c.tc : Thread Cert.Kernel2Ideal.nD Cert.Kernel2Ideal.τ).loc Cert.Kernel2Ideal.main_arg4) (ix2 a b))

/-- Where the precondition holds, the arguments are their real parts. -/
theorem has [h : Cert.Pre_finite2.Facts] (m : (ℓ : Loc Cert.Kernel2Ideal.nD Cert.Kernel2Ideal.τ Cert.Kernel2Ideal.sig) → Buf (Elt Ideal) ℓ)
    (hp : Cert.Pre_Kernel2Ideal_finite2 m) (c : Dev Cert.Kernel2Ideal.nD) : Has m c (args m c) := by
  obtain ⟨h0, h1, h2, h3, h4⟩ := hp c
  exact {
    a0 := funext fun i => (Cert.Fin.real_of _ Cert.Pre_finite2.Facts.bcast_S_S4096x1024 h0 i).trans (congrArg (fun j => ((EReal.toReal (m ((c.tc : Thread Cert.Kernel2Ideal.nD Cert.Kernel2Ideal.τ).loc Cert.Kernel2Ideal.main_arg0) j) : ℝ) : EReal)) (eq_ix2 i))
    a1 := funext fun i => (Cert.Fin.real_of _ Cert.Pre_finite2.Facts.bcast_S_S4096x1024 h1 i).trans (congrArg (fun j => ((EReal.toReal (m ((c.tc : Thread Cert.Kernel2Ideal.nD Cert.Kernel2Ideal.τ).loc Cert.Kernel2Ideal.main_arg1) j) : ℝ) : EReal)) (eq_ix2 i))
    a2 := funext fun i => (Cert.Fin.real_of _ Cert.Pre_finite2.Facts.bcast_S_S1024 h2 i).trans (congrArg (fun j => ((EReal.toReal (m ((c.tc : Thread Cert.Kernel2Ideal.nD Cert.Kernel2Ideal.τ).loc Cert.Kernel2Ideal.main_arg2) j) : ℝ) : EReal)) (eq_ix1 i))
    a3 := funext fun i => (Cert.Fin.real_of _ Cert.Pre_finite2.Facts.bcast_S_S1024x4096 h3 i).trans (congrArg (fun j => ((EReal.toReal (m ((c.tc : Thread Cert.Kernel2Ideal.nD Cert.Kernel2Ideal.τ).loc Cert.Kernel2Ideal.main_arg3) j) : ℝ) : EReal)) (eq_ix2 i))
    a4 := funext fun i => (Cert.Fin.real_of _ Cert.Pre_finite2.Facts.bcast_S_S4096x1024 h4 i).trans (congrArg (fun j => ((EReal.toReal (m ((c.tc : Thread Cert.Kernel2Ideal.nD Cert.Kernel2Ideal.τ).loc Cert.Kernel2Ideal.main_arg4) j) : ℝ) : EReal)) (eq_ix2 i))
  }

end Cert.Ffn

namespace Cert.Ffn.Val

open Idealize.ShloMosaic Idealize.ShloMosaic.TcCoe Idealize.SL.Sem
open Cert.Reference2Ideal Cert.Reference2Ideal.Gen Cert.Reference2Ideal.Read Cert.Coe
open Cert.KernelIdeal.Pay (mat)

/-- The reference's arguments are real arrays. -/
structure Has (x0 x1 : S4096x1024.Idx → EReal) (x2 : S1024.Idx → EReal) (x3 : S1024x4096.Idx → EReal) (x4 : S4096x1024.Idx → EReal) (A : Args) : Prop where
  a0 : x0 = up (mat A.ct)
  a1 : x1 = up (mat A.h)
  a2 : x2 = up (vec A.g)
  a3 : x3 = up (mat A.wu)
  a4 : x4 = up (mat A.wd)

variable {x0 x1 : S4096x1024.Idx → EReal} {x2 : S1024.Idx → EReal} {x3 : S1024x4096.Idx → EReal} {x4 : S4096x1024.Idx → EReal} {A : Args}

theorem r50 (H : Has x0 x1 x2 x3 x4 A) : val_main_v50 (F := Ideal) x0 x1 x2 x3 x4 = up (mat (dh A)) := by
  rw [H.a0, H.a1, H.a2, H.a3, H.a4]; exact v50 A
theorem r51 (H : Has x0 x1 x2 x3 x4 A) : val_main_v51 (F := Ideal) x0 x1 x2 x3 x4 = up (mat (dh A)) := by
  rw [H.a0, H.a1, H.a2, H.a3, H.a4]; exact v51 A
theorem r52 (H : Has x0 x1 x2 x3 x4 A) : val_main_v52 (F := Ideal) x0 x1 x2 x3 x4 = up (mat (du A)) := by
  rw [H.a0, H.a1, H.a2, H.a3, H.a4]; exact v52 A
theorem r53 (H : Has x0 x1 x2 x3 x4 A) : val_main_v53 (F := Ideal) x1 x2 x3 = up (mat (a A)) := by
  rw [H.a1, H.a2, H.a3]; exact v53 A
theorem r54 (H : Has x0 x1 x2 x3 x4 A) : val_main_v54 (F := Ideal) x0 x1 x2 x3 x4 = up (mat (M := 8) fun _ => dg A) := by
  rw [H.a0, H.a1, H.a2, H.a3, H.a4]; exact v54 A
theorem r55 (H : Has x0 x1 x2 x3 x4 A) : val_main_v55 (F := Ideal) x0 = up (mat A.ct) := by
  rw [H.a0]; exact v55 A

end Cert.Ffn.Val

end
-- ==== Proof.Down.lean ====
/- The down projection's weight gradient: the array that the kernel leaves, and the reference's. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

namespace Cert.Down

open Idealize.ShloMosaic Idealize.ShloMosaic.TcCoe Idealize.SL.Sem
open Idealize.ShloMosaic.Pipeline (Dat)
open Cert.Kernel3Ideal Cert.Kernel3Ideal.Gen

/-- An entry of a transposed product over the tokens. -/
def prod {M N : ℕ} (x : (⟨2, ![4096, M]⟩ : Shape).Idx → EReal) (y : (⟨2, ![4096, N]⟩ : Shape).Idx → EReal) (a : Fin M) (b : Fin N) : EReal :=
  ∑ k : Fin 4096, x (ix2 k a) * y (ix2 k b)

/-- The buffer of gradients with the rows from 1024 to 2047 of shard `q` replaced by rows `1024 q` on of the product. -/
def out (u : S4x4096x1024.Idx → EReal) (x : S4096x4096.Idx → EReal) (y : S4096x1024.Idx → EReal) : S4x4096x1024.Idx → EReal :=
  fun i => if h : (i 1).val / 1024 = 1 then
    prod x y ⟨1024 * (i 0).val + ((i 1).val - 1024), by idx_bounds i; omega⟩ (i 2) else u i

theorem out_at (u : S4x4096x1024.Idx → EReal) (x : S4096x4096.Idx → EReal) (y : S4096x1024.Idx → EReal) (i : S4x4096x1024.Idx)
    (a : Fin 4096) (b : Fin 1024) (h1 : (i 1).val / 1024 = 1) (h : 1024 * (i 0).val + ((i 1).val - 1024) = a.val)
    (h2 : (i 2).val = b.val) : out u x y i = prod x y a b := by
  unfold out
  rw [dif_pos h1]
  exact congrArg₂ (prod x y) (Fin.ext h) (Fin.ext h2)

/-- Where each window's block lies. -/
theorem idx : ∀ t : Fin cfg0.N, win0_0.index t = ![t.val % 2, t.val / 2] ∧ win0_1.index t = ![t.val % 2, 0]
    ∧ win0_2.index t = ![t.val / 2, 1, 0] :=
  (by decide +kernel : ∀ t : Fin grid0.N, _)

theorem pay1 (i : S1x1024x1024.Idx) : k0_pay1 (F := Ideal) i = 0 := by
  idx_vars i; pointwise [k0_pay1]
theorem pay2 (P : S1x1024x1024.Idx → EReal) (X Y : S2048x1024.Idx → EReal) (q : Fin 1) (a b : Fin 1024) :
    k0_pay2 (F := Ideal) P X Y (ix3 q a b) = P (ix3 0 a b) + ∑ k : Fin 2048, X (ix2 k a) * Y (ix2 k b) := by
  pointwise [k0_pay2]

variable (m : (ℓ : Loc nD τ sig) → Buf (Elt Ideal) ℓ) (c : Dev nD)

theorem v0 : V m c main_v0 = m ((c : Thread nD τ).loc main_arg0) := by
  unfold V; after_results; try rfl

/-- What a point leaves: the previous point's block, or zero at a shard's first point, with the product of the point's tokens
    added. -/
theorem point (t : Fin cfg0.N) (P : S1x1024x1024.Idx → EReal) (hA : t.val % 2 = 0 → P = k0_pay1 (F := Ideal))
    (hB : ¬t.val % 2 = 0 → P = outsAt0 m c (t.val - 1) (Nat.lt_of_le_of_lt (Nat.sub_le _ _) t.isLt)) (q : Fin 1) (a b : Fin 1024) :
    outsAt0 m c t.val t.isLt (ix3 q a b)
      = P (ix3 0 a b) + ∑ k : Fin 2048, (show EReal from iblk m c 0 t (ix2 k a)) * (show EReal from iblk m c 1 t (ix2 k b)) := by
  by_cases h0 : t.val % 2 = 0 <;> [rw [outsAt0_A m c t h0]; rw [outsAt0_B m c t h0]] <;> frame_out
  · obtain rfl := hA h0
    exact pay2 _ _ _ q a b
  · obtain rfl := hB h0
    exact pay2 _ _ _ q a b

theorem at2 {M N : ℕ} {G : (⟨2, ![M, N]⟩ : Shape).Idx → EReal} (i : (⟨2, ![M, N]⟩ : Shape).Idx) (a : Fin M) (b : Fin N)
    (h0 : (i 0).val = a.val) (h1 : (i 1).val = b.val) : G i = G (ix2 a b) := by
  obtain rfl : i 0 = a := Fin.ext h0
  obtain rfl : i 1 = b := Fin.ext h1
  rw [← eq_ix2 i]

theorem b0 (t : Fin cfg0.N) (k : Fin 2048) (a : Fin 1024) (k' a' : Fin 4096) (hk : k'.val = 2048 * (t.val % 2) + k.val)
    (ha : a'.val = 1024 * (t.val / 2) + a.val) : iblk m c 0 t (ix2 k a) = m ((c : Thread nD τ).loc main_arg1) (ix2 k' a') := by
  blk_simp [iblk]
  rw [V_main_arg1]
  exact at2 _ _ _ (by blk_simp [idx t]; omega) (by blk_simp [idx t]; omega)
theorem b1 (t : Fin cfg0.N) (k : Fin 2048) (b : Fin 1024) (k' : Fin 4096) (hk : k'.val = 2048 * (t.val % 2) + k.val) :
    iblk m c 1 t (ix2 k b) = m ((c : Thread nD τ).loc main_arg2) (ix2 k' b) := by
  blk_simp [iblk]
  rw [V_main_arg2]
  exact at2 _ _ _ (by blk_simp [idx t]; omega) (by blk_simp [idx t])

/-- After a shard's second point the block is the product over all the tokens. -/
theorem last (t : Fin cfg0.N) (ht : t.val % 2 = 1) (q : Fin 1) (a b : Fin 1024) (a' : Fin 4096) (ha : a'.val = 1024 * (t.val / 2) + a.val) :
    outsAt0 m c t.val t.isLt (ix3 q a b)
      = prod (m ((c : Thread nD τ).loc main_arg1)) (m ((c : Thread nD τ).loc main_arg2)) a' b := by
  have hs : (t.val - 1) % 2 = 0 := by omega
  rw [point m c t _ (fun h => by omega) (fun _ => rfl) q a b,
    point m c ⟨t.val - 1, Nat.lt_of_le_of_lt (Nat.sub_le _ _) t.isLt⟩ _ (fun _ => rfl) (fun h => absurd hs h) 0 a b, pay1, zero_add]
  unfold prod
  rw [Fin.sum_univ_tiles 2 2048 rfl, Fin.sum_univ_two]
  refine congrArg₂ (· + ·) (Finset.sum_congr rfl fun k _ => ?_) (Finset.sum_congr rfl fun k _ => ?_)
  · exact congrArg₂ (· * ·) (b0 m c _ k a _ a' (by first | omega | (simp; omega)) (by first | omega | (simp; omega))) (b1 m c _ k b _ (by first | omega | (simp; omega)))
  · exact congrArg₂ (· * ·) (b0 m c _ k a _ a' (by first | omega | (simp; omega)) (by first | omega | (simp; omega))) (b1 m c _ k b _ (by first | omega | (simp; omega)))

/-- The array that the kernel leaves. -/
theorem final : (dats m 0 c).arrAt 2 cfg0.N
    = out (m ((c : Thread nD τ).loc main_arg0)) (m ((c : Thread nD τ).loc main_arg1)) (m ((c : Thread nD τ).loc main_arg2)) := by
  have h : (dats m 0 c).arrAt 2 cfg0.N = fun i => if (i 1).val / 1024 = 1 then
      out (m ((c : Thread nD τ).loc main_arg0)) (m ((c : Thread nD τ).loc main_arg1)) (m ((c : Thread nD τ).loc main_arg2)) i else V m c main_v0 i := by
    refine (dats m 0 c).arrAt_eq_of_coversWhere 2 _ (fun β => β 1 = 1) (by decide +kernel) (fun t hf y => ?_)
      (fun j => by blk_simp [Pipeline.Window.cell_apply])
    blk_simp
    rw [after0_2]
    have e0 : ((win0_2.blk t).view.emb y 0).val = t.val / 2 := by blk_simp [idx t]
    have e1 : ((win0_2.blk t).view.emb y 1).val = 1024 + (y 1).val := by blk_simp [idx t]
    have e2 : ((win0_2.blk t).view.emb y 2).val = (y 2).val := by blk_simp [idx t]
    have h1 : (y 1).val < 1024 := (y 1).isLt
    have ht := t.isLt
    have hN := N_0
    change t.val < grid0.N at ht
    rw [out_at _ _ _ ((win0_2.blk t).view.emb y) ⟨1024 * (t.val / 2) + (y 1).val, by omega⟩ (y 2) (by omega) (by rw [e0, e1]; simp) e2]
    refine (congrArg _ (eq_ix3 y)).trans (last m c t ((flush0_2 t).mp hf) (y 0) (y 1) (y 2) _ rfl)
  rw [h, v0]
  funext i
  unfold out
  split <;> rfl

section
variable (u : S4x4096x1024.Idx → EReal) (x : S4096x4096.Idx → EReal) (y : S4096x1024.Idx → EReal) (q : Fin 4) (j : Fin 1024)

theorem ref_mid (a : Fin 1024) : Cert.Reference3Ideal.Read.val_main_v7 (F := Ideal) u x y (ix3 q ⟨1024 + a.val, by omega⟩ j)
    = prod x y ⟨1024 * q.val + a.val, by omega⟩ j := by
  unfold Cert.Reference3Ideal.Read.val_main_v7
  pointwise [Cert.Reference3Ideal.Read.val_main_v5, Cert.Reference3Ideal.Read.val_main_v3, Cert.Reference3Ideal.Read.val_main_v1,
    Cert.Reference3Ideal.Read.val_main_v0, Cert.Reference3Ideal.Read.val_main_v2]
  unfold prod
  refine Finset.sum_congr rfl fun k _ => congrArg (· * _) (congrArg x (congrArg (ix2 k) (Fin.ext ?_)))
  simp; omega
theorem ref_lo (a : Fin 1024) : Cert.Reference3Ideal.Read.val_main_v7 (F := Ideal) u x y (ix3 q ⟨a.val, by omega⟩ j)
    = u (ix3 q ⟨a.val, by omega⟩ j) := by
  unfold Cert.Reference3Ideal.Read.val_main_v7
  pointwise [Cert.Reference3Ideal.Read.val_main_v4]
theorem ref_hi (a : Fin 2048) : Cert.Reference3Ideal.Read.val_main_v7 (F := Ideal) u x y (ix3 q ⟨2048 + a.val, by omega⟩ j)
    = u (ix3 q ⟨2048 + a.val, by omega⟩ j) := by
  unfold Cert.Reference3Ideal.Read.val_main_v7
  pointwise [Cert.Reference3Ideal.Read.val_main_v6]
  rw [dif_neg (by omega), dif_neg (by omega)]
  refine congrArg u (congrArg (fun r => ix3 q r j) (Fin.ext ?_))
  simp; omega

end

/-- The array that the reference leaves. -/
theorem ref (u : S4x4096x1024.Idx → EReal) (x : S4096x4096.Idx → EReal) (y : S4096x1024.Idx → EReal) :
    Cert.Reference3Ideal.Read.val_main_v7 (F := Ideal) u x y = out u x y := by
  funext i
  obtain ⟨q, r, j, rfl⟩ : ∃ (q : Fin 4) (r : Fin 4096) (j : Fin 1024), i = ix3 q r j := ⟨i 0, i 1, i 2, eq_ix3 i⟩
  by_cases h : r.val / 1024 = 1
  · have e : r = ⟨1024 + (r.val - 1024), by omega⟩ := Fin.ext (by simp; omega)
    rw [out_at u x y (ix3 q r j) ⟨1024 * q.val + (r.val - 1024), by omega⟩ j h rfl rfl]
    exact (congrArg (fun r => Cert.Reference3Ideal.Read.val_main_v7 (F := Ideal) u x y (ix3 q r j)) e).trans
      (ref_mid u x y q j ⟨r.val - 1024, by omega⟩)
  · have h0 : out u x y (ix3 q r j) = u (ix3 q r j) := dif_neg h
    rw [h0]
    rcases Nat.lt_or_ge r.val 1024 with h1 | h1
    · exact ref_lo u x y q j ⟨r.val, h1⟩
    · have e : r = ⟨2048 + (r.val - 2048), by omega⟩ := Fin.ext (by simp; omega)
      rw [e]
      exact ref_hi u x y q j ⟨r.val - 2048, by omega⟩

end Cert.Down

end
-- ==== Proof.Up.lean ====
/- The up projection's weight gradient: the array that the kernel leaves, and the reference's. -/
module

public import proofs.«01_k».proof.Proof.Gen.Kernel4Ideal.Value
public import proofs.«01_k».proof.Proof.Gen.Reference4Ideal.Read
public import proofs.«01_k».proof.Proof.Down
public import Idealize.ShloMosaic.Lib.Pipeline.ValueKit
public import Idealize.ShloMosaic.Lib.Pipeline.ReadBack

@[expose] public section

set_option maxRecDepth 16384

noncomputable section

namespace Cert.Up

open Idealize.ShloMosaic Idealize.ShloMosaic.TcCoe Idealize.SL.Sem
open Idealize.ShloMosaic.Pipeline (Dat)
open Cert.Kernel4Ideal Cert.Kernel4Ideal.Gen
open Cert.Down (prod at2)

/-- The buffer of gradients with the rows up to 1023 of shard `q` replaced by columns `1024 q` on of the product. -/
def out (u : S4x4096x1024.Idx → EReal) (x : S4096x1024.Idx → EReal) (y : S4096x4096.Idx → EReal) : S4x4096x1024.Idx → EReal :=
  fun i => if h : (i 1).val / 1024 = 0 then
    prod x y ⟨(i 1).val, by omega⟩ ⟨1024 * (i 0).val + (i 2).val, by idx_bounds i; omega⟩ else u i

theorem out_at (u : S4x4096x1024.Idx → EReal) (x : S4096x1024.Idx → EReal) (y : S4096x4096.Idx → EReal) (i : S4x4096x1024.Idx)
    (a : Fin 1024) (b : Fin 4096) (h : (i 1).val = a.val) (h2 : 1024 * (i 0).val + (i 2).val = b.val) : out u x y i = prod x y a b := by
  unfold out
  rw [dif_pos (by omega)]
  exact congrArg₂ (prod x y) (Fin.ext h) (Fin.ext h2)

/-- Where each window's block lies. -/
theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

theorem pay1 (i : S1x1024x1024.Idx) : k0_pay1 (F := Ideal) i = 0 := by
  idx_vars i; pointwise [k0_pay1]
theorem pay2 (P : S1x1024x1024.Idx → EReal) (X Y : S2048x1024.Idx → EReal) (q : Fin 1) (a b : Fin 1024) :
    k0_pay2 (F := Ideal) P X Y (ix3 q a b) = P (ix3 0 a b) + ∑ k : Fin 2048, X (ix2 k a) * Y (ix2 k b) := by
  pointwise [k0_pay2]

variable (m : (ℓ : Loc nD τ sig) → Buf (Elt Ideal) ℓ) (c : Dev nD)

theorem v0 : V m c main_v0 = m ((c : Thread nD τ).loc main_arg0) := by
  unfold V; after_results; try rfl

/-- What a point leaves: the previous point's block, or zero at a shard's first point, with the product of the point's tokens
    added. -/
theorem point (t : Fin cfg0.N) (P : S1x1024x1024.Idx → EReal) (hA : t.val % 2 = 0 → P = k0_pay1 (F := Ideal))
    (hB : ¬t.val % 2 = 0 → P = outsAt0 m c (t.val - 1) (Nat.lt_of_le_of_lt (Nat.sub_le _ _) t.isLt)) (q : Fin 1) (a b : Fin 1024) :
    outsAt0 m c t.val t.isLt (ix3 q a b)
      = P (ix3 0 a b) + ∑ k : Fin 2048, (show EReal from iblk m c 0 t (ix2 k a)) * (show EReal from iblk m c 1 t (ix2 k b)) := by
  by_cases h0 : t.val % 2 = 0 <;> [rw [outsAt0_A m c t h0]; rw [outsAt0_B m c t h0]] <;> frame_out
  · obtain rfl := hA h0
    exact pay2 _ _ _ q a b
  · obtain rfl := hB h0
    exact pay2 _ _ _ q a b

theorem b0 (t : Fin cfg0.N) (k : Fin 2048) (a : Fin 1024) (k' : Fin 4096) (hk : k'.val = 2048 * (t.val % 2) + k.val) :
    iblk m c 0 t (ix2 k a) = m ((c : Thread nD τ).loc main_arg1) (ix2 k' a) := by
  blk_simp [iblk]
  rw [V_main_arg1]
  exact at2 _ _ _ (by blk_simp [idx t]; omega) (by blk_simp [idx t])
theorem b1 (t : Fin cfg0.N) (k : Fin 2048) (b : Fin 1024) (k' b' : Fin 4096) (hk : k'.val = 2048 * (t.val % 2) + k.val)
    (hb : b'.val = 1024 * (t.val / 2) + b.val) : iblk m c 1 t (ix2 k b) = m ((c : Thread nD τ).loc main_arg2) (ix2 k' b') := by
  blk_simp [iblk]
  rw [V_main_arg2]
  exact at2 _ _ _ (by blk_simp [idx t]; omega) (by blk_simp [idx t]; omega)

/-- After a shard's second point the block is the product over all the tokens. -/
theorem last (t : Fin cfg0.N) (ht : t.val % 2 = 1) (q : Fin 1) (a b : Fin 1024) (b' : Fin 4096) (hb : b'.val = 1024 * (t.val / 2) + b.val) :
    outsAt0 m c t.val t.isLt (ix3 q a b)
      = prod (m ((c : Thread nD τ).loc main_arg1)) (m ((c : Thread nD τ).loc main_arg2)) a b' := by
  have hs : (t.val - 1) % 2 = 0 := by omega
  rw [point m c t _ (fun h => by omega) (fun _ => rfl) q a b,
    point m c ⟨t.val - 1, Nat.lt_of_le_of_lt (Nat.sub_le _ _) t.isLt⟩ _ (fun _ => rfl) (fun h => absurd hs h) 0 a b, pay1, zero_add]
  unfold prod
  rw [Fin.sum_univ_tiles 2 2048 rfl, Fin.sum_univ_two]
  refine congrArg₂ (· + ·) (Finset.sum_congr rfl fun k _ => ?_) (Finset.sum_congr rfl fun k _ => ?_)
  · exact congrArg₂ (· * ·) (b0 m c _ k a _ (by first | omega | (simp; omega))) (b1 m c _ k b _ b' (by first | omega | (simp; omega)) (by first | omega | (simp; omega)))
  · exact congrArg₂ (· * ·) (b0 m c _ k a _ (by first | omega | (simp; omega))) (b1 m c _ k b _ b' (by first | omega | (simp; omega)) (by first | omega | (simp; omega)))

/-- The array that the kernel leaves. -/
theorem final : (dats m 0 c).arrAt 2 cfg0.N
    = out (m ((c : Thread nD τ).loc main_arg0)) (m ((c : Thread nD τ).loc main_arg1)) (m ((c : Thread nD τ).loc main_arg2)) := by
  have h : (dats m 0 c).arrAt 2 cfg0.N = fun i => if (i 1).val / 1024 = 0 then
      out (m ((c : Thread nD τ).loc main_arg0)) (m ((c : Thread nD τ).loc main_arg1)) (m ((c : Thread nD τ).loc main_arg2)) i else V m c main_v0 i := by
    refine (dats m 0 c).arrAt_eq_of_coversWhere 2 _ (fun β => β 1 = 0) (by decide +kernel) (fun t hf y => ?_)
      (fun j => by blk_simp [Pipeline.Window.cell_apply])
    blk_simp
    rw [after0_2]
    have e0 : ((win0_2.blk t).view.emb y 0).val = t.val / 2 := by blk_simp [idx t]
    have e1 : ((win0_2.blk t).view.emb y 1).val = (y 1).val := by blk_simp [idx t]
    have e2 : ((win0_2.blk t).view.emb y 2).val = (y 2).val := by blk_simp [idx t]
    have h1 : (y 2).val < 1024 := (y 2).isLt
    have ht := t.isLt
    have hN := N_0
    change t.val < grid0.N at ht
    rw [out_at _ _ _ ((win0_2.blk t).view.emb y) (y 1) ⟨1024 * (t.val / 2) + (y 2).val, by omega⟩ e1 (by rw [e0, e2])]
    refine (congrArg _ (eq_ix3 y)).trans (last m c t ((flush0_2 t).mp hf) (y 0) (y 1) (y 2) _ rfl)
  rw [h, v0]
  funext i
  unfold out
  split <;> rfl

section
variable (u : S4x4096x1024.Idx → EReal) (x : S4096x1024.Idx → EReal) (y : S4096x4096.Idx → EReal) (j : Fin 1024)

open Cert.Reference4Ideal.Read

theorem ref_w (a : Fin 1024) (b : Fin 4096) : val_main_v3 (F := Ideal) x y (ix2 a b) = prod x y a b := by
  unfold prod
  pointwise [val_main_v3, val_main_v1, val_main_v0, val_main_v2]
theorem ref_lo (q : Fin 4) (a : Fin 1024) : val_main_v14 (F := Ideal) u x y (ix3 q ⟨a.val, by omega⟩ j)
    = prod x y a ⟨1024 * q.val + j.val, by omega⟩ := by
  unfold val_main_v14
  pointwise
  unfold val_main_v12
  match q with
  | 0 => pointwise [val_main_v8, val_main_v4, ref_w]
  | 1 => pointwise [val_main_v9, val_main_v5, ref_w]
  | 2 => pointwise [val_main_v10, val_main_v6, ref_w]
  | 3 => pointwise [val_main_v11, val_main_v7, ref_w]
theorem ref_hi (q : Fin 4) (a : Fin 3072) : val_main_v14 (F := Ideal) u x y (ix3 q ⟨1024 + a.val, by omega⟩ j)
    = u (ix3 q ⟨1024 + a.val, by omega⟩ j) := by
  unfold val_main_v14
  pointwise [val_main_v13]

end

/-- The array that the reference leaves. -/
theorem ref (u : S4x4096x1024.Idx → EReal) (x : S4096x1024.Idx → EReal) (y : S4096x4096.Idx → EReal) :
    Cert.Reference4Ideal.Read.val_main_v14 (F := Ideal) u x y = out u x y := by
  funext i
  obtain ⟨q, r, j, rfl⟩ : ∃ (q : Fin 4) (r : Fin 4096) (j : Fin 1024), i = ix3 q r j := ⟨i 0, i 1, i 2, eq_ix3 i⟩
  rcases Nat.lt_or_ge r.val 1024 with h1 | h1
  · rw [out_at u x y (ix3 q r j) ⟨r.val, h1⟩ ⟨1024 * q.val + j.val, by omega⟩ rfl rfl]
    exact ref_lo u x y j q ⟨r.val, h1⟩
  · have h0 : out u x y (ix3 q r j) = u (ix3 q r j) := dif_neg (by show ¬r.val / 1024 = 0; omega)
    have e : r = ⟨1024 + (r.val - 1024), by omega⟩ := Fin.ext (by simp; omega)
    rw [h0, e]
    exact ref_hi u x y j q ⟨r.val - 1024, by omega⟩

end Cert.Up

end
-- ==== Proof.In.lean ====
/- The gMLP input projection's weight gradient: the array that the kernel leaves, and the reference's. -/
module

public import proofs.«01_k».proof.Proof.Gen.Kernel7Ideal.Value
public import proofs.«01_k».proof.Proof.Gen.Reference7Ideal.Read
public import proofs.«01_k».proof.Proof.Down
public import Idealize.ShloMosaic.Lib.Pipeline.ValueKit
public import Idealize.ShloMosaic.Lib.Pipeline.ReadBack

@[expose] public section

set_option maxRecDepth 16384

noncomputable section

namespace Cert.In

open Idealize.ShloMosaic Idealize.ShloMosaic.TcCoe Idealize.SL.Sem
open Idealize.ShloMosaic.Pipeline (Dat)
open Cert.Kernel7Ideal Cert.Kernel7Ideal.Gen
open Cert.Down (prod at2)

/-- The buffer of gradients with the rows 2048 to 3071 of shard `q` replaced by columns `1024 q` on of the product. -/
def out (u : S4x4096x1024.Idx → EReal) (x : S4096x1024.Idx → EReal) (y : S4096x4096.Idx → EReal) : S4x4096x1024.Idx → EReal :=
  fun i => if h : (i 1).val / 1024 = 2 then
    prod x y ⟨(i 1).val - 2048, by omega⟩ ⟨1024 * (i 0).val + (i 2).val, by idx_bounds i; omega⟩ else u i

theorem out_at (u : S4x4096x1024.Idx → EReal) (x : S4096x1024.Idx → EReal) (y : S4096x4096.Idx → EReal) (i : S4x4096x1024.Idx)
    (a : Fin 1024) (b : Fin 4096) (h : (i 1).val = 2048 + a.val) (h2 : 1024 * (i 0).val + (i 2).val = b.val) : out u x y i = prod x y a b := by
  unfold out
  rw [dif_pos (by omega)]
  exact congrArg₂ (prod x y) (Fin.ext (by show (i 1).val - 2048 = a.val; omega)) (Fin.ext h2)

/-- Where each window's block lies. -/
theorem idx : ∀ t : Fin cfg0.N, win0_0.index t = ![t.val % 2, 0] ∧ win0_1.index t = ![t.val % 2, t.val / 2]
    ∧ win0_2.index t = ![t.val / 2, 2, 0] :=
  (by decide +kernel : ∀ t : Fin grid0.N, _)

theorem pay1 (i : S1x1024x1024.Idx) : k0_pay1 (F := Ideal) i = 0 := by
  idx_vars i; pointwise [k0_pay1]
theorem pay2 (P : S1x1024x1024.Idx → EReal) (X Y : S2048x1024.Idx → EReal) (q : Fin 1) (a b : Fin 1024) :
    k0_pay2 (F := Ideal) P X Y (ix3 q a b) = P (ix3 0 a b) + ∑ k : Fin 2048, X (ix2 k a) * Y (ix2 k b) := by
  pointwise [k0_pay2]

variable (m : (ℓ : Loc nD τ sig) → Buf (Elt Ideal) ℓ) (c : Dev nD)

theorem v0 : V m c main_v0 = m ((c : Thread nD τ).loc main_arg0) := by
  unfold V; after_results; try rfl

/-- What a point leaves: the previous point's block, or zero at a shard's first point, with the product of the point's tokens
    added. -/
theorem point (t : Fin cfg0.N) (P : S1x1024x1024.Idx → EReal) (hA : t.val % 2 = 0 → P = k0_pay1 (F := Ideal))
    (hB : ¬t.val % 2 = 0 → P = outsAt0 m c (t.val - 1) (Nat.lt_of_le_of_lt (Nat.sub_le _ _) t.isLt)) (q : Fin 1) (a b : Fin 1024) :
    outsAt0 m c t.val t.isLt (ix3 q a b)
      = P (ix3 0 a b) + ∑ k : Fin 2048, (show EReal from iblk m c 0 t (ix2 k a)) * (show EReal from iblk m c 1 t (ix2 k b)) := by
  by_cases h0 : t.val % 2 = 0 <;> [rw [outsAt0_A m c t h0]; rw [outsAt0_B m c t h0]] <;> frame_out
  · obtain rfl := hA h0
    exact pay2 _ _ _ q a b
  · obtain rfl := hB h0
    exact pay2 _ _ _ q a b

theorem b0 (t : Fin cfg0.N) (k : Fin 2048) (a : Fin 1024) (k' : Fin 4096) (hk : k'.val = 2048 * (t.val % 2) + k.val) :
    iblk m c 0 t (ix2 k a) = m ((c : Thread nD τ).loc main_arg1) (ix2 k' a) := by
  blk_simp [iblk]
  rw [V_main_arg1]
  exact at2 _ _ _ (by blk_simp [idx t]; omega) (by blk_simp [idx t])
theorem b1 (t : Fin cfg0.N) (k : Fin 2048) (b : Fin 1024) (k' b' : Fin 4096) (hk : k'.val = 2048 * (t.val % 2) + k.val)
    (hb : b'.val = 1024 * (t.val / 2) + b.val) : iblk m c 1 t (ix2 k b) = m ((c : Thread nD τ).loc main_arg2) (ix2 k' b') := by
  blk_simp [iblk]
  rw [V_main_arg2]
  exact at2 _ _ _ (by blk_simp [idx t]; omega) (by blk_simp [idx t]; omega)

/-- After a shard's second point the block is the product over all the tokens. -/
theorem last (t : Fin cfg0.N) (ht : t.val % 2 = 1) (q : Fin 1) (a b : Fin 1024) (b' : Fin 4096) (hb : b'.val = 1024 * (t.val / 2) + b.val) :
    outsAt0 m c t.val t.isLt (ix3 q a b)
      = prod (m ((c : Thread nD τ).loc main_arg1)) (m ((c : Thread nD τ).loc main_arg2)) a b' := by
  have hs : (t.val - 1) % 2 = 0 := by omega
  rw [point m c t _ (fun h => by omega) (fun _ => rfl) q a b,
    point m c ⟨t.val - 1, Nat.lt_of_le_of_lt (Nat.sub_le _ _) t.isLt⟩ _ (fun _ => rfl) (fun h => absurd hs h) 0 a b, pay1, zero_add]
  unfold prod
  rw [Fin.sum_univ_tiles 2 2048 rfl, Fin.sum_univ_two]
  refine congrArg₂ (· + ·) (Finset.sum_congr rfl fun k _ => ?_) (Finset.sum_congr rfl fun k _ => ?_)
  · exact congrArg₂ (· * ·) (b0 m c _ k a _ (by first | omega | (simp; omega))) (b1 m c _ k b _ b' (by first | omega | (simp; omega)) (by first | omega | (simp; omega)))
  · exact congrArg₂ (· * ·) (b0 m c _ k a _ (by first | omega | (simp; omega))) (b1 m c _ k b _ b' (by first | omega | (simp; omega)) (by first | omega | (simp; omega)))

/-- The array that the kernel leaves. -/
theorem final : (dats m 0 c).arrAt 2 cfg0.N
    = out (m ((c : Thread nD τ).loc main_arg0)) (m ((c : Thread nD τ).loc main_arg1)) (m ((c : Thread nD τ).loc main_arg2)) := by
  have h : (dats m 0 c).arrAt 2 cfg0.N = fun i => if (i 1).val / 1024 = 2 then
      out (m ((c : Thread nD τ).loc main_arg0)) (m ((c : Thread nD τ).loc main_arg1)) (m ((c : Thread nD τ).loc main_arg2)) i else V m c main_v0 i := by
    refine (dats m 0 c).arrAt_eq_of_coversWhere 2 _ (fun β => β 1 = 2) (by decide +kernel) (fun t hf y => ?_)
      (fun j => by blk_simp [Pipeline.Window.cell_apply])
    blk_simp
    rw [after0_2]
    have e0 : ((win0_2.blk t).view.emb y 0).val = t.val / 2 := by blk_simp [idx t]
    have e1 : ((win0_2.blk t).view.emb y 1).val = 2048 + (y 1).val := by blk_simp [idx t]
    have e2 : ((win0_2.blk t).view.emb y 2).val = (y 2).val := by blk_simp [idx t]
    have h1 : (y 2).val < 1024 := (y 2).isLt
    have ht := t.isLt
    have hN := N_0
    change t.val < grid0.N at ht
    rw [out_at _ _ _ ((win0_2.blk t).view.emb y) (y 1) ⟨1024 * (t.val / 2) + (y 2).val, by omega⟩ e1 (by rw [e0, e2])]
    refine (congrArg _ (eq_ix3 y)).trans (last m c t ((flush0_2 t).mp hf) (y 0) (y 1) (y 2) _ rfl)
  rw [h, v0]
  funext i
  unfold out
  split <;> rfl

section
variable (u : S4x4096x1024.Idx → EReal) (x : S4096x1024.Idx → EReal) (y : S4096x4096.Idx → EReal) (j : Fin 1024)

open Cert.Reference7Ideal.Read

theorem ref_w (a : Fin 1024) (b : Fin 4096) : val_main_v3 (F := Ideal) x y (ix2 a b) = prod x y a b := by
  unfold prod
  pointwise [val_main_v3, val_main_v1, val_main_v0, val_main_v2]
theorem ref_mid (q : Fin 4) (a : Fin 1024) : val_main_v15 (F := Ideal) u x y (ix3 q ⟨2048 + a.val, by omega⟩ j)
    = prod x y a ⟨1024 * q.val + j.val, by omega⟩ := by
  unfold val_main_v15
  pointwise
  unfold val_main_v13
  match q with
  | 0 => pointwise [val_main_v9, val_main_v5, ref_w]
  | 1 => pointwise [val_main_v10, val_main_v6, ref_w]
  | 2 => pointwise [val_main_v11, val_main_v7, ref_w]
  | 3 => pointwise [val_main_v12, val_main_v8, ref_w]
theorem ref_lo (q : Fin 4) (a : Fin 2048) : val_main_v15 (F := Ideal) u x y (ix3 q ⟨a.val, by omega⟩ j)
    = u (ix3 q ⟨a.val, by omega⟩ j) := by
  unfold val_main_v15
  pointwise [val_main_v4]
theorem ref_hi (q : Fin 4) (a : Fin 1024) : val_main_v15 (F := Ideal) u x y (ix3 q ⟨3072 + a.val, by omega⟩ j)
    = u (ix3 q ⟨3072 + a.val, by omega⟩ j) := by
  unfold val_main_v15
  pointwise [val_main_v14]
  rw [dif_neg (by omega), dif_neg (by omega)]
  refine congrArg u (congrArg (fun r => ix3 q r j) (Fin.ext ?_))
  simp; omega

end

open Cert.Reference7Ideal.Read in
/-- The array that the reference leaves. -/
theorem ref (u : S4x4096x1024.Idx → EReal) (x : S4096x1024.Idx → EReal) (y : S4096x4096.Idx → EReal) :
    val_main_v15 (F := Ideal) u x y = out u x y := by
  funext i
  obtain ⟨q, r, j, rfl⟩ : ∃ (q : Fin 4) (r : Fin 4096) (j : Fin 1024), i = ix3 q r j := ⟨i 0, i 1, i 2, eq_ix3 i⟩
  rcases Nat.lt_or_ge r.val 2048 with h1 | h1
  · have h0 : out u x y (ix3 q r j) = u (ix3 q r j) := dif_neg (by show ¬r.val / 1024 = 2; omega)
    rw [h0]
    exact ref_lo u x y j q ⟨r.val, h1⟩
  · rcases Nat.lt_or_ge r.val 3072 with h2 | h2
    · have e : r = ⟨2048 + (r.val - 2048), by omega⟩ := Fin.ext (by simp; omega)
      rw [out_at u x y (ix3 q r j) ⟨r.val - 2048, by omega⟩ ⟨1024 * q.val + j.val, by omega⟩ (by show r.val = 2048 + (r.val - 2048); omega) rfl]
      exact (congrArg (fun r => val_main_v15 (F := Ideal) u x y (ix3 q r j)) e).trans (ref_mid u x y j q ⟨r.val - 2048, by omega⟩)
    · have h0 : out u x y (ix3 q r j) = u (ix3 q r j) := dif_neg (by show ¬r.val / 1024 = 2; omega)
      have e : r = ⟨3072 + (r.val - 3072), by omega⟩ := Fin.ext (by simp; omega)
      rw [h0, e]
      exact ref_hi u x y j q ⟨r.val - 3072, by omega⟩

end Cert.In

end
-- ==== Proof.Out.lean ====
/- The gMLP output projection's weight gradient: the array that the kernel leaves, and the reference's. -/
module

public import proofs.«01_k».proof.Proof.Gen.Kernel6Ideal.Value
public import proofs.«01_k».proof.Proof.Gen.Reference6Ideal.Read
public import proofs.«01_k».proof.Proof.Down
public import Idealize.ShloMosaic.Lib.Pipeline.ValueKit
public import Idealize.ShloMosaic.Lib.Pipeline.ReadBack

@[expose] public section

set_option maxRecDepth 16384

noncomputable section

namespace Cert.Out

open Idealize.ShloMosaic Idealize.ShloMosaic.TcCoe Idealize.SL.Sem
open Idealize.ShloMosaic.Pipeline (Dat)
open Cert.Kernel6Ideal Cert.Kernel6Ideal.Gen
open Cert.Down (prod at2)

/-- The buffer of gradients with the rows from 3072 to 3583 of shard `q` replaced by rows `512 q` on of the product. -/
def out (u : S4x4096x1024.Idx → EReal) (x : S4096x2048.Idx → EReal) (y : S4096x1024.Idx → EReal) : S4x4096x1024.Idx → EReal :=
  fun i => if h : (i 1).val / 512 = 6 then
    prod x y ⟨512 * (i 0).val + ((i 1).val - 3072), by idx_bounds i; omega⟩ (i 2) else u i

theorem out_at (u : S4x4096x1024.Idx → EReal) (x : S4096x2048.Idx → EReal) (y : S4096x1024.Idx → EReal) (i : S4x4096x1024.Idx)
    (a : Fin 2048) (b : Fin 1024) (h1 : (i 1).val / 512 = 6) (h : 512 * (i 0).val + ((i 1).val - 3072) = a.val)
    (h2 : (i 2).val = b.val) : out u x y i = prod x y a b := by
  unfold out
  rw [dif_pos h1]
  exact congrArg₂ (prod x y) (Fin.ext h) (Fin.ext h2)

/-- Where each window's block lies. -/
theorem idx : ∀ t : Fin cfg0.N, win0_0.index t = ![t.val % 2, 0] ∧ win0_1.index t = ![t.val % 2, 0]
    ∧ win0_2.index t = ![0, 6, 0] :=
  (by decide +kernel : ∀ t : Fin grid0.N, _)

theorem pay1 (i : S4x512x1024.Idx) : k0_pay1 (F := Ideal) i = 0 := by
  idx_vars i; pointwise [k0_pay1]
theorem pay2 (P : S4x512x1024.Idx → EReal) (X : S2048x2048.Idx → EReal) (Y : S2048x1024.Idx → EReal) (q : Fin 4) (a : Fin 512) (b : Fin 1024) :
    k0_pay2 (F := Ideal) P X Y (ix3 q a b) = P (ix3 q a b) + ∑ k : Fin 2048, X (ix2 k ⟨512 * q.val + a.val, by omega⟩) * Y (ix2 k b) := by
  pointwise [k0_pay2]
  refine congrArg (P (ix3 q a b) + ·) (Finset.sum_congr rfl fun k _ => congrArg (· * _) (congrArg X (congrArg (ix2 k) (Fin.ext ?_))))
  simp; omega

variable (m : (ℓ : Loc nD τ sig) → Buf (Elt Ideal) ℓ) (c : Dev nD)

theorem v0 : V m c main_v0 = m ((c : Thread nD τ).loc main_arg0) := by
  unfold V; after_results; try rfl

/-- What a point leaves: the previous point's block, or zero at the first point, with the product of the point's tokens added. -/
theorem point (t : Fin cfg0.N) (P : S4x512x1024.Idx → EReal) (hA : t.val % 2 = 0 → P = k0_pay1 (F := Ideal))
    (hB : ¬t.val % 2 = 0 → P = outsAt0 m c (t.val - 1) (Nat.lt_of_le_of_lt (Nat.sub_le _ _) t.isLt)) (q : Fin 4) (a : Fin 512) (b : Fin 1024) :
    outsAt0 m c t.val t.isLt (ix3 q a b)
      = P (ix3 q a b) + ∑ k : Fin 2048, (show EReal from iblk m c 0 t (ix2 k (⟨512 * q.val + a.val, by omega⟩ : Fin 2048))) * (show EReal from iblk m c 1 t (ix2 k b)) := by
  by_cases h0 : t.val % 2 = 0 <;> [rw [outsAt0_A m c t h0]; rw [outsAt0_B m c t h0]] <;> frame_out
  · obtain rfl := hA h0
    exact pay2 _ _ _ q a b
  · obtain rfl := hB h0
    exact pay2 _ _ _ q a b

theorem b0 (t : Fin cfg0.N) (k : Fin 2048) (a : Fin 2048) (k' : Fin 4096) (hk : k'.val = 2048 * (t.val % 2) + k.val) :
    iblk m c 0 t (ix2 k a) = m ((c : Thread nD τ).loc main_arg1) (ix2 k' a) := by
  blk_simp [iblk]
  rw [V_main_arg1]
  exact at2 _ _ _ (by blk_simp [idx t]; omega) (by blk_simp [idx t])
theorem b1 (t : Fin cfg0.N) (k : Fin 2048) (b : Fin 1024) (k' : Fin 4096) (hk : k'.val = 2048 * (t.val % 2) + k.val) :
    iblk m c 1 t (ix2 k b) = m ((c : Thread nD τ).loc main_arg2) (ix2 k' b) := by
  blk_simp [iblk]
  rw [V_main_arg2]
  exact at2 _ _ _ (by blk_simp [idx t]; omega) (by blk_simp [idx t])

/-- After the second point the block is the product over all the tokens. -/
theorem last (t : Fin cfg0.N) (ht : t.val % 2 = 1) (q : Fin 4) (a : Fin 512) (b : Fin 1024) :
    outsAt0 m c t.val t.isLt (ix3 q a b)
      = prod (m ((c : Thread nD τ).loc main_arg1)) (m ((c : Thread nD τ).loc main_arg2)) ⟨512 * q.val + a.val, by omega⟩ b := by
  have hs : (t.val - 1) % 2 = 0 := by omega
  rw [point m c t _ (fun h => by omega) (fun _ => rfl) q a b,
    point m c ⟨t.val - 1, Nat.lt_of_le_of_lt (Nat.sub_le _ _) t.isLt⟩ _ (fun _ => rfl) (fun h => absurd hs h) q a b, pay1, zero_add]
  unfold prod
  rw [Fin.sum_univ_tiles 2 2048 rfl, Fin.sum_univ_two]
  refine congrArg₂ (· + ·) (Finset.sum_congr rfl fun k _ => ?_) (Finset.sum_congr rfl fun k _ => ?_)
  · exact congrArg₂ (· * ·) (b0 m c _ k _ _ (by first | omega | (simp; omega))) (b1 m c _ k b _ (by first | omega | (simp; omega)))
  · exact congrArg₂ (· * ·) (b0 m c _ k _ _ (by first | omega | (simp; omega))) (b1 m c _ k b _ (by first | omega | (simp; omega)))

/-- The array that the kernel leaves. -/
theorem final : (dats m 0 c).arrAt 2 cfg0.N
    = out (m ((c : Thread nD τ).loc main_arg0)) (m ((c : Thread nD τ).loc main_arg1)) (m ((c : Thread nD τ).loc main_arg2)) := by
  have h : (dats m 0 c).arrAt 2 cfg0.N = fun i => if (i 1).val / 512 = 6 then
      out (m ((c : Thread nD τ).loc main_arg0)) (m ((c : Thread nD τ).loc main_arg1)) (m ((c : Thread nD τ).loc main_arg2)) i else V m c main_v0 i := by
    refine (dats m 0 c).arrAt_eq_of_coversWhere 2 _ (fun β => β 1 = 6) (by decide +kernel) (fun t hf y => ?_)
      (fun j => by blk_simp [Pipeline.Window.cell_apply])
    blk_simp
    rw [after0_2]
    have e0 : ((win0_2.blk t).view.emb y 0).val = (y 0).val := by blk_simp [idx t]
    have e1 : ((win0_2.blk t).view.emb y 1).val = 3072 + (y 1).val := by blk_simp [idx t]
    have e2 : ((win0_2.blk t).view.emb y 2).val = (y 2).val := by blk_simp [idx t]
    have h0 : (y 0).val < 4 := (y 0).isLt
    have h1 : (y 1).val < 512 := (y 1).isLt
    rw [out_at _ _ _ ((win0_2.blk t).view.emb y) ⟨512 * (y 0).val + (y 1).val, by omega⟩ (y 2) (by omega) (by rw [e0, e1]; simp) e2]
    exact (congrArg _ (eq_ix3 y)).trans (last m c t ((flush0_2 t).mp hf) (y 0) (y 1) (y 2))
  rw [h, v0]
  funext i
  unfold out
  split <;> rfl

section
variable (u : S4x4096x1024.Idx → EReal) (x : S4096x2048.Idx → EReal) (y : S4096x1024.Idx → EReal) (q : Fin 4) (j : Fin 1024)

theorem ref_mid (a : Fin 512) : Cert.Reference6Ideal.Read.val_main_v7 (F := Ideal) u x y (ix3 q ⟨3072 + a.val, by omega⟩ j)
    = prod x y ⟨512 * q.val + a.val, by omega⟩ j := by
  unfold Cert.Reference6Ideal.Read.val_main_v7
  pointwise [Cert.Reference6Ideal.Read.val_main_v5, Cert.Reference6Ideal.Read.val_main_v3, Cert.Reference6Ideal.Read.val_main_v1,
    Cert.Reference6Ideal.Read.val_main_v0, Cert.Reference6Ideal.Read.val_main_v2]
  unfold prod
  refine Finset.sum_congr rfl fun k _ => congrArg (· * _) (congrArg x (congrArg (ix2 k) (Fin.ext ?_)))
  simp; omega
theorem ref_lo (a : Fin 3072) : Cert.Reference6Ideal.Read.val_main_v7 (F := Ideal) u x y (ix3 q ⟨a.val, by omega⟩ j)
    = u (ix3 q ⟨a.val, by omega⟩ j) := by
  unfold Cert.Reference6Ideal.Read.val_main_v7
  pointwise [Cert.Reference6Ideal.Read.val_main_v4]
theorem ref_hi (a : Fin 512) : Cert.Reference6Ideal.Read.val_main_v7 (F := Ideal) u x y (ix3 q ⟨3584 + a.val, by omega⟩ j)
    = u (ix3 q ⟨3584 + a.val, by omega⟩ j) := by
  unfold Cert.Reference6Ideal.Read.val_main_v7
  pointwise [Cert.Reference6Ideal.Read.val_main_v6]
  rw [dif_neg (by omega), dif_neg (by omega)]
  refine congrArg u (congrArg (fun r => ix3 q r j) (Fin.ext ?_))
  simp; omega

end

/-- The array that the reference leaves. -/
theorem ref (u : S4x4096x1024.Idx → EReal) (x : S4096x2048.Idx → EReal) (y : S4096x1024.Idx → EReal) :
    Cert.Reference6Ideal.Read.val_main_v7 (F := Ideal) u x y = out u x y := by
  funext i
  obtain ⟨q, r, j, rfl⟩ : ∃ (q : Fin 4) (r : Fin 4096) (j : Fin 1024), i = ix3 q r j := ⟨i 0, i 1, i 2, eq_ix3 i⟩
  by_cases h : r.val / 512 = 6
  · have e : r = ⟨3072 + (r.val - 3072), by omega⟩ := Fin.ext (by simp; omega)
    rw [out_at u x y (ix3 q r j) ⟨512 * q.val + (r.val - 3072), by omega⟩ j h rfl rfl]
    exact (congrArg (fun r => Cert.Reference6Ideal.Read.val_main_v7 (F := Ideal) u x y (ix3 q r j)) e).trans
      (ref_mid u x y q j ⟨r.val - 3072, by omega⟩)
  · have h0 : out u x y (ix3 q r j) = u (ix3 q r j) := dif_neg h
    rw [h0]
    rcases Nat.lt_or_ge r.val 3072 with h1 | h1
    · exact ref_lo u x y q j ⟨r.val, h1⟩
    · have e : r = ⟨3584 + (r.val - 3584), by omega⟩ := Fin.ext (by simp; omega)
      rw [e]
      exact ref_hi u x y q j ⟨r.val - 3584, by omega⟩

end Cert.Out

end
-- ==== Proof.MixSpec.lean ====
/- The rest of a layer, forward, over the extended reals: the mixer's output projection added to the stream, the norm, and the
   feed-forward layer, with the four quantities that the kernel leaves. -/
module

public import proofs.«01_k».proof.Proof.Coe
public import Idealize.ShloMosaic.Lib.Pipeline.ValueKit

@[expose] public section

noncomputable section

namespace Cert.Mix

open Idealize.ShloMosaic
open scoped BigOperators

/-- The arguments: the stream, the mixer's result, its output projection, the norm's scale, the up and the down projection. -/
structure Args where
  h : Fin 4096 → Fin 1024 → EReal
  y : Fin 4096 → Fin 2048 → EReal
  wo : Fin 2048 → Fin 1024 → EReal
  g : Fin 1024 → EReal
  wu : Fin 1024 → Fin 4096 → EReal
  wd : Fin 4096 → Fin 1024 → EReal

variable (A : Args)

/-- The stream after the mixer. -/
def h1 (t : Fin 4096) (j : Fin 1024) : EReal := A.h t j + ∑ k, A.y t k * A.wo k j
/-- What the norm scales a token by. -/
def rs (t : Fin 4096) : EReal := Ideal.rsqrt ((∑ k, h1 A t k * h1 A t k) * ((1 / 1024 : ℝ) : EReal) + ((Spec.eps : ℝ) : EReal))
/-- The normalized stream, scaled. -/
def hn (t : Fin 4096) (j : Fin 1024) : EReal := h1 A t j * rs A t * A.g j
/-- The positive part of the up projection. -/
def r (t : Fin 4096) (k : Fin 4096) : EReal := max (∑ j, hn A t j * A.wu j k) ((0 : ℝ) : EReal)
/-- The stream after the layer. -/
def h2 (t : Fin 4096) (j : Fin 1024) : EReal := h1 A t j + ∑ k, r A t k * r A t k * A.wd k j

/-- Columns `1024 q` on of a quantity of tokens and hidden channels. -/
def sl (q : Fin 4) (f : Fin 4096 → Fin 4096 → EReal) (t : Fin 4096) (k : Fin 1024) : EReal := f t ⟨1024 * q.val + k.val, by omega⟩

/-- A sum over the hidden channels, shard by shard. -/
theorem sum_shards (f : Fin 4096 → EReal) : ∑ k, f k
    = (∑ k : Fin 1024, f ⟨1024 * (0 : Fin 4).val + k.val, by simp; omega⟩) + (∑ k : Fin 1024, f ⟨1024 * (1 : Fin 4).val + k.val, by simp; omega⟩)
      + (∑ k : Fin 1024, f ⟨1024 * (2 : Fin 4).val + k.val, by simp; omega⟩) + (∑ k : Fin 1024, f ⟨1024 * (3 : Fin 4).val + k.val, by simp; omega⟩) := by
  rw [Fin.sum_univ_tiles 4 1024 rfl f, Fin.sum_univ_four]
  simp only [Nat.mul_comm]

/-- Token `a` of block `T`. -/
def tok (T : Fin 8) (a : Fin 512) : Fin 4096 := ⟨512 * T.val + a.val, by omega⟩

/-- An array of two indices. -/
def arr {M N : ℕ} (f : Fin M → Fin N → EReal) : (⟨2, ![M, N]⟩ : Shape).Idx → EReal := fun i => f (i 0) (i 1)
/-- Block `T` of 512 tokens of a quantity. -/
def bk {N : ℕ} (T : Fin 8) (f : Fin 4096 → Fin N → EReal) : (⟨2, ![512, N]⟩ : Shape).Idx → EReal := fun i => f (tok T (i 0)) (i 1)
/-- An array of three indices. -/
def cube {L M N : ℕ} (f : Fin L → Fin M → Fin N → EReal) : (⟨3, ![L, M, N]⟩ : Shape).Idx → EReal := fun i => f (i 0) (i 1) (i 2)

theorem arr_ix {M N : ℕ} (f : Fin M → Fin N → EReal) (a : Fin M) (b : Fin N) : arr f (ix2 a b) = f a b := rfl
theorem bk_ix {N : ℕ} (T : Fin 8) (f : Fin 4096 → Fin N → EReal) (a : Fin 512) (b : Fin N) : bk T f (ix2 a b) = f (tok T a) b := rfl
theorem cube_ix {L M N : ℕ} (f : Fin L → Fin M → Fin N → EReal) (q : Fin L) (a : Fin M) (b : Fin N) : cube f (ix3 q a b) = f q a b := rfl

/-- The output projection as the kernel's window holds it: four shards of its rows. -/
def woS : (⟨3, ![4, 512, 1024]⟩ : Shape).Idx → EReal := cube fun q a j => A.wo ⟨512 * q.val + a.val, by omega⟩ j
/-- The up projection: four shards of its columns. -/
def wuS : (⟨3, ![4, 1024, 1024]⟩ : Shape).Idx → EReal := cube fun q j k => A.wu j ⟨1024 * q.val + k.val, by omega⟩
/-- The down projection: four shards of its rows. -/
def wdS : (⟨3, ![4, 1024, 1024]⟩ : Shape).Idx → EReal := cube fun q k j => A.wd ⟨1024 * q.val + k.val, by omega⟩ j
/-- One shard of the up projection. -/
def wuB (q : Fin 4) : (⟨3, ![1, 1024, 1024]⟩ : Shape).Idx → EReal := cube fun _ j k => A.wu j ⟨1024 * q.val + k.val, by omega⟩
/-- One shard of the down projection. -/
def wdB (q : Fin 4) : (⟨3, ![1, 1024, 1024]⟩ : Shape).Idx → EReal := cube fun _ k j => A.wd ⟨1024 * q.val + k.val, by omega⟩ j
/-- The norm's scale as a row. -/
def gR : (⟨2, ![1, 1024]⟩ : Shape).Idx → EReal := arr fun _ j => A.g j

end Cert.Mix

end
-- ==== Proof.MixRows.lean ====
/- The forward kernel's payloads: each, given the blocks of 512 tokens of the quantities it reads, is the block of the next. -/
module

public import proofs.«01_k».proof.Proof.MixSpec
public import proofs.«01_k».proof.Proof.Gen.Kernel5Ideal.Skeleton

@[expose] public section

set_option maxRecDepth 16384

noncomputable section

namespace Cert.Mix

open Idealize.ShloMosaic Idealize.ShloMosaic.TcCoe Idealize.SL.Sem
open Cert.Kernel5Ideal Cert.Kernel5Ideal.Gen Cert.Coe

variable (A : Args) (T : Fin 8)

theorem p4 : k0_pay4 (F := Ideal) (bk T A.h) (bk T A.y) (woS A) = bk T (h1 A) := by
  funext i; idx_vars i; pointwise [k0_pay4]
  simp only [bk_ix]
  refine congrArg (A.h (tok T i0) i1 + ·) (Finset.sum_congr rfl fun k _ => congrArg (A.y (tok T i0) k * ·) ?_)
  exact congrArg (fun z => A.wo z i1) (Fin.ext (by simp; omega))
theorem p5 : k0_pay5 (F := Ideal) (bk T A.h) (bk T A.y) (woS A) (gR A) = bk T (hn A) := by
  unfold k0_pay5; rw [p4]
  funext i; idx_vars i; pointwise
  simp only [bk_ix, c_inv1024, c_eps]; rfl

/-- One shard's positive part. -/
theorem p9 (q : Fin 4) : k0_pay9 (F := Ideal) (bk T (hn A)) (wuB A q) = bk T (sl q (r A)) := by
  funext i; idx_vars i; pointwise [k0_pay9]
  simp only [bk_ix, c_zero]; rfl
theorem p1 (q : Fin 4) : k0_pay1 (F := Ideal) (bk T (hn A)) (wuB A q) = bk T (sl q (r A)) := p9 A T q
theorem p12 (q : Fin 4) : k0_pay12 (F := Ideal) (bk T (hn A)) (wuB A q) = bk T (sl q (r A)) := p9 A T q
theorem p7 (q : Fin 4) : k0_pay7 (F := Ideal) (bk T A.h) (bk T A.y) (woS A) (gR A) (wuB A q) = bk T (sl q (r A)) := by
  refine Eq.trans ?_ (p9 A T q)
  exact congrArg (fun x => k0_pay9 (F := Ideal) x (wuB A q)) (p5 A T)
theorem p10 (q : Fin 4) : k0_pay10 (F := Ideal) (bk T (hn A)) (wuB A q) = bk T (sl q (r A)) := by
  unfold k0_pay10; rw [p9]
  funext i; idx_vars i; pointwise
theorem p2 (q : Fin 4) : k0_pay2 (F := Ideal) (bk T (hn A)) (wuB A q) = bk T (sl q (r A)) := p10 A T q
theorem p13 (q : Fin 4) : k0_pay13 (F := Ideal) (bk T (hn A)) (wuB A q) = bk T (sl q (r A)) := p10 A T q
theorem p8 (q : Fin 4) : k0_pay8 (F := Ideal) (bk T A.h) (bk T A.y) (woS A) (gR A) (wuB A q) = bk T (sl q (r A)) := by
  unfold k0_pay8; rw [p7]
  funext i; idx_vars i; pointwise

/-- One shard's part of the layer's result. -/
def part (q : Fin 4) (t : Fin 4096) (j : Fin 1024) : EReal := ∑ k, sl q (r A) t k * sl q (r A) t k * wdB A q (ix3 0 k j)

theorem p14 (q : Fin 4) : k0_pay14 (F := Ideal) (bk T (hn A)) (wuB A q) (wdB A q) = bk T (part A q) := by
  unfold k0_pay14; rw [p12]
  funext i; idx_vars i; pointwise
  simp only [bk_ix]; rfl
theorem p11 (q p : Fin 4) : k0_pay11 (F := Ideal) (bk T (hn A)) (k0_pay6 (F := Ideal)) (bk T (sl q (r A))) (wdB A q) (wuB A p) (wdB A p)
    = bk T fun t j => part A q t j + part A p t j := by
  unfold k0_pay11; rw [p9]
  funext i; idx_vars i; pointwise [k0_pay6]
  simp only [bk_ix]; rfl
theorem p3 : k0_pay3 (F := Ideal) (bk T (h1 A)) (bk T (hn A)) (bk T fun t j => part A 0 t j + part A 1 t j) (bk T (part A 2)) (wuB A 3) (wdB A 3)
    = bk T (h2 A) := by
  unfold k0_pay3; rw [p1]
  funext i; idx_vars i; pointwise
  simp only [bk_ix]
  unfold h2; rw [sum_shards]
  rfl

end Cert.Mix

end
-- ==== Proof.MixFinal.lean ====
/- The forward kernel's result arrays: its operands as the lines before the call leave them, its stores at one grid point, and the
   arrays that it leaves. -/
module

public import proofs.«01_k».proof.Proof.MixRows
public import proofs.«01_k».proof.Proof.Gen.Kernel5Ideal.Frame
public import Idealize.ShloMosaic.Lib.Pipeline.ReadBack

@[expose] public section

set_option maxRecDepth 16384

noncomputable section

namespace Cert.Mix

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ) (c : Dev nD)

/-- The arguments of a device, read off the arrays. -/
def argsOf (x0 : S4096x1024.Idx → EReal) (x1 : S4096x2048.Idx → EReal) (x2 : S2048x1024.Idx → EReal) (x3 : S1024.Idx → EReal)
    (x4 : S1024x4096.Idx → EReal) (x5 : S4096x1024.Idx → EReal) : Args where
  h t j := x0 (ix2 t j)
  y t k := x1 (ix2 t k)
  wo k j := x2 (ix2 k j)
  g j := x3 (ix1 j)
  wu j k := x4 (ix2 j k)
  wd k j := x5 (ix2 k j)
/-- The arguments of a device. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-! ### The operands -/

theorem h10 : V m c main_v10 = gR (args m c) := by
  unfold Gen.V; simp only [hostOps0, List.flatten_cons, List.flatten_nil, List.cons_append, List.nil_append]; after_results_simp; funext i; idx_vars i; pointwise; rfl
theorem h9 : V m c main_v9 = concatenate S4x4096x1024 1 [
    ⟨S4x1024x1024, truncf .bf16 (transpose S4x1024x1024 [1, 0, 2] (shapeCast S1024x4x1024 (m ((c : Thread nD τ).loc main_arg4)) shapeCasts_S1024x4096_S1024x4x1024) transposes_S1024x4x1024_S4x1024x1024_1_0_2) bitsLt_bf16_f32⟩,
    ⟨S4x1024x1024, truncf .bf16 (shapeCast S4x1024x1024 (m ((c : Thread nD τ).loc main_arg5)) shapeCasts_S4096x1024_S4x1024x1024) bitsLt_bf16_f32⟩,
    ⟨S4x1024x1024, broadcastInDim S4x1024x1024 ![] bcast_S_S4x1024x1024 (constant (F := Ideal) S_ .bf16 0#16)⟩,
    ⟨S4x512x1024, truncf .bf16 (shapeCast S4x512x1024 (m ((c : Thread nD τ).loc main_arg2)) shapeCasts_S2048x1024_S4x512x1024) bitsLt_bf16_f32⟩,
    ⟨S4x512x1024, broadcastInDim S4x512x1024 ![] bcast_S_S4x512x1024 (constant (F := Ideal) S_ .bf16 0#16)⟩] concatenates_S4x1024x1024_S4x1024x1024_S4x1024x1024_S4x512x1024_S4x512x1024_S4x4096x1024_d1 := by
  unfold Gen.V; simp only [hostOps0, List.flatten_cons, List.flatten_nil, List.cons_append, List.nil_append]; after_results_simp
  rfl
theorem h9_up (q : Fin 4) (j k : Fin 1024) : V m c main_v9 (ix3 q ⟨j.val, by omega⟩ k) = wuS (args m c) (ix3 q j k) := by
  rw [h9]; pointwise
  exact congrArg (fun y => (args m c).wu j y) (Fin.ext (by simp; omega))
theorem h9_down (q : Fin 4) (j k : Fin 1024) : V m c main_v9 (ix3 q ⟨1024 + j.val, by omega⟩ k) = wdS (args m c) (ix3 q j k) := by
  rw [h9]; pointwise
  exact congrArg (fun y => (args m c).wd y k) (Fin.ext (by simp; omega))
/-- The fourth of five arrays laid one after another, of which the first three are of 1024 rows. -/
theorem fourth (a b e : S4x1024x1024.Idx → EReal) (f d : S4x512x1024.Idx → EReal) (q : Fin 4) (j : Fin 512) (k : Fin 1024) :
    concatenate S4x4096x1024 1 [⟨S4x1024x1024, a⟩, ⟨S4x1024x1024, b⟩, ⟨S4x1024x1024, e⟩, ⟨S4x512x1024, f⟩, ⟨S4x512x1024, d⟩]
      concatenates_S4x1024x1024_S4x1024x1024_S4x1024x1024_S4x512x1024_S4x512x1024_S4x4096x1024_d1 (ix3 q ⟨3072 + j.val, by omega⟩ k) = f (ix3 q j k) := by
  pointwise
  rw [dif_neg (by omega), dif_neg (by omega), dif_neg (by omega), dif_pos (by omega)]
  exact congrArg (fun y => f (ix3 q y k)) (Fin.ext (by simp; omega))
/-- An array of 2048 rows as four shards of 512. -/
theorem shards (x : S2048x1024.Idx → EReal) (q : Fin 4) (j : Fin 512) (k : Fin 1024) :
    shapeCast S4x512x1024 x shapeCasts_S2048x1024_S4x512x1024 (ix3 q j k) = x (ix2 ⟨512 * q.val + j.val, by omega⟩ k) := by
  refine shapeCast_apply x _ _ _ ?_
  rw [Shape.rowMajor_val_two, Shape.rowMajor_val_three]
  simp; omega
theorem h9_out (q : Fin 4) (j : Fin 512) (k : Fin 1024) : V m c main_v9 (ix3 q ⟨3072 + j.val, by omega⟩ k) = woS (args m c) (ix3 q j k) := by
  rw [h9, fourth]
  exact shards _ q j k

/-- Where each window's block lies. -/
theorem idx : ∀ t : Fin cfg0.N, win0_0.index t = ![t.val, 0] ∧ win0_1.index t = ![t.val, 0] ∧ win0_2.index t = ![0, 6, 0]
    ∧ win0_3.index t = ![0, 0] ∧ win0_4.index t = ![0, 0, 0] ∧ win0_5.index t = ![0, 1, 0] ∧ win0_6.index t = ![t.val, 0]
    ∧ win0_7.index t = ![t.val, 0] ∧ win0_8.index t = ![t.val, 0] ∧ win0_9.index t = ![t.val, 0] :=
  (by decide +kernel : ∀ t : Fin grid0.N, _)

/-- A grid point as one of the 8 blocks of tokens. -/
def pt (t : Fin cfg0.N) : Fin 8 := ⟨t.val, by have h := t.isLt; have := N_0; change t.val < grid0.N at h; omega⟩

theorem arr_at {M N : ℕ} (f : Fin M → Fin N → EReal) (i : (⟨2, ![M, N]⟩ : Shape).Idx) (a : Fin M) (b : Fin N)
    (h0 : (i 0).val = a.val) (h1 : (i 1).val = b.val) : arr f i = f a b := by
  unfold arr; exact congrArg₂ f (Fin.ext h0) (Fin.ext h1)
theorem two_at {M N : ℕ} {G : (⟨2, ![M, N]⟩ : Shape).Idx → EReal} (i : (⟨2, ![M, N]⟩ : Shape).Idx) (a : Fin M) (b : Fin N)
    (h0 : (i 0).val = a.val) (h1 : (i 1).val = b.val) : G i = G (ix2 a b) := by
  obtain rfl : i 0 = a := Fin.ext h0
  obtain rfl : i 1 = b := Fin.ext h1
  rw [← eq_ix2 i]
theorem three_at {L M N : ℕ} {G : (⟨3, ![L, M, N]⟩ : Shape).Idx → EReal} (i : (⟨3, ![L, M, N]⟩ : Shape).Idx) (q : Fin L) (a : Fin M) (b : Fin N)
    (h0 : (i 0).val = q.val) (h1 : (i 1).val = a.val) (h2 : (i 2).val = b.val) : G i = G (ix3 q a b) := by
  obtain rfl : i 0 = q := Fin.ext h0
  obtain rfl : i 1 = a := Fin.ext h1
  obtain rfl : i 2 = b := Fin.ext h2
  rw [← eq_ix3 i]

theorem i0 (t : Fin cfg0.N) : iblk m c 0 t = bk (pt t) (args m c).h := by
  funext y
  blk_simp [iblk]
  rw [V_main_arg0]
  exact two_at _ (tok (pt t) (y 0)) (y 1) (by blk_simp [idx t]; simp [tok, pt]; omega) (by blk_simp [idx t])
theorem i1 (t : Fin cfg0.N) : iblk m c 1 t = bk (pt t) (args m c).y := by
  funext y
  blk_simp [iblk]
  rw [V_main_arg1]
  exact two_at _ (tok (pt t) (y 0)) (y 1) (by blk_simp [idx t]; simp [tok, pt]; omega) (by blk_simp [idx t])
theorem i2 (t : Fin cfg0.N) : iblk m c 2 t = woS (args m c) := by
  funext y
  blk_simp [iblk]
  refine (three_at _ (y 0) ⟨3072 + (y 1).val, by idx_bounds y; omega⟩ (y 2) (by blk_simp [idx t]) (by blk_simp [idx t]) (by blk_simp [idx t])).trans ?_
  exact h9_out m c (y 0) (y 1) (y 2)
theorem i3 (t : Fin cfg0.N) : iblk m c 3 t = gR (args m c) := by
  have e : iblk m c 3 t = V m c main_v10 := by blk_ext! [iblk, idx t]
  rw [e, h10]
theorem i4 (t : Fin cfg0.N) : iblk m c 4 t = wuS (args m c) := by
  funext y
  blk_simp [iblk]
  refine (three_at _ (y 0) ⟨(y 1).val, by idx_bounds y; omega⟩ (y 2) (by blk_simp [idx t]) (by blk_simp [idx t]) (by blk_simp [idx t])).trans ?_
  exact h9_up m c (y 0) (y 1) (y 2)
theorem i5 (t : Fin cfg0.N) : iblk m c 5 t = wdS (args m c) := by
  funext y
  blk_simp [iblk]
  refine (three_at _ (y 0) ⟨1024 + (y 1).val, by idx_bounds y; omega⟩ (y 2) (by blk_simp [idx t]) (by blk_simp [idx t]) (by blk_simp [idx t])).trans ?_
  exact h9_down m c (y 0) (y 1) (y 2)

/-! ### The stores at one grid point -/

section
variable (A : Args) (T : Fin 8)

theorem ld_of {s : Shape} {e : EltTy} (X : s.Idx → Elt Ideal e) (r : Rect s) (G : r.shape.Idx → Elt Ideal e)
    (h : ∀ x, X (r.idx x) = G x) : View.ld X r = G := funext h
theorem canon_of {s : Shape} {e : EltTy} (G : s.Idx → Elt Ideal e) (L : List (View.Piece (Elt Ideal) s e)) (g : Fin s.rank → ℕ)
    (hc : View.Piece.tiledBy L g = true) (hp : View.PiecesOf G L) : View.canon L = G :=
  funext fun y => View.canon_apply_of_pieces G L hp.mem y (View.cover_of_tiledBy L g hc y)

theorem ld_wu (q : Fin 4) (G : ℕ) (hG : G = q.val) (inb) :
    View.ld (Val := Elt Ideal) (e' := .bf16) (S := S4x1024x1024) (wuS A)
      (Rect.unit (s := S4x1024x1024) ![G, 0, 0] ![1, 1024, 1024] inb) = wuB A q := by
  subst hG
  refine ld_of _ _ _ fun x => ?_
  have h0 : (x 0).val < 1 := (x 0).isLt
  exact congrArg₂ A.wu (Fin.ext (by simp)) (Fin.ext (by simp))
theorem ld_wd (q : Fin 4) (G : ℕ) (hG : G = q.val) (inb) :
    View.ld (Val := Elt Ideal) (e' := .bf16) (S := S4x1024x1024) (wdS A)
      (Rect.unit (s := S4x1024x1024) ![G, 0, 0] ![1, 1024, 1024] inb) = wdB A q := by
  subst hG
  refine ld_of _ _ _ fun x => ?_
  have h0 : (x 0).val < 1 := (x 0).isLt
  exact congrArg₂ A.wd (Fin.ext (by simp)) (Fin.ext (by simp))

/-- A stored shard agrees with the block of the whole. -/
theorem at_sl (f : Fin 4096 → Fin 4096 → EReal) (q : Fin 4) (b : ℕ) (hb : b = 1024 * q.val) (inb)
    (x : (Rect.unit (s := S512x4096) ![0, b] ![512, 1024] inb).shape.Idx) :
    bk T (sl q f) x = bk T f ((Rect.unit (s := S512x4096) ![0, b] ![512, 1024] inb).emb x) := by
  subst hb
  exact congrArg₂ f (Fin.ext (by simp [tok])) (Fin.ext (by simp))
/-- Four stored shards agree with the block of the whole. -/
theorem sl_pieces (f : Fin 4096 → Fin 4096 → EReal) : View.PiecesOf (e := .bf16) (s := S512x4096) (Val := Elt Ideal) (bk T f) [
    ⟨Rect.unit (s := S512x4096) ![0, 3072] ![512, 1024] (by decide), bk T (sl 3 f)⟩,
    ⟨Rect.unit (s := S512x4096) ![0, 2048] ![512, 1024] (by decide), bk T (sl 2 f)⟩,
    ⟨Rect.unit (s := S512x4096) ![0, 1024] ![512, 1024] (by decide), bk T (sl 1 f)⟩,
    ⟨Rect.unit (s := S512x4096) ![0, 0] ![512, 1024] (by decide), bk T (sl 0 f)⟩] :=
  ⟨fun x => at_sl T f 3 _ (by decide) (by decide) x, fun x => at_sl T f 2 _ (by decide) (by decide) x,
    fun x => at_sl T f 1 _ (by decide) (by decide) x, fun x => at_sl T f 0 _ (by decide) (by decide) x, trivial⟩

/-- The normalized block, as the body binds it. -/
theorem p15 : k0_pay15 (F := Ideal) (bk T A.h) (bk T A.y) (woS A) (gR A) (wuS A) (wdS A) = bk T (hn A) := by
  refine Eq.trans ?_ (p5 A T)
  have e0 : View.ld (Val := Elt Ideal) (e' := .f32) (bk T A.h) r0_0 = bk T A.h := View.ld_unit_lit _ _ (by decide)
  have e1 : View.ld (Val := Elt Ideal) (e' := .bf16) (bk T A.y) r0_1 = bk T A.y := View.ld_unit_lit _ _ (by decide)
  have e2 : View.ld (Val := Elt Ideal) (e' := .bf16) (woS A) r0_2 = woS A := View.ld_unit_lit _ _ (by decide)
  have e3 : View.ld (Val := Elt Ideal) (e' := .f32) (gR A) r0_3 = gR A := View.ld_unit_lit _ _ (by decide)
  unfold k0_pay15
  rw [e0, e1, e2, e3]

theorem e6 : out0_6 (F := Ideal) (bk T A.h) (bk T A.y) (woS A) (gR A) (wuS A) (wdS A) = bk T (h1 A) := by
  frame_out
  rw [p4]
theorem e8 : out0_8 (F := Ideal) (bk T A.h) (bk T A.y) (woS A) (gR A) (wuS A) (wdS A) = bk T (hn A) := by
  frame_out
  rw [p5]
theorem e7 : out0_7 (F := Ideal) (bk T A.h) (bk T A.y) (woS A) (gR A) (wuS A) (wdS A) = bk T (h2 A) := by
  frame_out
  simp only [ld_wu A 0 0 rfl, ld_wu A 1 1 rfl, ld_wu A 2 2 rfl, ld_wu A 3 3 rfl, ld_wd A 0 0 rfl, ld_wd A 1 1 rfl, ld_wd A 2 2 rfl, ld_wd A 3 3 rfl, p15, p4, p7, p11, p14, p3]
theorem e9 : out0_9 (F := Ideal) (bk T A.h) (bk T A.y) (woS A) (gR A) (wuS A) (wdS A) = bk T (r A) := by
  frame_out
  simp only [ld_wu A 0 0 rfl, ld_wu A 1 1 rfl, ld_wu A 2 2 rfl, ld_wu A 3 3 rfl, p15, p2, p13, p10, p8]
  exact canon_of _ _ ![512, 1024] (by sl_kernel_rfl) (sl_pieces T (r A))
end

/-! ### The arrays -/

/-- The stream after the mixer. -/
theorem r6 : (dats m 0 c).arrAt 6 cfg0.N = arr (h1 (args m c)) := by
  refine (dats m 0 c).arrAt_eq_of_covers 6 _ (by decide +kernel) fun t hf y => ?_
  blk_simp
  rw [after0_6, i0, i1, i2, i3, i4, i5, e6]
  exact (arr_at _ _ (tok (pt t) (y 0)) (y 1) (by blk_simp [idx t]; simp [tok, pt]; omega) (by blk_simp [idx t])).symm
/-- The stream after the layer. -/
theorem r7 : (dats m 0 c).arrAt 7 cfg0.N = arr (h2 (args m c)) := by
  refine (dats m 0 c).arrAt_eq_of_covers 7 _ (by decide +kernel) fun t hf y => ?_
  blk_simp
  rw [after0_7, i0, i1, i2, i3, i4, i5, e7]
  exact (arr_at _ _ (tok (pt t) (y 0)) (y 1) (by blk_simp [idx t]; simp [tok, pt]; omega) (by blk_simp [idx t])).symm
/-- The normalized stream. -/
theorem r8 : (dats m 0 c).arrAt 8 cfg0.N = arr (hn (args m c)) := by
  refine (dats m 0 c).arrAt_eq_of_covers 8 _ (by decide +kernel) fun t hf y => ?_
  blk_simp
  rw [after0_8, i0, i1, i2, i3, i4, i5, e8]
  exact (arr_at _ _ (tok (pt t) (y 0)) (y 1) (by blk_simp [idx t]; simp [tok, pt]; omega) (by blk_simp [idx t])).symm
/-- The positive part of the up projection. -/
theorem r9 : (dats m 0 c).arrAt 9 cfg0.N = arr (r (args m c)) := by
  refine (dats m 0 c).arrAt_eq_of_covers 9 _ (by decide +kernel) fun t hf y => ?_
  blk_simp
  rw [after0_9, i0, i1, i2, i3, i4, i5, e9]
  exact (arr_at _ _ (tok (pt t) (y 0)) (y 1) (by blk_simp [idx t]; simp [tok, pt]; omega) (by blk_simp [idx t])).symm

end Cert.Mix

end
-- ==== Proof.MixRef.lean ====
/- The reference's forward layer: each of its values is the quantity that the kernel's is. -/
module

public import proofs.«01_k».proof.Proof.MixFinal
public import proofs.«01_k».proof.Proof.Gen.Reference5Ideal.Read

@[expose] public section

set_option maxRecDepth 16384

noncomputable section

namespace Cert.Mix.Val

open Idealize.ShloMosaic Idealize.ShloMosaic.TcCoe Idealize.SL.Sem
open Cert.Reference5Ideal Cert.Reference5Ideal.Gen Cert.Reference5Ideal.Read Cert.Coe Cert.Mix

variable (A : Args)

/-- A quantity of one index. -/
def one {N : ℕ} (f : Fin N → EReal) : (⟨1, ![N]⟩ : Shape).Idx → EReal := fun i => f (i 0)

/-- Dividing by 1024 is multiplying by its inverse, for every extended real. -/
theorem div_1024 (a : EReal) : Ideal.div a ((1024 : ℝ) : EReal) = a * ((1 / 1024 : ℝ) : EReal) := Ideal.div_coe (by norm_num : (1024 : ℝ) ≠ 0) a

theorem w2 : val_main_v2 (F := Ideal) (arr A.h) (arr A.y) (arr A.wo) = arr (h1 A) := by
  funext i; idx_vars i
  simp only [val_main_v2_apply, val_main_v1_apply, val_main_v0_apply]
  pointwise; rfl
theorem w10 (t : Fin 4096) (q : Fin 1) : val_main_v10 (F := Ideal) (arr A.h) (arr A.y) (arr A.wo) (ix2 t q) = rs A t := by
  simp only [val_main_v10_apply, val_main_v9_apply, val_main_v8_apply, val_main_cst_1_apply, val_main_v7_apply, val_main_v6_apply, val_main_cst_0_apply, val_main_v5_apply, val_main_v4_apply, val_main_cst_apply, val_main_v3_apply, w2 A]
  pointwise
  simp only [c_1024, c_eps, c_zero, zero_up.symm, zero_add, div_1024]; rfl
theorem w15 : val_main_v15 (F := Ideal) (arr A.h) (arr A.y) (arr A.wo) (one A.g) = arr (hn A) := by
  funext i; idx_vars i
  simp only [val_main_v15_apply, val_main_v14_apply, val_main_v13_apply, val_main_v12_apply, val_main_v11_apply, w2 A]
  pointwise
  refine congrArg₂ (fun x y : EReal => x * y) (congrArg₂ (fun x y : EReal => x * y) rfl ?_) rfl
  refine Eq.trans (congrArg _ ?_) (w10 A i0 0)
  exact eq_ix2 _
theorem w17 : val_main_v17 (F := Ideal) (arr A.h) (arr A.y) (arr A.wo) (one A.g) (arr A.wu) = arr (r A) := by
  funext i; idx_vars i
  simp only [val_main_v17_apply, val_main_call0_v0_apply, val_main_call0_cst_apply, val_main_v16_apply, w15 A]
  pointwise
  refine congrArg₂ (fun x y : EReal => max x y) rfl ?_
  first | exact c_zero | (simp only [zero_up])
theorem w20 : val_main_v20 (F := Ideal) (arr A.h) (arr A.y) (arr A.wo) (one A.g) (arr A.wu) (arr A.wd) = arr (h2 A) := by
  funext i; idx_vars i
  simp only [val_main_v20_apply, val_main_v19_apply, val_main_v18_apply, w17 A, w2 A]
  pointwise; rfl
theorem w21 : val_main_v21 (F := Ideal) (arr A.h) (arr A.y) (arr A.wo) (one A.g) = arr (hn A) := by
  funext i; idx_vars i
  simp only [val_main_v21_apply, w15 A]
  pointwise
theorem w24 : val_main_v24 (F := Ideal) (arr A.h) (arr A.y) (arr A.wo) (one A.g) (arr A.wu) = arr (r A) := by
  funext i; idx_vars i
  simp only [val_main_v24_apply, val_main_v23_apply, val_main_call1_v0_apply, val_main_call1_cst_apply, val_main_v22_apply, w15 A]
  pointwise
  refine congrArg₂ (fun x y : EReal => max x y) rfl ?_
  first | exact c_zero | (simp only [zero_up])

/-! ### Over the arrays themselves -/

theorem arr_eq {M N : ℕ} (x : (⟨2, ![M, N]⟩ : Shape).Idx → EReal) : arr (fun a b => x (ix2 a b)) = x := by
  funext i; exact congrArg x (eq_ix2 i).symm
theorem one_eq {N : ℕ} (x : (⟨1, ![N]⟩ : Shape).Idx → EReal) : one (fun a => x (ix1 a)) = x := by
  funext i; exact congrArg x (eq_ix1 i).symm

variable (x0 : S4096x1024.Idx → EReal) (x1 : S4096x2048.Idx → EReal) (x2 : S2048x1024.Idx → EReal) (x3 : S1024.Idx → EReal)
    (x4 : S1024x4096.Idx → EReal) (x5 : S4096x1024.Idx → EReal)

theorem e0 : arr (argsOf x0 x1 x2 x3 x4 x5).h = x0 := arr_eq x0
theorem e1 : arr (argsOf x0 x1 x2 x3 x4 x5).y = x1 := arr_eq x1
theorem e2 : arr (argsOf x0 x1 x2 x3 x4 x5).wo = x2 := arr_eq x2
theorem e3 : one (argsOf x0 x1 x2 x3 x4 x5).g = x3 := one_eq x3
theorem e4 : arr (argsOf x0 x1 x2 x3 x4 x5).wu = x4 := arr_eq x4
theorem e5 : arr (argsOf x0 x1 x2 x3 x4 x5).wd = x5 := arr_eq x5
theorem v2 : val_main_v2 (F := Ideal) x0 x1 x2 = arr (h1 (argsOf x0 x1 x2 x3 x4 x5)) := by
  have e := w2 (argsOf x0 x1 x2 x3 x4 x5)
  rwa [e0 x0 x1 x2 x3 x4 x5, e1 x0 x1 x2 x3 x4 x5, e2 x0 x1 x2 x3 x4 x5] at e
theorem v20 : val_main_v20 (F := Ideal) x0 x1 x2 x3 x4 x5 = arr (h2 (argsOf x0 x1 x2 x3 x4 x5)) := by
  have e := w20 (argsOf x0 x1 x2 x3 x4 x5)
  rwa [e0 x0 x1 x2 x3 x4 x5, e1 x0 x1 x2 x3 x4 x5, e2 x0 x1 x2 x3 x4 x5, e3 x0 x1 x2 x3 x4 x5, e4 x0 x1 x2 x3 x4 x5, e5 x0 x1 x2 x3 x4 x5] at e
theorem v21 : val_main_v21 (F := Ideal) x0 x1 x2 x3 = arr (hn (argsOf x0 x1 x2 x3 x4 x5)) := by
  have e := w21 (argsOf x0 x1 x2 x3 x4 x5)
  rwa [e0 x0 x1 x2 x3 x4 x5, e1 x0 x1 x2 x3 x4 x5, e2 x0 x1 x2 x3 x4 x5, e3 x0 x1 x2 x3 x4 x5] at e
theorem v24 : val_main_v24 (F := Ideal) x0 x1 x2 x3 x4 = arr (r (argsOf x0 x1 x2 x3 x4 x5)) := by
  have e := w24 (argsOf x0 x1 x2 x3 x4 x5)
  rwa [e0 x0 x1 x2 x3 x4 x5, e1 x0 x1 x2 x3 x4 x5, e2 x0 x1 x2 x3 x4 x5, e3 x0 x1 x2 x3 x4 x5, e4 x0 x1 x2 x3 x4 x5] at e

end Cert.Mix.Val

end
-- ==== Proof.FwdSpec.lean ====
/- The chunked gMLP mixer, forward, over the extended reals: the projection before gelu and the gated product. -/
module

public import proofs.«01_k».proof.Proof.MixSpec

@[expose] public section

noncomputable section

namespace Cert.Fwd

open Idealize.ShloMosaic
open Cert.Spec (tok chk pos grp chan lo hi trl)
open scoped BigOperators

/-- The arguments: the stream, the norm's scale, the input projection, the layer norm's scale and shift, the spatial weights and
    biases. -/
structure Args where
  h : Fin 4096 → Fin 1024 → EReal
  g : Fin 1024 → EReal
  wi : Fin 1024 → Fin 4096 → EReal
  lg : Fin 2048 → EReal
  lb : Fin 2048 → EReal
  ws : Fin 8 → Fin 128 → Fin 128 → EReal
  bs : Fin 8 → Fin 128 → EReal

variable (A : Args)

/-- gelu. -/
def gel (x : EReal) : EReal :=
  ((1 / 2 : ℝ) : EReal) * x * (((1 : ℝ) : EReal) + Ideal.tanh (((Spec.gk : ℝ) : EReal) * (x + ((Spec.gc : ℝ) : EReal) * x * x * x)))
/-- gelu, in the reference's order. -/
theorem gel_eq (x : EReal) : x * (((1 / 2 : ℝ) : EReal) * (((1 : ℝ) : EReal)
    + Ideal.tanh (((Spec.gk : ℝ) : EReal) * (x + ((Spec.gc : ℝ) : EReal) * (x * x * x))))) = gel x := by
  unfold gel
  simp only [mul_assoc, mul_left_comm, mul_comm]

/-- What the norm scales a token by. -/
def rr (t : Fin 4096) : EReal := Ideal.rsqrt ((∑ k, A.h t k * A.h t k) * ((1 / 1024 : ℝ) : EReal) + ((Spec.eps : ℝ) : EReal))
/-- The normalized stream, scaled. -/
def hn (t : Fin 4096) (j : Fin 1024) : EReal := A.h t j * rr A t * A.g j
/-- The projection before gelu. -/
def pre (t : Fin 4096) (k : Fin 4096) : EReal := ∑ j, hn A t j * A.wi j k
/-- The gate. -/
def U (t : Fin 4096) (c : Fin 2048) : EReal := gel (pre A t (lo c))
/-- The mixed half. -/
def V (t : Fin 4096) (c : Fin 2048) : EReal := gel (pre A t (hi c))
/-- A row less its mean. -/
def xc (v : Fin 2048 → EReal) (c : Fin 2048) : EReal := v c - (∑ k, v k) * ((1 / 2048 : ℝ) : EReal)
/-- What the layer norm scales a row by. -/
def rs (v : Fin 2048 → EReal) : EReal := Ideal.rsqrt ((∑ k, xc v k * xc v k) * ((1 / 2048 : ℝ) : EReal) + ((Spec.eps : ℝ) : EReal))
/-- A normalized row. -/
def vh (v : Fin 2048 → EReal) (c : Fin 2048) : EReal := xc v c * rs v
/-- The mixed half, layer-normalized. -/
def vn (t : Fin 4096) (c : Fin 2048) : EReal := vh (V A t) c * A.lg c + A.lb c
/-- The masked spatial weights. -/
def wm (g : Fin 8) (a b : Fin 128) : EReal := A.ws g a b * ((trl a b : ℝ) : EReal)
/-- The spatial mix. -/
def sv (t : Fin 4096) (c : Fin 2048) : EReal := (∑ s, wm A (grp c) (pos t) s * vn A (tok (chk t) s) c) + A.bs (grp c) (pos t)
/-- The gated product. -/
def y (t : Fin 4096) (c : Fin 2048) : EReal := U A t c * sv A t c

/-- Token `r` of block `T`. -/
def tk (T : Fin 16) (r : Fin 256) : Fin 4096 := ⟨256 * T.val + r.val, by omega⟩
/-- Chunk `ch` of block `T`. -/
def nc (T : Fin 16) (ch : Fin 2) : Fin 32 := ⟨2 * T.val + ch.val, by omega⟩
/-- Block `T` of 256 tokens of a quantity. -/
def bk {N : ℕ} (T : Fin 16) (f : Fin 4096 → Fin N → EReal) : (⟨2, ![256, N]⟩ : Shape).Idx → EReal := fun i => f (tk T (i 0)) (i 1)
/-- A quantity of channels as one row. -/
def row {N : ℕ} (f : Fin N → EReal) : (⟨2, ![1, N]⟩ : Shape).Idx → EReal := fun i => f (i 1)
/-- A quantity of two indices as the only matrix of a stack. -/
def one1 {M N : ℕ} (f : Fin M → Fin N → EReal) : (⟨3, ![1, M, N]⟩ : Shape).Idx → EReal := fun i => f (i 1) (i 2)

theorem bk_ix {N : ℕ} (T : Fin 16) (f : Fin 4096 → Fin N → EReal) (r : Fin 256) (c : Fin N) : bk T f (ix2 r c) = f (tk T r) c := rfl
theorem row_ix {N : ℕ} (f : Fin N → EReal) (r : Fin 1) (c : Fin N) : row f (ix2 r c) = f c := rfl
theorem one1_ix {M N : ℕ} (f : Fin M → Fin N → EReal) (q : Fin 1) (r : Fin M) (c : Fin N) : one1 f (ix3 q r c) = f r c := rfl

/-- The input projection as the kernel's window holds it: four shards of its columns. -/
def wiS : (⟨3, ![4, 1024, 1024]⟩ : Shape).Idx → EReal := Mix.cube fun q j k => A.wi j ⟨1024 * q.val + k.val, by omega⟩
/-- One shard of the input projection. -/
def wiB (q : Fin 4) : (⟨3, ![1, 1024, 1024]⟩ : Shape).Idx → EReal := one1 (M := 1024) (N := 1024) fun j k => A.wi j ⟨1024 * q.val + k.val, by omega⟩
/-- The masked spatial weights, group by group. -/
def wmS : (⟨3, ![8, 128, 128]⟩ : Shape).Idx → EReal := Mix.cube (wm A)
/-- The masked spatial weights of one group. -/
def wmB (g : Fin 8) : (⟨3, ![1, 128, 128]⟩ : Shape).Idx → EReal := one1 (M := 128) (N := 128) (wm A g)
/-- The spatial biases, one column per channel. -/
def bsS : (⟨2, ![128, 2048]⟩ : Shape).Idx → EReal := Mix.arr fun a c => A.bs (grp c) a
/-- The spatial biases of one group. -/
def bsB (g : Fin 8) : (⟨2, ![128, 256]⟩ : Shape).Idx → EReal := Mix.arr fun a _ => A.bs g a

/-- Equal places of a quantity of tokens and channels. -/
theorem at_congr {N : ℕ} (f : Fin 4096 → Fin N → EReal) {t t' : Fin 4096} {c c' : Fin N} (ht : t.val = t'.val) (hc : c.val = c'.val) :
    f t c = f t' c' := by rw [Fin.ext ht, Fin.ext hc]
/-- The spatial mix of a token, from its chunk, its place, and its channel's group. -/
theorem sv_close (t : Fin 4096) (c : Fin 2048) (n : Fin 32) (a : Fin 128) (g : Fin 8) (r : Fin 128 → Fin 4096)
    (hr : ∀ s, (r s).val = 128 * n.val + s.val) (ht : t.val = 128 * n.val + a.val) (hc : c.val / 256 = g.val) :
    (∑ s, wm A g a s * vn A (r s) c) + A.bs g a = sv A t c := by
  obtain rfl : r = tok n := funext fun s => Fin.ext (hr s)
  unfold sv
  rw [show grp c = g from Fin.ext (by simp only [grp]; omega), show pos t = a from Fin.ext (by simp only [pos]; omega),
    show chk t = n from Fin.ext (by simp only [chk]; omega)]

end Cert.Fwd

end
-- ==== Proof.FwdRows.lean ====
/- The forward mixer's payloads: each, given the blocks of 256 tokens of the quantities it reads, is the block of the next. -/
module

public import proofs.«01_k».proof.Proof.FwdSpec
public import proofs.«01_k».proof.Proof.Gen.Kernel8Ideal.Skeleton
public import Idealize.ShloMosaic.Lib.Pipeline.ValueKit

@[expose] public section

set_option maxRecDepth 16384

noncomputable section

namespace Cert.Fwd

open Idealize.ShloMosaic Idealize.ShloMosaic.TcCoe Idealize.SL.Sem
open Cert.Kernel8Ideal Cert.Kernel8Ideal.Gen Cert.Coe
open Cert.Spec (tok chk pos grp chan lo hi trl gc)

variable (A : Args) (T : Fin 16)

theorem n_c : Named.named (F := Ideal) κ "c" (φ := .f32) 0x3D372713#32 = ((gc : ℝ) : EReal) :=
  IdealRules.named_const.ideal_named_scalar _ _ _ _ rfl
/-- Dividing by 2048 is multiplying by its inverse, for every extended real. -/
theorem div_2048 (a : EReal) : Ideal.div a ((2048 : ℝ) : EReal) = a * ((1 / 2048 : ℝ) : EReal) := Ideal.div_coe (by norm_num : (2048 : ℝ) ≠ 0) a

theorem p3 : k0_pay3 (F := Ideal) (bk T A.h) (row A.g) = bk T (hn A) := by
  funext i; idx_vars i; pointwise [k0_pay3]
  simp only [bk_ix, row_ix, c_inv1024, c_eps]; rfl
theorem p4 : k0_pay4 (F := Ideal) (bk T A.h) (row A.g) (wiB A 0) (wiB A 1) = bk T fun t c => pre A t (lo c) := by
  unfold k0_pay4; rw [p3]
  funext i; idx_vars i; pointwise
  simp only [bk_ix]
  split
  · exact Finset.sum_congr rfl fun k _ => congrArg (fun z => hn A (tk T i0) k * A.wi k z) (Fin.ext (by simp [lo]))
  · exact Finset.sum_congr rfl fun k _ => congrArg (fun z => hn A (tk T i0) k * A.wi k z) (Fin.ext (by simp [lo]; omega))
theorem p5 : k0_pay5 (F := Ideal) (bk T A.h) (row A.g) (wiB A 2) (wiB A 3) = bk T fun t c => pre A t (hi c) := by
  unfold k0_pay5; rw [p3]
  funext i; idx_vars i; pointwise
  simp only [bk_ix]
  split
  · exact Finset.sum_congr rfl fun k _ => congrArg (fun z => hn A (tk T i0) k * A.wi k z) (Fin.ext (by simp [hi]))
  · exact Finset.sum_congr rfl fun k _ => congrArg (fun z => hn A (tk T i0) k * A.wi k z) (Fin.ext (by simp [hi]; omega))
theorem p6 : k0_pay6 (F := Ideal) (bk T A.h) (row A.g) (wiB A 0) (wiB A 1) = bk T fun t c => pre A t (lo c) := by
  unfold k0_pay6; rw [p4]
  funext i; idx_vars i; pointwise
theorem p7 : k0_pay7 (F := Ideal) (bk T A.h) (row A.g) (wiB A 2) (wiB A 3) = bk T fun t c => pre A t (hi c) := by
  unfold k0_pay7; rw [p5]
  funext i; idx_vars i; pointwise
theorem p8 : k0_pay8 (F := Ideal) (bk T fun t c => pre A t (lo c)) = bk T (U A) := by
  funext i; idx_vars i; pointwise [k0_pay8]
  simp only [bk_ix, n_c, c_half, c_gk, c_one, one_up]; rfl
theorem p9 : k0_pay9 (F := Ideal) (bk T fun t c => pre A t (hi c)) = bk T fun t => vh (V A t) := by
  funext i; idx_vars i; pointwise [k0_pay9]
  simp only [bk_ix, n_c, c_half, c_gk, c_one, one_up, c_2048, c_eps, div_2048]; rfl
theorem p10 : k0_pay10 (F := Ideal) (bk T fun t => vh (V A t)) (row A.lg) (row A.lb) = bk T (vn A) := by
  funext i; idx_vars i; pointwise [k0_pay10]
  simp only [bk_ix, row_ix]; rfl

/-- Chunk `n` and group `g` of a quantity of tokens and channels. -/
def sub (n : Fin 32) (g : Fin 8) (f : Fin 4096 → Fin 2048 → EReal) : S128x256.Idx → EReal :=
  Mix.arr (M := 128) (N := 256) fun a e => f (tok n a) (chan g e)

/-- The gated product, from places of a block. -/
theorem s_close (n : Fin 32) (g : Fin 8) (a : Fin 128) (e : Fin 256) (r : Fin 128 → Fin 4096) (c : Fin 2048)
    (hr : ∀ s, (r s).val = 128 * n.val + s.val) (hc : c.val = 256 * g.val + e.val) :
    U A (r a) c * ((∑ s, wm A g a s * vn A (r s) c) + A.bs g a) = y A (tok n a) (chan g e) := by
  obtain rfl : c = chan g e := Fin.ext hc
  rw [sv_close A (r a) (chan g e) n a g r hr (hr a) (by simp only [chan]; omega)]
  exact at_congr (y A) (hr a) rfl

theorem s0_0 : k0_pay11 (F := Ideal) (bk T (U A)) (bk T fun t => vh (V A t)) (row A.lg) (row A.lb) (wmB A 0) (bsB A 0)
    = sub (nc T 0) 0 (y A) := by
  unfold k0_pay11; rw [p10]
  unfold sub; funext i; idx_vars i; pointwise
  simp only [bk_ix]
  exact s_close A (nc T 0) 0 i0 i1 (fun s => tk T ⟨s.val, by omega⟩) ⟨i1.val, by omega⟩ (fun s => by simp only [tk, nc]; first | omega | (simp; omega)) (by simp)
theorem s0_1 : k0_pay12 (F := Ideal) (bk T (U A)) (bk T fun t => vh (V A t)) (row A.lg) (row A.lb) (wmB A 1) (bsB A 1)
    = sub (nc T 0) 1 (y A) := by
  unfold k0_pay12; rw [p10]
  unfold sub; funext i; idx_vars i; pointwise
  simp only [bk_ix]
  exact s_close A (nc T 0) 1 i0 i1 (fun s => tk T ⟨s.val, by omega⟩) ⟨256 + i1.val, by omega⟩ (fun s => by simp only [tk, nc]; first | omega | (simp; omega)) (by simp)
theorem s0_2 : k0_pay14 (F := Ideal) (bk T (U A)) (k0_pay13 (F := Ideal) (bk T fun t => vh (V A t)) (row A.lg) (row A.lb) (wmB A 2)) (bsB A 2)
    = sub (nc T 0) 2 (y A) := by
  unfold k0_pay13 k0_pay14; rw [p10]
  unfold sub; funext i; idx_vars i; pointwise
  simp only [bk_ix]
  exact s_close A (nc T 0) 2 i0 i1 (fun s => tk T ⟨s.val, by omega⟩) ⟨512 + i1.val, by omega⟩ (fun s => by simp only [tk, nc]; first | omega | (simp; omega)) (by simp)
theorem s0_3 : k0_pay15 (F := Ideal) (bk T (U A)) (bk T (vn A)) (wmB A 3) (bsB A 3)
    = sub (nc T 0) 3 (y A) := by
  unfold sub; funext i; idx_vars i; pointwise [k0_pay15]
  simp only [bk_ix]
  exact s_close A (nc T 0) 3 i0 i1 (fun s => tk T ⟨s.val, by omega⟩) ⟨768 + i1.val, by omega⟩ (fun s => by simp only [tk, nc]; first | omega | (simp; omega)) (by simp)
theorem s0_4 : k0_pay16 (F := Ideal) (bk T (U A)) (bk T (vn A)) (wmB A 4) (bsB A 4)
    = sub (nc T 0) 4 (y A) := by
  unfold sub; funext i; idx_vars i; pointwise [k0_pay16]
  simp only [bk_ix]
  exact s_close A (nc T 0) 4 i0 i1 (fun s => tk T ⟨s.val, by omega⟩) ⟨1024 + i1.val, by omega⟩ (fun s => by simp only [tk, nc]; first | omega | (simp; omega)) (by simp)
theorem s0_5 : k0_pay18 (F := Ideal) (bk T (U A)) (k0_pay17 (F := Ideal) (bk T (vn A)) (wmB A 5)) (bsB A 5)
    = sub (nc T 0) 5 (y A) := by
  unfold sub; funext i; idx_vars i; pointwise [k0_pay17, k0_pay18]
  simp only [bk_ix]
  exact s_close A (nc T 0) 5 i0 i1 (fun s => tk T ⟨s.val, by omega⟩) ⟨1280 + i1.val, by omega⟩ (fun s => by simp only [tk, nc]; first | omega | (simp; omega)) (by simp)
theorem s0_6 : k0_pay19 (F := Ideal) (bk T (U A)) (bk T (vn A)) (wmB A 6) (bsB A 6)
    = sub (nc T 0) 6 (y A) := by
  unfold sub; funext i; idx_vars i; pointwise [k0_pay19]
  simp only [bk_ix]
  exact s_close A (nc T 0) 6 i0 i1 (fun s => tk T ⟨s.val, by omega⟩) ⟨1536 + i1.val, by omega⟩ (fun s => by simp only [tk, nc]; first | omega | (simp; omega)) (by simp)
theorem s0_7 : k0_pay20 (F := Ideal) (bk T (U A)) (bk T (vn A)) (wmB A 7) (bsB A 7)
    = sub (nc T 0) 7 (y A) := by
  unfold sub; funext i; idx_vars i; pointwise [k0_pay20]
  simp only [bk_ix]
  exact s_close A (nc T 0) 7 i0 i1 (fun s => tk T ⟨s.val, by omega⟩) ⟨1792 + i1.val, by omega⟩ (fun s => by simp only [tk, nc]; first | omega | (simp; omega)) (by simp)
theorem s1_0 : k0_pay22 (F := Ideal) (bk T (U A)) (k0_pay21 (F := Ideal) (bk T (vn A)) (wmB A 0)) (bsB A 0)
    = sub (nc T 1) 0 (y A) := by
  unfold sub; funext i; idx_vars i; pointwise [k0_pay21, k0_pay22]
  simp only [bk_ix]
  exact s_close A (nc T 1) 0 i0 i1 (fun s => tk T ⟨128 + s.val, by omega⟩) ⟨i1.val, by omega⟩ (fun s => by simp only [tk, nc]; first | omega | (simp; omega)) (by simp)
theorem s1_1 : k0_pay23 (F := Ideal) (bk T (U A)) (bk T (vn A)) (wmB A 1) (bsB A 1)
    = sub (nc T 1) 1 (y A) := by
  unfold sub; funext i; idx_vars i; pointwise [k0_pay23]
  simp only [bk_ix]
  exact s_close A (nc T 1) 1 i0 i1 (fun s => tk T ⟨128 + s.val, by omega⟩) ⟨256 + i1.val, by omega⟩ (fun s => by simp only [tk, nc]; first | omega | (simp; omega)) (by simp)
theorem s1_2 : k0_pay24 (F := Ideal) (bk T (U A)) (bk T (vn A)) (wmB A 2) (bsB A 2)
    = sub (nc T 1) 2 (y A) := by
  unfold sub; funext i; idx_vars i; pointwise [k0_pay24]
  simp only [bk_ix]
  exact s_close A (nc T 1) 2 i0 i1 (fun s => tk T ⟨128 + s.val, by omega⟩) ⟨512 + i1.val, by omega⟩ (fun s => by simp only [tk, nc]; first | omega | (simp; omega)) (by simp)
theorem s1_3 : k0_pay26 (F := Ideal) (bk T (U A)) (k0_pay25 (F := Ideal) (bk T (vn A)) (wmB A 3)) (bsB A 3)
    = sub (nc T 1) 3 (y A) := by
  unfold sub; funext i; idx_vars i; pointwise [k0_pay25, k0_pay26]
  simp only [bk_ix]
  exact s_close A (nc T 1) 3 i0 i1 (fun s => tk T ⟨128 + s.val, by omega⟩) ⟨768 + i1.val, by omega⟩ (fun s => by simp only [tk, nc]; first | omega | (simp; omega)) (by simp)
theorem s1_4 : k0_pay27 (F := Ideal) (bk T (U A)) (bk T (vn A)) (wmB A 4) (bsB A 4)
    = sub (nc T 1) 4 (y A) := by
  unfold sub; funext i; idx_vars i; pointwise [k0_pay27]
  simp only [bk_ix]
  exact s_close A (nc T 1) 4 i0 i1 (fun s => tk T ⟨128 + s.val, by omega⟩) ⟨1024 + i1.val, by omega⟩ (fun s => by simp only [tk, nc]; first | omega | (simp; omega)) (by simp)
theorem s1_5 : k0_pay28 (F := Ideal) (bk T (U A)) (bk T (vn A)) (wmB A 5) (bsB A 5)
    = sub (nc T 1) 5 (y A) := by
  unfold sub; funext i; idx_vars i; pointwise [k0_pay28]
  simp only [bk_ix]
  exact s_close A (nc T 1) 5 i0 i1 (fun s => tk T ⟨128 + s.val, by omega⟩) ⟨1280 + i1.val, by omega⟩ (fun s => by simp only [tk, nc]; first | omega | (simp; omega)) (by simp)
theorem s1_6 : k0_pay1 (F := Ideal) (bk T (U A)) (k0_pay29 (F := Ideal) (bk T (vn A)) (wmB A 6)) (bsB A 6)
    = sub (nc T 1) 6 (y A) := by
  unfold sub; funext i; idx_vars i; pointwise [k0_pay29, k0_pay1]
  simp only [bk_ix]
  exact s_close A (nc T 1) 6 i0 i1 (fun s => tk T ⟨128 + s.val, by omega⟩) ⟨1536 + i1.val, by omega⟩ (fun s => by simp only [tk, nc]; first | omega | (simp; omega)) (by simp)
theorem s1_7 : k0_pay2 (F := Ideal) (bk T (U A)) (bk T (vn A)) (wmB A 7) (bsB A 7)
    = sub (nc T 1) 7 (y A) := by
  unfold sub; funext i; idx_vars i; pointwise [k0_pay2]
  simp only [bk_ix]
  exact s_close A (nc T 1) 7 i0 i1 (fun s => tk T ⟨128 + s.val, by omega⟩) ⟨1792 + i1.val, by omega⟩ (fun s => by simp only [tk, nc]; first | omega | (simp; omega)) (by simp)

end Cert.Fwd

end
-- ==== Proof.FwdFinal.lean ====
/- The forward mixer's result arrays: its operands as the lines before the call leave them, its stores at one grid point, and the
   arrays that it leaves. -/
module

public import proofs.«01_k».proof.Proof.FwdRows
public import proofs.«01_k».proof.Proof.Gen.Kernel8Ideal.Frame
public import Idealize.ShloMosaic.Lib.Pipeline.ReadBack

@[expose] public section

set_option maxRecDepth 16384

noncomputable section

namespace Cert.Fwd

open Idealize.ShloMosaic Idealize.ShloMosaic.TcCoe Idealize.SL.Sem
open Idealize.ShloMosaic.Pipeline (Dat)
open Cert.Kernel8Ideal Cert.Kernel8Ideal.Gen Cert.Coe
open Cert.Spec (tok chk pos grp chan lo hi trl)

variable (m : (ℓ : Loc nD τ sig) → Buf (Elt Ideal) ℓ) (c : Dev nD)

/-- The arguments of a device, read off the arrays. -/
def argsOf (x0 : S4096x1024.Idx → EReal) (x1 : S1024.Idx → EReal) (x2 : S1024x4096.Idx → EReal) (x3 x4 : S2048.Idx → EReal)
    (x5 : S8x128x128.Idx → EReal) (x6 : S8x128.Idx → EReal) : Args where
  h t j := x0 (ix2 t j)
  g j := x1 (ix1 j)
  wi j k := x2 (ix2 j k)
  lg k := x3 (ix1 k)
  lb k := x4 (ix1 k)
  ws g a b := x5 (ix3 g a b)
  bs g a := x6 (ix2 g a)
/-- The arguments of a device. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-! ### The operands -/

theorem h15 : Gen.V m c main_v15 = row (args m c).g := by
  unfold Gen.V; simp only [hostOps0, hostOps0_1, hostOps0_2, List.flatten_cons, List.flatten_nil, List.cons_append, List.nil_append]; after_results_simp; funext i; idx_vars i; pointwise; rfl
theorem h16 : Gen.V m c main_v16 = row (args m c).lg := by
  unfold Gen.V; simp only [hostOps0, hostOps0_1, hostOps0_2, List.flatten_cons, List.flatten_nil, List.cons_append, List.nil_append]; after_results_simp; funext i; idx_vars i; pointwise; rfl
theorem h17 : Gen.V m c main_v17 = row (args m c).lb := by
  unfold Gen.V; simp only [hostOps0, hostOps0_1, hostOps0_2, List.flatten_cons, List.flatten_nil, List.cons_append, List.nil_append]; after_results_simp; funext i; idx_vars i; pointwise; rfl
theorem h14 : Gen.V m c main_v14 = bsS (args m c) := by
  unfold Gen.V; simp only [hostOps0, hostOps0_1, hostOps0_2, List.flatten_cons, List.flatten_nil, List.cons_append, List.nil_append]; after_results_simp; funext i; idx_vars i; pointwise; rfl
/-- The mask as the lines before the call make it. -/
def msk : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant (F := Ideal) S_ .f32 0x3F800000#32)) (broadcastInDim S128x128 ![] bcast_S_S128x128 (constant (F := Ideal) S_ .f32 0#32))
theorem msk_ix (a b : Fin 128) : msk (ix2 a b) = ((trl a b : ℝ) : EReal) := by
  pointwise [msk]
  rw [sge_eq a b]
  show _ = ((if b.val ≤ a.val then 1 else 0 : ℝ) : EReal)
  split <;> rfl
theorem h11 : Gen.V m c main_v11 = wmS (args m c) := by
  unfold Gen.V; simp only [hostOps0, hostOps0_1, hostOps0_2, List.flatten_cons, List.flatten_nil, List.cons_append, List.nil_append]; after_results_simp; funext i; idx_vars i; pointwise
  exact congrArg (fun y => (args m c).ws i0 i1 i2 * y) (msk_ix i1 i2)
theorem h5 : Gen.V m c main_v5 = concatenate S4x4096x1024 1 [
    ⟨S4x2048x1024, broadcastInDim S4x2048x1024 ![] bcast_S_S4x2048x1024 (constant (F := Ideal) S_ .bf16 0#16)⟩,
    ⟨S4x1024x1024, truncf .bf16 (transpose S4x1024x1024 [1, 0, 2] (shapeCast S1024x4x1024 (m ((c : Thread nD τ).loc main_arg2)) shapeCasts_S1024x4096_S1024x4x1024) transposes_S1024x4x1024_S4x1024x1024_1_0_2) bitsLt_bf16_f32⟩,
    ⟨S4x1024x1024, broadcastInDim S4x1024x1024 ![] bcast_S_S4x1024x1024 (constant (F := Ideal) S_ .bf16 0#16)⟩] concatenates_S4x2048x1024_S4x1024x1024_S4x1024x1024_S4x4096x1024_d1 := by
  unfold Gen.V; simp only [hostOps0, hostOps0_1, hostOps0_2, List.flatten_cons, List.flatten_nil, List.cons_append, List.nil_append]; after_results_simp; rfl
theorem h5_in (q : Fin 4) (j k : Fin 1024) : Gen.V m c main_v5 (ix3 q ⟨2048 + j.val, by omega⟩ k) = wiS (args m c) (ix3 q j k) := by
  rw [h5]; pointwise
  exact congrArg (fun y => (args m c).wi j y) (Fin.ext (by simp; omega))

/-- Where each window's block lies. -/
theorem idx : ∀ t : Fin cfg0.N, win0_0.index t = ![t.val, 0] ∧ win0_1.index t = ![0, 0] ∧ win0_2.index t = ![0, 2, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] :=
  (by decide +kernel : ∀ t : Fin grid0.N, _)

/-- A grid point as one of the 16 blocks of tokens. -/
def pt (t : Fin cfg0.N) : Fin 16 := ⟨t.val, by have h := t.isLt; have := N_0; change t.val < grid0.N at h; omega⟩

theorem arr_at {M N : ℕ} (f : Fin M → Fin N → EReal) (i : (⟨2, ![M, N]⟩ : Shape).Idx) (a : Fin M) (b : Fin N)
    (h0 : (i 0).val = a.val) (h1 : (i 1).val = b.val) : Mix.arr f i = f a b := by
  unfold Mix.arr; exact congrArg₂ f (Fin.ext h0) (Fin.ext h1)
theorem two_at {M N : ℕ} {G : (⟨2, ![M, N]⟩ : Shape).Idx → EReal} (i : (⟨2, ![M, N]⟩ : Shape).Idx) (a : Fin M) (b : Fin N)
    (h0 : (i 0).val = a.val) (h1 : (i 1).val = b.val) : G i = G (ix2 a b) := by
  obtain rfl : i 0 = a := Fin.ext h0
  obtain rfl : i 1 = b := Fin.ext h1
  rw [← eq_ix2 i]
theorem three_at {L M N : ℕ} {G : (⟨3, ![L, M, N]⟩ : Shape).Idx → EReal} (i : (⟨3, ![L, M, N]⟩ : Shape).Idx) (q : Fin L) (a : Fin M) (b : Fin N)
    (h0 : (i 0).val = q.val) (h1 : (i 1).val = a.val) (h2 : (i 2).val = b.val) : G i = G (ix3 q a b) := by
  obtain rfl : i 0 = q := Fin.ext h0
  obtain rfl : i 1 = a := Fin.ext h1
  obtain rfl : i 2 = b := Fin.ext h2
  rw [← eq_ix3 i]

theorem i0 (t : Fin cfg0.N) : iblk m c 0 t = bk (pt t) (args m c).h := by
  funext y
  blk_simp [iblk]
  rw [V_main_arg0]
  exact two_at _ (tk (pt t) (y 0)) (y 1) (by blk_simp [idx t]; simp [tk, pt]; omega) (by blk_simp [idx t])
theorem i1 (t : Fin cfg0.N) : iblk m c 1 t = row (args m c).g := by
  have e : iblk m c 1 t = Gen.V m c main_v15 := by blk_ext! [iblk, idx t]
  rw [e, h15]
theorem i2 (t : Fin cfg0.N) : iblk m c 2 t = wiS (args m c) := by
  funext y
  blk_simp [iblk]
  refine (three_at _ (y 0) ⟨2048 + (y 1).val, by idx_bounds y; omega⟩ (y 2) (by blk_simp [idx t]) (by blk_simp [idx t]) (by blk_simp [idx t])).trans ?_
  exact h5_in m c (y 0) (y 1) (y 2)
theorem i3 (t : Fin cfg0.N) : iblk m c 3 t = row (args m c).lg := by
  have e : iblk m c 3 t = Gen.V m c main_v16 := by blk_ext! [iblk, idx t]
  rw [e, h16]
theorem i4 (t : Fin cfg0.N) : iblk m c 4 t = row (args m c).lb := by
  have e : iblk m c 4 t = Gen.V m c main_v17 := by blk_ext! [iblk, idx t]
  rw [e, h17]
theorem i5 (t : Fin cfg0.N) : iblk m c 5 t = wmS (args m c) := by
  have e : iblk m c 5 t = Gen.V m c main_v11 := by blk_ext! [iblk, idx t]
  rw [e, h11]
theorem i6 (t : Fin cfg0.N) : iblk m c 6 t = bsS (args m c) := by
  have e : iblk m c 6 t = Gen.V m c main_v14 := by blk_ext! [iblk, idx t]
  rw [e, h14]

/-! ### The stores at one grid point -/

section
variable (A : Args) (T : Fin 16)

theorem ld_of {s : Shape} {e : EltTy} (X : s.Idx → Elt Ideal e) (r : Rect s) (G : r.shape.Idx → Elt Ideal e)
    (h : ∀ x, X (r.idx x) = G x) : View.ld X r = G := funext h
theorem canon_of {s : Shape} {e : EltTy} (G : s.Idx → Elt Ideal e) (L : List (View.Piece (Elt Ideal) s e)) (g : Fin s.rank → ℕ)
    (hc : View.Piece.tiledBy L g = true) (hp : View.PiecesOf G L) : View.canon L = G :=
  funext fun y => View.canon_apply_of_pieces G L hp.mem y (View.cover_of_tiledBy L g hc y)

theorem ld_wi (q : Fin 4) (G : ℕ) (hG : G = q.val) (inb) :
    View.ld (Val := Elt Ideal) (e' := .bf16) (S := S4x1024x1024) (wiS A)
      (Rect.unit (s := S4x1024x1024) ![G, 0, 0] ![1, 1024, 1024] inb) = wiB A q := by
  subst hG
  refine ld_of _ _ _ fun x => ?_
  have h0 : (x 0).val < 1 := (x 0).isLt
  exact congrArg₂ A.wi (Fin.ext (by simp)) (Fin.ext (by simp))
theorem ld_wm (g : Fin 8) (G : ℕ) (hG : G = g.val) (inb) :
    View.ld (Val := Elt Ideal) (e' := .bf16) (S := S8x128x128) (wmS A)
      (Rect.unit (s := S8x128x128) ![G, 0, 0] ![1, 128, 128] inb) = wmB A g := by
  subst hG
  refine ld_of _ _ _ fun x => ?_
  have h0 : (x 0).val < 1 := (x 0).isLt
  show wm A _ _ _ = wm A _ _ _
  congr 1
  · exact Fin.ext (by simp)
  · exact Fin.ext (by simp)
  · exact Fin.ext (by simp)
theorem ld_bs (g : Fin 8) (G : ℕ) (hG : G = 256 * g.val) (inb) :
    View.ld (Val := Elt Ideal) (e' := .f32) (S := S128x2048) (bsS A)
      (Rect.unit (s := S128x2048) ![0, G] ![128, 256] inb) = bsB A g := by
  subst hG
  refine ld_of _ _ _ fun x => ?_
  have h0 : (x 1).val < 256 := (x 1).isLt
  exact congrArg₂ A.bs (Fin.ext (by simp [grp]; omega)) (Fin.ext (by simp))

/-- A stored chunk and group of the gated product agrees with the block of the whole. -/
theorem at_y (ch : Fin 2) (g : Fin 8) (a b : ℕ) (ha : a = 128 * ch.val) (hb : b = 256 * g.val) (inb)
    (x : (Rect.unit (s := S256x2048) ![a, b] ![128, 256] inb).shape.Idx) :
    sub (nc T ch) g (y A) x = bk T (y A) ((Rect.unit (s := S256x2048) ![a, b] ![128, 256] inb).emb x) := by
  subst ha hb
  exact at_congr (y A) (by simp [tok, tk, nc]; omega) (by simp [chan])
/-- A stored half of the projection agrees with the block of the whole. -/
theorem at_pre (f : Fin 2048 → Fin 4096) (b : ℕ) (hf : ∀ k, (f k).val = b + k.val) (inb)
    (x : (Rect.unit (s := S256x4096) ![0, b] ![256, 2048] inb).shape.Idx) :
    bk T (fun t k => pre A t (f k)) x = bk T (pre A) ((Rect.unit (s := S256x4096) ![0, b] ![256, 2048] inb).emb x) :=
  at_congr (pre A) (by simp [tk]) ((hf _).trans (by simp))
theorem pre_pieces : View.PiecesOf (e := .bf16) (s := S256x4096) (Val := Elt Ideal) (bk T (pre A)) [
    ⟨Rect.unit (s := S256x4096) ![0, 2048] ![256, 2048] (by decide), bk T fun t c => pre A t (hi c)⟩,
    ⟨Rect.unit (s := S256x4096) ![0, 0] ![256, 2048] (by decide), bk T fun t c => pre A t (lo c)⟩] :=
  ⟨fun x => at_pre A T hi _ (fun k => rfl) (by decide) x, fun x => at_pre A T lo _ (fun k => (Nat.zero_add _).symm) (by decide) x, trivial⟩
/-- The stores of the gated product, chunk by chunk and group by group, agree with its block. -/
theorem y_pieces : View.PiecesOf (e := .bf16) (s := S256x2048) (Val := Elt Ideal) (bk T (y A)) [
    ⟨Rect.unit (s := S256x2048) ![128, 1792] ![128, 256] (by decide), sub (nc T 1) 7 (y A)⟩,
    ⟨Rect.unit (s := S256x2048) ![128, 1536] ![128, 256] (by decide), sub (nc T 1) 6 (y A)⟩,
    ⟨Rect.unit (s := S256x2048) ![128, 1280] ![128, 256] (by decide), sub (nc T 1) 5 (y A)⟩,
    ⟨Rect.unit (s := S256x2048) ![128, 1024] ![128, 256] (by decide), sub (nc T 1) 4 (y A)⟩,
    ⟨Rect.unit (s := S256x2048) ![128, 768] ![128, 256] (by decide), sub (nc T 1) 3 (y A)⟩,
    ⟨Rect.unit (s := S256x2048) ![128, 512] ![128, 256] (by decide), sub (nc T 1) 2 (y A)⟩,
    ⟨Rect.unit (s := S256x2048) ![128, 256] ![128, 256] (by decide), sub (nc T 1) 1 (y A)⟩,
    ⟨Rect.unit (s := S256x2048) ![128, 0] ![128, 256] (by decide), sub (nc T 1) 0 (y A)⟩,
    ⟨Rect.unit (s := S256x2048) ![0, 1792] ![128, 256] (by decide), sub (nc T 0) 7 (y A)⟩,
    ⟨Rect.unit (s := S256x2048) ![0, 1536] ![128, 256] (by decide), sub (nc T 0) 6 (y A)⟩,
    ⟨Rect.unit (s := S256x2048) ![0, 1280] ![128, 256] (by decide), sub (nc T 0) 5 (y A)⟩,
    ⟨Rect.unit (s := S256x2048) ![0, 1024] ![128, 256] (by decide), sub (nc T 0) 4 (y A)⟩,
    ⟨Rect.unit (s := S256x2048) ![0, 768] ![128, 256] (by decide), sub (nc T 0) 3 (y A)⟩,
    ⟨Rect.unit (s := S256x2048) ![0, 512] ![128, 256] (by decide), sub (nc T 0) 2 (y A)⟩,
    ⟨Rect.unit (s := S256x2048) ![0, 256] ![128, 256] (by decide), sub (nc T 0) 1 (y A)⟩,
    ⟨Rect.unit (s := S256x2048) ![0, 0] ![128, 256] (by decide), sub (nc T 0) 0 (y A)⟩] :=
  ⟨fun x => at_y A T 1 7 _ _ (by decide) (by decide) (by decide) x,
    fun x => at_y A T 1 6 _ _ (by decide) (by decide) (by decide) x,
    fun x => at_y A T 1 5 _ _ (by decide) (by decide) (by decide) x,
    fun x => at_y A T 1 4 _ _ (by decide) (by decide) (by decide) x,
    fun x => at_y A T 1 3 _ _ (by decide) (by decide) (by decide) x,
    fun x => at_y A T 1 2 _ _ (by decide) (by decide) (by decide) x,
    fun x => at_y A T 1 1 _ _ (by decide) (by decide) (by decide) x,
    fun x => at_y A T 1 0 _ _ (by decide) (by decide) (by decide) x,
    fun x => at_y A T 0 7 _ _ (by decide) (by decide) (by decide) x,
    fun x => at_y A T 0 6 _ _ (by decide) (by decide) (by decide) x,
    fun x => at_y A T 0 5 _ _ (by decide) (by decide) (by decide) x,
    fun x => at_y A T 0 4 _ _ (by decide) (by decide) (by decide) x,
    fun x => at_y A T 0 3 _ _ (by decide) (by decide) (by decide) x,
    fun x => at_y A T 0 2 _ _ (by decide) (by decide) (by decide) x,
    fun x => at_y A T 0 1 _ _ (by decide) (by decide) (by decide) x,
    fun x => at_y A T 0 0 _ _ (by decide) (by decide) (by decide) x, trivial⟩

theorem e0 : View.ld (Val := Elt Ideal) (e' := .f32) (bk T A.h) r0_0 = bk T A.h := View.ld_unit_lit _ _ (by decide)
theorem e1 : View.ld (Val := Elt Ideal) (e' := .f32) (row A.g) r0_1 = row A.g := View.ld_unit_lit _ _ (by decide)
theorem e3 (f : Fin 2048 → EReal) : View.ld (Val := Elt Ideal) (e' := .f32) (row f) r0_8 = row f := View.ld_unit_lit _ _ (by decide)

/-- The gate, as the body binds it. -/
theorem p30 : k0_pay30 (F := Ideal) (bk T A.h) (row A.g) (wiS A) (row A.lg) (row A.lb) (wmS A) (bsS A) = bk T (U A) := by
  unfold k0_pay30
  simp only [e0, e1, ld_wi A 0 0 rfl, ld_wi A 1 1 rfl, ld_wi A 2 2 rfl, ld_wi A 3 3 rfl, p4, p8]
/-- The mixed half normalized, as the body binds it. -/
theorem p31 : k0_pay31 (F := Ideal) (bk T A.h) (row A.g) (wiS A) (row A.lg) (row A.lb) (wmS A) (bsS A) = bk T fun t => vh (V A t) := by
  unfold k0_pay31
  simp only [e0, e1, ld_wi A 0 0 rfl, ld_wi A 1 1 rfl, ld_wi A 2 2 rfl, ld_wi A 3 3 rfl, p5, p9]
/-- The mixed half layer-normalized, as the body binds it. -/
theorem p32 : k0_pay32 (F := Ideal) (bk T A.h) (row A.g) (wiS A) (row A.lg) (row A.lb) (wmS A) (bsS A) = bk T (vn A) := by
  unfold k0_pay32
  simp only [p31, e3, p10]

/-- The block of the projection. -/
theorem e8 : out0_8 (F := Ideal) (bk T A.h) (row A.g) (wiS A) (row A.lg) (row A.lb) (wmS A) (bsS A) = bk T (pre A) := by
  unfold out0_8
  simp only [e0, e1, ld_wi A 0 0 rfl, ld_wi A 1 1 rfl, ld_wi A 2 2 rfl, ld_wi A 3 3 rfl, p6, p7]
  exact canon_of _ _ ![256, 2048] (by sl_kernel_rfl) (pre_pieces A T)
/-- The block of the gated product. -/
theorem e7 : out0_7 (F := Ideal) (bk T A.h) (row A.g) (wiS A) (row A.lg) (row A.lb) (wmS A) (bsS A) = bk T (y A) := by
  unfold out0_7
  simp only [p30, p31, p32, e3, ld_wm A 0 0 rfl, ld_bs A 0 0 rfl, ld_wm A 1 1 rfl, ld_bs A 1 256 rfl, ld_wm A 2 2 rfl, ld_bs A 2 512 rfl, ld_wm A 3 3 rfl, ld_bs A 3 768 rfl, ld_wm A 4 4 rfl, ld_bs A 4 1024 rfl, ld_wm A 5 5 rfl, ld_bs A 5 1280 rfl, ld_wm A 6 6 rfl, ld_bs A 6 1536 rfl, ld_wm A 7 7 rfl, ld_bs A 7 1792 rfl, s1_7, s1_6, s1_5, s1_4, s1_3, s1_2, s1_1, s1_0, s0_7, s0_6, s0_5, s0_4, s0_3, s0_2, s0_1, s0_0]
  exact canon_of _ _ ![128, 256] (by sl_kernel_rfl) (y_pieces A T)
end

/-! ### The arrays -/

/-- The gated product. -/
theorem r7 : (dats m 0 c).arrAt 7 cfg0.N = Mix.arr (y (args m c)) := by
  refine (dats m 0 c).arrAt_eq_of_covers 7 _ (by decide +kernel) fun t hf y => ?_
  blk_simp
  rw [after0_7, i0, i1, i2, i3, i4, i5, i6, e7]
  exact (arr_at _ _ (tk (pt t) (y 0)) (y 1) (by blk_simp [idx t]; simp [tk, pt]; omega) (by blk_simp [idx t])).symm
/-- The projection before gelu. -/
theorem r8 : (dats m 0 c).arrAt 8 cfg0.N = Mix.arr (pre (args m c)) := by
  refine (dats m 0 c).arrAt_eq_of_covers 8 _ (by decide +kernel) fun t hf y => ?_
  blk_simp
  rw [after0_8, i0, i1, i2, i3, i4, i5, i6, e8]
  exact (arr_at _ _ (tk (pt t) (y 0)) (y 1) (by blk_simp [idx t]; simp [tk, pt]; omega) (by blk_simp [idx t])).symm

end Cert.Fwd

end
-- ==== Proof.FwdRef.lean ====
/- The reference's forward mixer: each of its values is the quantity that the kernel's is. -/
module

public import proofs.«01_k».proof.Proof.FwdFinal
public import proofs.«01_k».proof.Proof.Gen.Reference8Ideal.Read

@[expose] public section

set_option maxRecDepth 16384

noncomputable section

namespace Cert.Fwd.Val

open Idealize.ShloMosaic Idealize.ShloMosaic.TcCoe Idealize.SL.Sem
open Cert.Reference8Ideal Cert.Reference8Ideal.Gen Cert.Reference8Ideal.Read Cert.Coe Cert.Fwd
open Cert.Mix (arr cube)
open Cert.Spec (tok chk pos grp chan lo hi trl gc)

variable (A : Args)

/-- A quantity of one index. -/
def one {N : ℕ} (f : Fin N → EReal) : (⟨1, ![N]⟩ : Shape).Idx → EReal := fun i => f (i 0)
/-- A quantity of four indices. -/
def quad {K L M N : ℕ} (f : Fin K → Fin L → Fin M → Fin N → EReal) : (⟨4, ![K, L, M, N]⟩ : Shape).Idx → EReal :=
  fun i => f (i 0) (i 1) (i 2) (i 3)

/-- Dividing by 1024 is multiplying by its inverse, for every extended real. -/
theorem div_1024 (a : EReal) : Ideal.div a ((1024 : ℝ) : EReal) = a * ((1 / 1024 : ℝ) : EReal) := Ideal.div_coe (by norm_num : (1024 : ℝ) ≠ 0) a

theorem w7 : val_main_v7 (F := Ideal) (arr A.h) = arr (N := 1) fun t _ => rr A t := by
  funext i; idx_vars i
  simp only [val_main_v7_apply, val_main_v6_apply, val_main_v5_apply, val_main_cst_1_apply, val_main_v4_apply, val_main_v3_apply, val_main_cst_0_apply, val_main_v2_apply, val_main_v1_apply, val_main_cst_apply, val_main_v0_apply]
  pointwise
  simp only [up_apply, c_1024, c_2048, c_eps, c_gk, c_zero, c_one, c_half, zero_up.symm, zero_add, one_up, div_1024, div_2048]; rfl
theorem w12 : val_main_v12 (F := Ideal) (arr A.h) (one A.g) = arr (hn A) := by
  funext i; idx_vars i
  simp only [val_main_v12_apply, val_main_v11_apply, val_main_v10_apply, val_main_v9_apply, val_main_v8_apply, w7 A]
  pointwise
  rfl
theorem w13 : val_main_v13 (F := Ideal) (arr A.h) (one A.g) (arr A.wi) = arr (pre A) := by
  funext i; idx_vars i
  simp only [val_main_v13_apply, w12 A]
  pointwise
  rfl
theorem w14 (i : S_.Idx) : val_main_v14 (F := Ideal) i = ((gc : ℝ) : EReal) := by
  simp only [val_main_v14_apply, val_main_cst_2_apply, val_main_cst_3_apply]
  exact c_quot
theorem w27 : val_main_v27 (F := Ideal) (arr A.h) (one A.g) (arr A.wi) = arr fun t k => gel (pre A t k) := by
  funext i; idx_vars i
  simp only [val_main_v27_apply, val_main_v26_apply, val_main_v25_apply, val_main_cst_6_apply, val_main_v24_apply, val_main_v23_apply, val_main_cst_5_apply, val_main_v22_apply, val_main_v21_apply, val_main_v20_apply, val_main_cst_4_apply, val_main_v19_apply, val_main_v18_apply, val_main_v17_apply, val_main_v16_apply, val_main_v15_apply, w13 A, w14]
  pointwise
  simp only [c_gk, c_one, c_half, one_up]
  exact gel_eq _
theorem w28 : val_main_v28 (F := Ideal) (arr A.h) (one A.g) (arr A.wi) = arr (U A) := by
  funext i; idx_vars i
  simp only [val_main_v28_apply, w27 A]
  pointwise
  exact congrArg (fun k => gel (pre A i0 k)) (Fin.ext (by first | rfl | simp [lo]))
theorem w29 : val_main_v29 (F := Ideal) (arr A.h) (one A.g) (arr A.wi) = arr (V A) := by
  funext i; idx_vars i
  simp only [val_main_v29_apply, w27 A]
  pointwise
  exact congrArg (fun k => gel (pre A i0 k)) (Fin.ext (by first | rfl | simp [hi]))
theorem w35 : val_main_v35 (F := Ideal) (arr A.h) (one A.g) (arr A.wi) = arr fun t => xc (V A t) := by
  funext i; idx_vars i
  simp only [val_main_v35_apply, val_main_v34_apply, val_main_v33_apply, val_main_v32_apply, val_main_cst_8_apply, val_main_v31_apply, val_main_v30_apply, val_main_cst_7_apply, w29 A]
  pointwise
  simp only [up_apply, c_1024, c_2048, c_eps, c_gk, c_zero, c_one, c_half, zero_up.symm, zero_add, one_up, div_1024, div_2048]; rfl
theorem w43 : val_main_v43 (F := Ideal) (arr A.h) (one A.g) (arr A.wi) = arr (N := 1) fun t _ => rs (V A t) := by
  funext i; idx_vars i
  simp only [val_main_v43_apply, val_main_v42_apply, val_main_v41_apply, val_main_cst_11_apply, val_main_v40_apply, val_main_v39_apply, val_main_cst_10_apply, val_main_v38_apply, val_main_v37_apply, val_main_cst_9_apply, val_main_v36_apply, w35 A]
  pointwise
  simp only [up_apply, c_1024, c_2048, c_eps, c_gk, c_zero, c_one, c_half, zero_up.symm, zero_add, one_up, div_1024, div_2048]; rfl
theorem w51 : val_main_v51 (F := Ideal) (arr A.h) (one A.g) (arr A.wi) (one A.lg) (one A.lb) = arr (vn A) := by
  funext i; idx_vars i
  simp only [val_main_v51_apply, val_main_v50_apply, val_main_v49_apply, val_main_v48_apply, val_main_v47_apply, val_main_v46_apply, val_main_v45_apply, val_main_v44_apply, w43 A, w35 A]
  pointwise
  rfl
theorem w52 : val_main_v52 (F := Ideal) (arr A.h) (one A.g) (arr A.wi) (one A.lg) (one A.lb) = quad fun n a g e => vn A (tok n a) (chan g e) := by
  funext i; idx_vars i
  simp only [val_main_v52_apply, w51 A]
  pointwise
  exact at_congr (vn A) (by simp [tok]; omega) (by simp [chan]; omega)
theorem w54 : val_main_v54 (F := Ideal) = arr fun a b => ((trl a b : ℝ) : EReal) := by
  funext i; idx_vars i
  simp only [val_main_v54_apply, val_main_call0_v4_apply, val_main_call0_v2_apply, val_main_call0_v0_apply, val_main_call0_v1_apply,
    val_main_call0_c_apply, val_main_call0_v3_apply, val_main_v53_apply, val_main_cst_12_apply, val_main_call0_v5_apply,
    val_main_call0_cst_apply]
  pointwise
  rw [sge_eq i0 i1]
  show _ = ((if i1.val ≤ i0.val then 1 else 0 : ℝ) : EReal)
  split <;> rfl
theorem w57 : val_main_v57 (F := Ideal) (cube A.ws) = cube (wm A) := by
  funext i; idx_vars i
  simp only [val_main_v57_apply, val_main_v56_apply, val_main_v55_apply, w54]
  pointwise
  rfl
theorem w63 : val_main_v63 (F := Ideal) (arr A.h) (one A.g) (arr A.wi) (one A.lg) (one A.lb) (cube A.ws) (arr A.bs) = quad fun n a g e => (∑ s, wm A g a s * vn A (tok n s) (chan g e)) + A.bs g a := by
  funext i; idx_vars i
  simp only [val_main_v63_apply, val_main_v59_apply, val_main_v58_apply, val_main_v62_apply, val_main_v61_apply, val_main_v60_apply, w52 A, w57 A]
  pointwise
  exact congrArg₂ (fun x y : EReal => x + y) (Finset.sum_congr rfl fun k _ => mul_comm _ _) (congrArg₂ A.bs (Fin.ext (by simp <;> omega)) (Fin.ext (by simp <;> omega)))
/-- The spatial mix of a token, from its chunk, its place, its channel's group and place in the group. -/
theorem mix_close (t : Fin 4096) (c : Fin 2048) (n : Fin 32) (a : Fin 128) (g : Fin 8) (e : Fin 256) (ht : t.val = 128 * n.val + a.val)
    (hc : c.val = 256 * g.val + e.val) : (∑ s, wm A g a s * vn A (tok n s) (chan g e)) + A.bs g a = sv A t c := by
  obtain rfl : c = chan g e := Fin.ext hc
  exact sv_close A t (chan g e) n a g (tok n) (fun s => rfl) ht (by simp only [chan]; omega)
theorem w64 : val_main_v64 (F := Ideal) (arr A.h) (one A.g) (arr A.wi) (one A.lg) (one A.lb) (cube A.ws) (arr A.bs) = arr (sv A) := by
  funext i; idx_vars i
  simp only [val_main_v64_apply, w63 A]
  pointwise
  exact mix_close A i0 i1 (idx_main_v64 (ix2 i0 i1) 0) (idx_main_v64 (ix2 i0 i1) 1) (idx_main_v64 (ix2 i0 i1) 2) (idx_main_v64 (ix2 i0 i1) 3) (by simp; omega) (by simp; omega)
theorem w66 : val_main_v66 (F := Ideal) (arr A.h) (one A.g) (arr A.wi) (one A.lg) (one A.lb) (cube A.ws) (arr A.bs) = arr (y A) := by
  funext i; idx_vars i
  simp only [val_main_v66_apply, val_main_v65_apply, w28 A, w64 A]
  pointwise
  rfl
theorem w67 : val_main_v67 (F := Ideal) (arr A.h) (one A.g) (arr A.wi) = arr (pre A) := by
  funext i; idx_vars i
  simp only [val_main_v67_apply, w13 A]
  pointwise

/-! ### Over the arrays themselves -/

theorem arr_eq {M N : ℕ} (x : (⟨2, ![M, N]⟩ : Shape).Idx → EReal) : arr (fun a b => x (ix2 a b)) = x := by
  funext i; exact congrArg x (eq_ix2 i).symm
theorem one_eq {N : ℕ} (x : (⟨1, ![N]⟩ : Shape).Idx → EReal) : one (fun a => x (ix1 a)) = x := by
  funext i; exact congrArg x (eq_ix1 i).symm
theorem cube_eq {L M N : ℕ} (x : (⟨3, ![L, M, N]⟩ : Shape).Idx → EReal) : cube (fun q a b => x (ix3 q a b)) = x := by
  funext i; exact congrArg x (eq_ix3 i).symm

variable (x0 : S4096x1024.Idx → EReal) (x1 : S1024.Idx → EReal) (x2 : S1024x4096.Idx → EReal) (x3 x4 : S2048.Idx → EReal)
    (x5 : S8x128x128.Idx → EReal) (x6 : S8x128.Idx → EReal)

theorem e0 : arr (argsOf x0 x1 x2 x3 x4 x5 x6).h = x0 := arr_eq x0
theorem e1 : one (argsOf x0 x1 x2 x3 x4 x5 x6).g = x1 := one_eq x1
theorem e2 : arr (argsOf x0 x1 x2 x3 x4 x5 x6).wi = x2 := arr_eq x2
theorem e3 : one (argsOf x0 x1 x2 x3 x4 x5 x6).lg = x3 := one_eq x3
theorem e4 : one (argsOf x0 x1 x2 x3 x4 x5 x6).lb = x4 := one_eq x4
theorem e5 : cube (argsOf x0 x1 x2 x3 x4 x5 x6).ws = x5 := cube_eq x5
theorem e6 : arr (argsOf x0 x1 x2 x3 x4 x5 x6).bs = x6 := arr_eq x6
theorem v66 : val_main_v66 (F := Ideal) x0 x1 x2 x3 x4 x5 x6 = arr (y (argsOf x0 x1 x2 x3 x4 x5 x6)) := by
  have e := w66 (argsOf x0 x1 x2 x3 x4 x5 x6)
  rwa [e0 x0 x1 x2 x3 x4 x5 x6, e1 x0 x1 x2 x3 x4 x5 x6, e2 x0 x1 x2 x3 x4 x5 x6, e3 x0 x1 x2 x3 x4 x5 x6, e4 x0 x1 x2 x3 x4 x5 x6, e5 x0 x1 x2 x3 x4 x5 x6, e6 x0 x1 x2 x3 x4 x5 x6] at e
theorem v67 : val_main_v67 (F := Ideal) x0 x1 x2 = arr (pre (argsOf x0 x1 x2 x3 x4 x5 x6)) := by
  have e := w67 (argsOf x0 x1 x2 x3 x4 x5 x6)
  rwa [e0 x0 x1 x2 x3 x4 x5 x6, e1 x0 x1 x2 x3 x4 x5 x6, e2 x0 x1 x2 x3 x4 x5 x6] at e

end Cert.Fwd.Val

end
-- ==== Proof.DownMla.lean ====
/- The down projection's weight gradient in a buffer of 3072 rows: the array that the kernel leaves, and the reference's. -/
module

public import proofs.«01_k».proof.Proof.Gen.Kernel9Ideal.Value
public import proofs.«01_k».proof.Proof.Gen.Reference9Ideal.Read
public import proofs.«01_k».proof.Proof.Down
public import Idealize.ShloMosaic.Lib.Pipeline.ValueKit
public import Idealize.ShloMosaic.Lib.Pipeline.ReadBack

@[expose] public section

set_option maxRecDepth 16384

noncomputable section

namespace Cert.DownMla

open Idealize.ShloMosaic Idealize.ShloMosaic.TcCoe Idealize.SL.Sem
open Idealize.ShloMosaic.Pipeline (Dat)
open Cert.Kernel9Ideal Cert.Kernel9Ideal.Gen
open Cert.Down (prod at2)

/-- The buffer of gradients with the rows from 1024 to 2047 of shard `q` replaced by rows `1024 q` on of the product. -/
def out (u : S4x3072x1024.Idx → EReal) (x : S4096x4096.Idx → EReal) (y : S4096x1024.Idx → EReal) : S4x3072x1024.Idx → EReal :=
  fun i => if h : (i 1).val / 1024 = 1 then
    prod x y ⟨1024 * (i 0).val + ((i 1).val - 1024), by idx_bounds i; omega⟩ (i 2) else u i

theorem out_at (u : S4x3072x1024.Idx → EReal) (x : S4096x4096.Idx → EReal) (y : S4096x1024.Idx → EReal) (i : S4x3072x1024.Idx)
    (a : Fin 4096) (b : Fin 1024) (h1 : (i 1).val / 1024 = 1) (h : 1024 * (i 0).val + ((i 1).val - 1024) = a.val)
    (h2 : (i 2).val = b.val) : out u x y i = prod x y a b := by
  unfold out
  rw [dif_pos h1]
  exact congrArg₂ (prod x y) (Fin.ext h) (Fin.ext h2)

/-- Where each window's block lies. -/
theorem idx : ∀ t : Fin cfg0.N, win0_0.index t = ![t.val % 2, t.val / 2] ∧ win0_1.index t = ![t.val % 2, 0]
    ∧ win0_2.index t = ![t.val / 2, 1, 0] :=
  (by decide +kernel : ∀ t : Fin grid0.N, _)

theorem pay1 (i : S1x1024x1024.Idx) : k0_pay1 (F := Ideal) i = 0 := by
  idx_vars i; pointwise [k0_pay1]
theorem pay2 (P : S1x1024x1024.Idx → EReal) (X Y : S2048x1024.Idx → EReal) (q : Fin 1) (a b : Fin 1024) :
    k0_pay2 (F := Ideal) P X Y (ix3 q a b) = P (ix3 0 a b) + ∑ k : Fin 2048, X (ix2 k a) * Y (ix2 k b) := by
  pointwise [k0_pay2]

variable (m : (ℓ : Loc nD τ sig) → Buf (Elt Ideal) ℓ) (c : Dev nD)

theorem v0 : V m c main_v0 = m ((c : Thread nD τ).loc main_arg0) := by
  unfold V; after_results; try rfl

/-- What a point leaves: the previous point's block, or zero at a shard's first point, with the product of the point's tokens
    added. -/
theorem point (t : Fin cfg0.N) (P : S1x1024x1024.Idx → EReal) (hA : t.val % 2 = 0 → P = k0_pay1 (F := Ideal))
    (hB : ¬t.val % 2 = 0 → P = outsAt0 m c (t.val - 1) (Nat.lt_of_le_of_lt (Nat.sub_le _ _) t.isLt)) (q : Fin 1) (a b : Fin 1024) :
    outsAt0 m c t.val t.isLt (ix3 q a b)
      = P (ix3 0 a b) + ∑ k : Fin 2048, (show EReal from iblk m c 0 t (ix2 k a)) * (show EReal from iblk m c 1 t (ix2 k b)) := by
  by_cases h0 : t.val % 2 = 0 <;> [rw [outsAt0_A m c t h0]; rw [outsAt0_B m c t h0]] <;> frame_out
  · obtain rfl := hA h0
    exact pay2 _ _ _ q a b
  · obtain rfl := hB h0
    exact pay2 _ _ _ q a b

theorem b0 (t : Fin cfg0.N) (k : Fin 2048) (a : Fin 1024) (k' a' : Fin 4096) (hk : k'.val = 2048 * (t.val % 2) + k.val)
    (ha : a'.val = 1024 * (t.val / 2) + a.val) : iblk m c 0 t (ix2 k a) = m ((c : Thread nD τ).loc main_arg1) (ix2 k' a') := by
  blk_simp [iblk]
  rw [V_main_arg1]
  exact at2 _ _ _ (by blk_simp [idx t]; omega) (by blk_simp [idx t]; omega)
theorem b1 (t : Fin cfg0.N) (k : Fin 2048) (b : Fin 1024) (k' : Fin 4096) (hk : k'.val = 2048 * (t.val % 2) + k.val) :
    iblk m c 1 t (ix2 k b) = m ((c : Thread nD τ).loc main_arg2) (ix2 k' b) := by
  blk_simp [iblk]
  rw [V_main_arg2]
  exact at2 _ _ _ (by blk_simp [idx t]; omega) (by blk_simp [idx t])

/-- After a shard's second point the block is the product over all the tokens. -/
theorem last (t : Fin cfg0.N) (ht : t.val % 2 = 1) (q : Fin 1) (a b : Fin 1024) (a' : Fin 4096) (ha : a'.val = 1024 * (t.val / 2) + a.val) :
    outsAt0 m c t.val t.isLt (ix3 q a b)
      = prod (m ((c : Thread nD τ).loc main_arg1)) (m ((c : Thread nD τ).loc main_arg2)) a' b := by
  have hs : (t.val - 1) % 2 = 0 := by omega
  rw [point m c t _ (fun h => by omega) (fun _ => rfl) q a b,
    point m c ⟨t.val - 1, Nat.lt_of_le_of_lt (Nat.sub_le _ _) t.isLt⟩ _ (fun _ => rfl) (fun h => absurd hs h) 0 a b, pay1, zero_add]
  unfold prod
  rw [Fin.sum_univ_tiles 2 2048 rfl, Fin.sum_univ_two]
  refine congrArg₂ (· + ·) (Finset.sum_congr rfl fun k _ => ?_) (Finset.sum_congr rfl fun k _ => ?_)
  · exact congrArg₂ (· * ·) (b0 m c _ k a _ a' (by first | omega | (simp; omega)) (by first | omega | (simp; omega))) (b1 m c _ k b _ (by first | omega | (simp; omega)))
  · exact congrArg₂ (· * ·) (b0 m c _ k a _ a' (by first | omega | (simp; omega)) (by first | omega | (simp; omega))) (b1 m c _ k b _ (by first | omega | (simp; omega)))

/-- The array that the kernel leaves. -/
theorem final : (dats m 0 c).arrAt 2 cfg0.N
    = out (m ((c : Thread nD τ).loc main_arg0)) (m ((c : Thread nD τ).loc main_arg1)) (m ((c : Thread nD τ).loc main_arg2)) := by
  have h : (dats m 0 c).arrAt 2 cfg0.N = fun i => if (i 1).val / 1024 = 1 then
      out (m ((c : Thread nD τ).loc main_arg0)) (m ((c : Thread nD τ).loc main_arg1)) (m ((c : Thread nD τ).loc main_arg2)) i else V m c main_v0 i := by
    refine (dats m 0 c).arrAt_eq_of_coversWhere 2 _ (fun β => β 1 = 1) (by decide +kernel) (fun t hf y => ?_)
      (fun j => by blk_simp [Pipeline.Window.cell_apply])
    blk_simp
    rw [after0_2]
    have e0 : ((win0_2.blk t).view.emb y 0).val = t.val / 2 := by blk_simp [idx t]
    have e1 : ((win0_2.blk t).view.emb y 1).val = 1024 + (y 1).val := by blk_simp [idx t]
    have e2 : ((win0_2.blk t).view.emb y 2).val = (y 2).val := by blk_simp [idx t]
    have h1 : (y 1).val < 1024 := (y 1).isLt
    have ht := t.isLt
    have hN := N_0
    change t.val < grid0.N at ht
    rw [out_at _ _ _ ((win0_2.blk t).view.emb y) ⟨1024 * (t.val / 2) + (y 1).val, by omega⟩ (y 2) (by omega) (by rw [e0, e1]; simp) e2]
    refine (congrArg _ (eq_ix3 y)).trans (last m c t ((flush0_2 t).mp hf) (y 0) (y 1) (y 2) _ rfl)
  rw [h, v0]
  funext i
  unfold out
  split <;> rfl

section
variable (u : S4x3072x1024.Idx → EReal) (x : S4096x4096.Idx → EReal) (y : S4096x1024.Idx → EReal) (q : Fin 4) (j : Fin 1024)

theorem ref_mid (a : Fin 1024) : Cert.Reference9Ideal.Read.val_main_v7 (F := Ideal) u x y (ix3 q ⟨1024 + a.val, by omega⟩ j)
    = prod x y ⟨1024 * q.val + a.val, by omega⟩ j := by
  unfold Cert.Reference9Ideal.Read.val_main_v7
  pointwise [Cert.Reference9Ideal.Read.val_main_v5, Cert.Reference9Ideal.Read.val_main_v3, Cert.Reference9Ideal.Read.val_main_v1,
    Cert.Reference9Ideal.Read.val_main_v0, Cert.Reference9Ideal.Read.val_main_v2]
  unfold prod
  refine Finset.sum_congr rfl fun k _ => congrArg (· * _) (congrArg x (congrArg (ix2 k) (Fin.ext ?_)))
  simp; omega
theorem ref_lo (a : Fin 1024) : Cert.Reference9Ideal.Read.val_main_v7 (F := Ideal) u x y (ix3 q ⟨a.val, by omega⟩ j)
    = u (ix3 q ⟨a.val, by omega⟩ j) := by
  unfold Cert.Reference9Ideal.Read.val_main_v7
  pointwise [Cert.Reference9Ideal.Read.val_main_v4]
theorem ref_hi (a : Fin 1024) : Cert.Reference9Ideal.Read.val_main_v7 (F := Ideal) u x y (ix3 q ⟨2048 + a.val, by omega⟩ j)
    = u (ix3 q ⟨2048 + a.val, by omega⟩ j) := by
  unfold Cert.Reference9Ideal.Read.val_main_v7
  pointwise [Cert.Reference9Ideal.Read.val_main_v6]
  rw [dif_neg (by omega), dif_neg (by omega)]
  refine congrArg u (congrArg (fun r => ix3 q r j) (Fin.ext ?_))
  simp; omega

end

/-- The array that the reference leaves. -/
theorem ref (u : S4x3072x1024.Idx → EReal) (x : S4096x4096.Idx → EReal) (y : S4096x1024.Idx → EReal) :
    Cert.Reference9Ideal.Read.val_main_v7 (F := Ideal) u x y = out u x y := by
  funext i
  obtain ⟨q, r, j, rfl⟩ : ∃ (q : Fin 4) (r : Fin 3072) (j : Fin 1024), i = ix3 q r j := ⟨i 0, i 1, i 2, eq_ix3 i⟩
  by_cases h : r.val / 1024 = 1
  · have e : r = ⟨1024 + (r.val - 1024), by omega⟩ := Fin.ext (by simp; omega)
    rw [out_at u x y (ix3 q r j) ⟨1024 * q.val + (r.val - 1024), by omega⟩ j h rfl rfl]
    exact (congrArg (fun r => Cert.Reference9Ideal.Read.val_main_v7 (F := Ideal) u x y (ix3 q r j)) e).trans
      (ref_mid u x y q j ⟨r.val - 1024, by omega⟩)
  · have h0 : out u x y (ix3 q r j) = u (ix3 q r j) := dif_neg h
    rw [h0]
    rcases Nat.lt_or_ge r.val 1024 with h1 | h1
    · exact ref_lo u x y q j ⟨r.val, h1⟩
    · have e : r = ⟨2048 + (r.val - 2048), by omega⟩ := Fin.ext (by simp; omega)
      rw [e]
      exact ref_hi u x y q j ⟨r.val - 2048, by omega⟩

end Cert.DownMla

end
-- ==== Proof.UpMla.lean ====
/- The up projection's weight gradient in a buffer of 3072 rows: the array that the kernel leaves, and the reference's. -/
module

public import proofs.«01_k».proof.Proof.Gen.Kernel10Ideal.Value
public import proofs.«01_k».proof.Proof.Gen.Reference10Ideal.Read
public import proofs.«01_k».proof.Proof.Down
public import Idealize.ShloMosaic.Lib.Pipeline.ValueKit
public import Idealize.ShloMosaic.Lib.Pipeline.ReadBack

@[expose] public section

set_option maxRecDepth 16384

noncomputable section

namespace Cert.UpMla

open Idealize.ShloMosaic Idealize.ShloMosaic.TcCoe Idealize.SL.Sem
open Idealize.ShloMosaic.Pipeline (Dat)
open Cert.Kernel10Ideal Cert.Kernel10Ideal.Gen
open Cert.Down (prod at2)

/-- The buffer of gradients with the rows up to 1023 of shard `q` replaced by columns `1024 q` on of the product. -/
def out (u : S4x3072x1024.Idx → EReal) (x : S4096x1024.Idx → EReal) (y : S4096x4096.Idx → EReal) : S4x3072x1024.Idx → EReal :=
  fun i => if h : (i 1).val / 1024 = 0 then
    prod x y ⟨(i 1).val, by omega⟩ ⟨1024 * (i 0).val + (i 2).val, by idx_bounds i; omega⟩ else u i

theorem out_at (u : S4x3072x1024.Idx → EReal) (x : S4096x1024.Idx → EReal) (y : S4096x4096.Idx → EReal) (i : S4x3072x1024.Idx)
    (a : Fin 1024) (b : Fin 4096) (h : (i 1).val = a.val) (h2 : 1024 * (i 0).val + (i 2).val = b.val) : out u x y i = prod x y a b := by
  unfold out
  rw [dif_pos (by omega)]
  exact congrArg₂ (prod x y) (Fin.ext h) (Fin.ext h2)

/-- Where each window's block lies. -/
theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

theorem pay1 (i : S1x1024x1024.Idx) : k0_pay1 (F := Ideal) i = 0 := by
  idx_vars i; pointwise [k0_pay1]
theorem pay2 (P : S1x1024x1024.Idx → EReal) (X Y : S2048x1024.Idx → EReal) (q : Fin 1) (a b : Fin 1024) :
    k0_pay2 (F := Ideal) P X Y (ix3 q a b) = P (ix3 0 a b) + ∑ k : Fin 2048, X (ix2 k a) * Y (ix2 k b) := by
  pointwise [k0_pay2]

variable (m : (ℓ : Loc nD τ sig) → Buf (Elt Ideal) ℓ) (c : Dev nD)

theorem v0 : V m c main_v0 = m ((c : Thread nD τ).loc main_arg0) := by
  unfold V; after_results; try rfl

/-- What a point leaves: the previous point's block, or zero at a shard's first point, with the product of the point's tokens
    added. -/
theorem point (t : Fin cfg0.N) (P : S1x1024x1024.Idx → EReal) (hA : t.val % 2 = 0 → P = k0_pay1 (F := Ideal))
    (hB : ¬t.val % 2 = 0 → P = outsAt0 m c (t.val - 1) (Nat.lt_of_le_of_lt (Nat.sub_le _ _) t.isLt)) (q : Fin 1) (a b : Fin 1024) :
    outsAt0 m c t.val t.isLt (ix3 q a b)
      = P (ix3 0 a b) + ∑ k : Fin 2048, (show EReal from iblk m c 0 t (ix2 k a)) * (show EReal from iblk m c 1 t (ix2 k b)) := by
  by_cases h0 : t.val % 2 = 0 <;> [rw [outsAt0_A m c t h0]; rw [outsAt0_B m c t h0]] <;> frame_out
  · obtain rfl := hA h0
    exact pay2 _ _ _ q a b
  · obtain rfl := hB h0
    exact pay2 _ _ _ q a b

theorem b0 (t : Fin cfg0.N) (k : Fin 2048) (a : Fin 1024) (k' : Fin 4096) (hk : k'.val = 2048 * (t.val % 2) + k.val) :
    iblk m c 0 t (ix2 k a) = m ((c : Thread nD τ).loc main_arg1) (ix2 k' a) := by
  blk_simp [iblk]
  rw [V_main_arg1]
  exact at2 _ _ _ (by blk_simp [idx t]; omega) (by blk_simp [idx t])
theorem b1 (t : Fin cfg0.N) (k : Fin 2048) (b : Fin 1024) (k' b' : Fin 4096) (hk : k'.val = 2048 * (t.val % 2) + k.val)
    (hb : b'.val = 1024 * (t.val / 2) + b.val) : iblk m c 1 t (ix2 k b) = m ((c : Thread nD τ).loc main_arg2) (ix2 k' b') := by
  blk_simp [iblk]
  rw [V_main_arg2]
  exact at2 _ _ _ (by blk_simp [idx t]; omega) (by blk_simp [idx t]; omega)

/-- After a shard's second point the block is the product over all the tokens. -/
theorem last (t : Fin cfg0.N) (ht : t.val % 2 = 1) (q : Fin 1) (a b : Fin 1024) (b' : Fin 4096) (hb : b'.val = 1024 * (t.val / 2) + b.val) :
    outsAt0 m c t.val t.isLt (ix3 q a b)
      = prod (m ((c : Thread nD τ).loc main_arg1)) (m ((c : Thread nD τ).loc main_arg2)) a b' := by
  have hs : (t.val - 1) % 2 = 0 := by omega
  rw [point m c t _ (fun h => by omega) (fun _ => rfl) q a b,
    point m c ⟨t.val - 1, Nat.lt_of_le_of_lt (Nat.sub_le _ _) t.isLt⟩ _ (fun _ => rfl) (fun h => absurd hs h) 0 a b, pay1, zero_add]
  unfold prod
  rw [Fin.sum_univ_tiles 2 2048 rfl, Fin.sum_univ_two]
  refine congrArg₂ (· + ·) (Finset.sum_congr rfl fun k _ => ?_) (Finset.sum_congr rfl fun k _ => ?_)
  · exact congrArg₂ (· * ·) (b0 m c _ k a _ (by first | omega | (simp; omega))) (b1 m c _ k b _ b' (by first | omega | (simp; omega)) (by first | omega | (simp; omega)))
  · exact congrArg₂ (· * ·) (b0 m c _ k a _ (by first | omega | (simp; omega))) (b1 m c _ k b _ b' (by first | omega | (simp; omega)) (by first | omega | (simp; omega)))

/-- The array that the kernel leaves. -/
theorem final : (dats m 0 c).arrAt 2 cfg0.N
    = out (m ((c : Thread nD τ).loc main_arg0)) (m ((c : Thread nD τ).loc main_arg1)) (m ((c : Thread nD τ).loc main_arg2)) := by
  have h : (dats m 0 c).arrAt 2 cfg0.N = fun i => if (i 1).val / 1024 = 0 then
      out (m ((c : Thread nD τ).loc main_arg0)) (m ((c : Thread nD τ).loc main_arg1)) (m ((c : Thread nD τ).loc main_arg2)) i else V m c main_v0 i := by
    refine (dats m 0 c).arrAt_eq_of_coversWhere 2 _ (fun β => β 1 = 0) (by decide +kernel) (fun t hf y => ?_)
      (fun j => by blk_simp [Pipeline.Window.cell_apply])
    blk_simp
    rw [after0_2]
    have e0 : ((win0_2.blk t).view.emb y 0).val = t.val / 2 := by blk_simp [idx t]
    have e1 : ((win0_2.blk t).view.emb y 1).val = (y 1).val := by blk_simp [idx t]
    have e2 : ((win0_2.blk t).view.emb y 2).val = (y 2).val := by blk_simp [idx t]
    have h1 : (y 2).val < 1024 := (y 2).isLt
    have ht := t.isLt
    have hN := N_0
    change t.val < grid0.N at ht
    rw [out_at _ _ _ ((win0_2.blk t).view.emb y) (y 1) ⟨1024 * (t.val / 2) + (y 2).val, by omega⟩ e1 (by rw [e0, e2])]
    refine (congrArg _ (eq_ix3 y)).trans (last m c t ((flush0_2 t).mp hf) (y 0) (y 1) (y 2) _ rfl)
  rw [h, v0]
  funext i
  unfold out
  split <;> rfl

section
variable (u : S4x3072x1024.Idx → EReal) (x : S4096x1024.Idx → EReal) (y : S4096x4096.Idx → EReal) (j : Fin 1024)

open Cert.Reference10Ideal.Read

theorem ref_w (a : Fin 1024) (b : Fin 4096) : val_main_v3 (F := Ideal) x y (ix2 a b) = prod x y a b := by
  unfold prod
  pointwise [val_main_v3, val_main_v1, val_main_v0, val_main_v2]
theorem ref_lo (q : Fin 4) (a : Fin 1024) : val_main_v14 (F := Ideal) u x y (ix3 q ⟨a.val, by omega⟩ j)
    = prod x y a ⟨1024 * q.val + j.val, by omega⟩ := by
  unfold val_main_v14
  pointwise
  unfold val_main_v12
  match q with
  | 0 => pointwise [val_main_v8, val_main_v4, ref_w]
  | 1 => pointwise [val_main_v9, val_main_v5, ref_w]
  | 2 => pointwise [val_main_v10, val_main_v6, ref_w]
  | 3 => pointwise [val_main_v11, val_main_v7, ref_w]
theorem ref_hi (q : Fin 4) (a : Fin 2048) : val_main_v14 (F := Ideal) u x y (ix3 q ⟨1024 + a.val, by omega⟩ j)
    = u (ix3 q ⟨1024 + a.val, by omega⟩ j) := by
  unfold val_main_v14
  pointwise [val_main_v13]

end

/-- The array that the reference leaves. -/
theorem ref (u : S4x3072x1024.Idx → EReal) (x : S4096x1024.Idx → EReal) (y : S4096x4096.Idx → EReal) :
    Cert.Reference10Ideal.Read.val_main_v14 (F := Ideal) u x y = out u x y := by
  funext i
  obtain ⟨q, r, j, rfl⟩ : ∃ (q : Fin 4) (r : Fin 3072) (j : Fin 1024), i = ix3 q r j := ⟨i 0, i 1, i 2, eq_ix3 i⟩
  rcases Nat.lt_or_ge r.val 1024 with h1 | h1
  · rw [out_at u x y (ix3 q r j) ⟨r.val, h1⟩ ⟨1024 * q.val + j.val, by omega⟩ rfl rfl]
    exact ref_lo u x y j q ⟨r.val, h1⟩
  · have h0 : out u x y (ix3 q r j) = u (ix3 q r j) := dif_neg (by show ¬r.val / 1024 = 0; omega)
    have e : r = ⟨1024 + (r.val - 1024), by omega⟩ := Fin.ext (by simp; omega)
    rw [h0, e]
    exact ref_hi u x y j q ⟨r.val - 1024, by omega⟩

end Cert.UpMla

end
-- ==== Proof.MlaSpec.lean ====
/- The rest of a layer whose mixer leaves 1024 channels, forward, over the extended reals: the mixer's output projection added to the stream, the norm, and the
   feed-forward layer, with the four quantities that the kernel leaves. -/
module

public import proofs.«01_k».proof.Proof.MixSpec
public import Idealize.ShloMosaic.Lib.Pipeline.ValueKit

@[expose] public section

noncomputable section

namespace Cert.Mla

open Idealize.ShloMosaic
open scoped BigOperators
open Cert.Mix (arr cube)

/-- The arguments: the stream, the mixer's result, its output projection, the norm's scale, the up and the down projection. -/
structure Args where
  h : Fin 4096 → Fin 1024 → EReal
  y : Fin 4096 → Fin 1024 → EReal
  wo : Fin 1024 → Fin 1024 → EReal
  g : Fin 1024 → EReal
  wu : Fin 1024 → Fin 4096 → EReal
  wd : Fin 4096 → Fin 1024 → EReal

variable (A : Args)

/-- The stream after the mixer. -/
def h1 (t : Fin 4096) (j : Fin 1024) : EReal := A.h t j + ∑ k, A.y t k * A.wo k j
/-- What the norm scales a token by. -/
def rs (t : Fin 4096) : EReal := Ideal.rsqrt ((∑ k, h1 A t k * h1 A t k) * ((1 / 1024 : ℝ) : EReal) + ((Spec.eps : ℝ) : EReal))
/-- The normalized stream, scaled. -/
def hn (t : Fin 4096) (j : Fin 1024) : EReal := h1 A t j * rs A t * A.g j
/-- The positive part of the up projection. -/
def r (t : Fin 4096) (k : Fin 4096) : EReal := max (∑ j, hn A t j * A.wu j k) ((0 : ℝ) : EReal)
/-- The stream after the layer. -/
def h2 (t : Fin 4096) (j : Fin 1024) : EReal := h1 A t j + ∑ k, r A t k * r A t k * A.wd k j

/-- The output projection as the kernel's window holds it: four shards of its rows. -/
def woS : (⟨3, ![4, 256, 1024]⟩ : Shape).Idx → EReal := cube fun q a j => A.wo ⟨256 * q.val + a.val, by omega⟩ j
/-- The up projection: four shards of its columns. -/
def wuS : (⟨3, ![4, 1024, 1024]⟩ : Shape).Idx → EReal := cube fun q j k => A.wu j ⟨1024 * q.val + k.val, by omega⟩
/-- The down projection: four shards of its rows. -/
def wdS : (⟨3, ![4, 1024, 1024]⟩ : Shape).Idx → EReal := cube fun q k j => A.wd ⟨1024 * q.val + k.val, by omega⟩ j
/-- One shard of the up projection. -/
def wuB (q : Fin 4) : (⟨3, ![1, 1024, 1024]⟩ : Shape).Idx → EReal := cube fun _ j k => A.wu j ⟨1024 * q.val + k.val, by omega⟩
/-- One shard of the down projection. -/
def wdB (q : Fin 4) : (⟨3, ![1, 1024, 1024]⟩ : Shape).Idx → EReal := cube fun _ k j => A.wd ⟨1024 * q.val + k.val, by omega⟩ j
/-- The norm's scale as a row. -/
def gR : (⟨2, ![1, 1024]⟩ : Shape).Idx → EReal := arr fun _ j => A.g j

end Cert.Mla

end
-- ==== Proof.MlaRows.lean ====
/- The forward kernel's payloads: each, given the blocks of 512 tokens of the quantities it reads, is the block of the next. -/
module

public import proofs.«01_k».proof.Proof.MlaSpec
public import proofs.«01_k».proof.Proof.Gen.Kernel11Ideal.Skeleton

@[expose] public section

set_option maxRecDepth 16384

noncomputable section

namespace Cert.Mla

open Idealize.ShloMosaic Idealize.ShloMosaic.TcCoe Idealize.SL.Sem
open Cert.Kernel11Ideal Cert.Kernel11Ideal.Gen Cert.Coe
open Cert.Mix (sl sum_shards tok arr bk cube arr_ix bk_ix cube_ix)

variable (A : Args) (T : Fin 8)

theorem p4 : k0_pay4 (F := Ideal) (bk T A.h) (bk T A.y) (woS A) = bk T (h1 A) := by
  funext i; idx_vars i; pointwise [k0_pay4]
  simp only [bk_ix]
  refine congrArg (A.h (tok T i0) i1 + ·) (Finset.sum_congr rfl fun k _ => congrArg (A.y (tok T i0) k * ·) ?_)
  exact congrArg (fun z => A.wo z i1) (Fin.ext (by simp; omega))
theorem p5 : k0_pay5 (F := Ideal) (bk T A.h) (bk T A.y) (woS A) (gR A) = bk T (hn A) := by
  unfold k0_pay5; rw [p4]
  funext i; idx_vars i; pointwise
  simp only [bk_ix, c_inv1024, c_eps]; rfl

/-- One shard's positive part. -/
theorem p9 (q : Fin 4) : k0_pay9 (F := Ideal) (bk T (hn A)) (wuB A q) = bk T (sl q (r A)) := by
  funext i; idx_vars i; pointwise [k0_pay9]
  simp only [bk_ix, c_zero]; rfl
theorem p1 (q : Fin 4) : k0_pay1 (F := Ideal) (bk T (hn A)) (wuB A q) = bk T (sl q (r A)) := p9 A T q
theorem p12 (q : Fin 4) : k0_pay12 (F := Ideal) (bk T (hn A)) (wuB A q) = bk T (sl q (r A)) := p9 A T q
theorem p7 (q : Fin 4) : k0_pay7 (F := Ideal) (bk T A.h) (bk T A.y) (woS A) (gR A) (wuB A q) = bk T (sl q (r A)) := by
  refine Eq.trans ?_ (p9 A T q)
  exact congrArg (fun x => k0_pay9 (F := Ideal) x (wuB A q)) (p5 A T)
theorem p10 (q : Fin 4) : k0_pay10 (F := Ideal) (bk T (hn A)) (wuB A q) = bk T (sl q (r A)) := by
  unfold k0_pay10; rw [p9]
  funext i; idx_vars i; pointwise
theorem p2 (q : Fin 4) : k0_pay2 (F := Ideal) (bk T (hn A)) (wuB A q) = bk T (sl q (r A)) := p10 A T q
theorem p13 (q : Fin 4) : k0_pay13 (F := Ideal) (bk T (hn A)) (wuB A q) = bk T (sl q (r A)) := p10 A T q
theorem p8 (q : Fin 4) : k0_pay8 (F := Ideal) (bk T A.h) (bk T A.y) (woS A) (gR A) (wuB A q) = bk T (sl q (r A)) := by
  unfold k0_pay8; rw [p7]
  funext i; idx_vars i; pointwise

/-- One shard's part of the layer's result. -/
def part (q : Fin 4) (t : Fin 4096) (j : Fin 1024) : EReal := ∑ k, sl q (r A) t k * sl q (r A) t k * wdB A q (ix3 0 k j)

theorem p14 (q : Fin 4) : k0_pay14 (F := Ideal) (bk T (hn A)) (wuB A q) (wdB A q) = bk T (part A q) := by
  unfold k0_pay14; rw [p12]
  funext i; idx_vars i; pointwise
  simp only [bk_ix]; rfl
theorem p11 (q p : Fin 4) : k0_pay11 (F := Ideal) (bk T (hn A)) (k0_pay6 (F := Ideal)) (bk T (sl q (r A))) (wdB A q) (wuB A p) (wdB A p)
    = bk T fun t j => part A q t j + part A p t j := by
  unfold k0_pay11; rw [p9]
  funext i; idx_vars i; pointwise [k0_pay6]
  simp only [bk_ix]; rfl
theorem p3 : k0_pay3 (F := Ideal) (bk T (h1 A)) (bk T (hn A)) (bk T fun t j => part A 0 t j + part A 1 t j) (bk T (part A 2)) (wuB A 3) (wdB A 3)
    = bk T (h2 A) := by
  unfold k0_pay3; rw [p1]
  funext i; idx_vars i; pointwise
  simp only [bk_ix]
  unfold h2; rw [sum_shards]
  rfl

end Cert.Mla

end
-- ==== Proof.MlaFinal.lean ====
/- The forward kernel's result arrays: its operands as the lines before the call leave them, its stores at one grid point, and the
   arrays that it leaves. -/
module

public import proofs.«01_k».proof.Proof.MlaRows
public import proofs.«01_k».proof.Proof.MixFinal
public import proofs.«01_k».proof.Proof.Gen.Kernel11Ideal.Frame
public import Idealize.ShloMosaic.Lib.Pipeline.ReadBack

@[expose] public section

set_option maxRecDepth 16384

noncomputable section

namespace Cert.Mla

open Idealize.ShloMosaic Idealize.ShloMosaic.TcCoe Idealize.SL.Sem
open Idealize.ShloMosaic.Pipeline (Dat)
open Cert.Kernel11Ideal Cert.Kernel11Ideal.Gen
open Cert.Mix (sl sum_shards tok arr bk cube arr_ix bk_ix cube_ix)
open Cert.Mix (ld_of canon_of arr_at two_at three_at)

variable (m : (ℓ : Loc nD τ sig) → Buf (Elt Ideal) ℓ) (c : Dev nD)

/-- The arguments of a device, read off the arrays. -/
def argsOf (x0 : S4096x1024.Idx → EReal) (x1 : S4096x1024.Idx → EReal) (x2 : S1024x1024.Idx → EReal) (x3 : S1024.Idx → EReal)
    (x4 : S1024x4096.Idx → EReal) (x5 : S4096x1024.Idx → EReal) : Args where
  h t j := x0 (ix2 t j)
  y t k := x1 (ix2 t k)
  wo k j := x2 (ix2 k j)
  g j := x3 (ix1 j)
  wu j k := x4 (ix2 j k)
  wd k j := x5 (ix2 k j)
/-- The arguments of a device. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-! ### The operands -/

theorem h10 : V m c main_v9 = gR (args m c) := by
  unfold Gen.V; simp only [hostOps0, List.flatten_cons, List.flatten_nil, List.cons_append, List.nil_append]; after_results_simp; funext i; idx_vars i; pointwise; rfl
theorem h9 : V m c main_v8 = concatenate S4x3072x1024 1 [
    ⟨S4x1024x1024, truncf .bf16 (transpose S4x1024x1024 [1, 0, 2] (shapeCast S1024x4x1024 (m ((c : Thread nD τ).loc main_arg4)) shapeCasts_S1024x4096_S1024x4x1024) transposes_S1024x4x1024_S4x1024x1024_1_0_2) bitsLt_bf16_f32⟩,
    ⟨S4x1024x1024, truncf .bf16 (shapeCast S4x1024x1024 (m ((c : Thread nD τ).loc main_arg5)) shapeCasts_S4096x1024_S4x1024x1024) bitsLt_bf16_f32⟩,
    ⟨S4x256x1024, truncf .bf16 (shapeCast S4x256x1024 (m ((c : Thread nD τ).loc main_arg2)) shapeCasts_S1024x1024_S4x256x1024) bitsLt_bf16_f32⟩,
    ⟨S4x768x1024, broadcastInDim S4x768x1024 ![] bcast_S_S4x768x1024 (constant (F := Ideal) S_ .bf16 0#16)⟩] concatenates_S4x1024x1024_S4x1024x1024_S4x256x1024_S4x768x1024_S4x3072x1024_d1 := by
  unfold Gen.V; simp only [hostOps0, List.flatten_cons, List.flatten_nil, List.cons_append, List.nil_append]; after_results_simp
  rfl
theorem h9_up (q : Fin 4) (j k : Fin 1024) : V m c main_v8 (ix3 q ⟨j.val, by omega⟩ k) = wuS (args m c) (ix3 q j k) := by
  rw [h9]; pointwise
  exact congrArg (fun y => (args m c).wu j y) (Fin.ext (by simp; omega))
theorem h9_down (q : Fin 4) (j k : Fin 1024) : V m c main_v8 (ix3 q ⟨1024 + j.val, by omega⟩ k) = wdS (args m c) (ix3 q j k) := by
  rw [h9]; pointwise
  exact congrArg (fun y => (args m c).wd y k) (Fin.ext (by simp; omega))
/-- The third of four arrays laid one after another, of which the first two are of 1024 rows. -/
theorem third (a b : S4x1024x1024.Idx → EReal) (f : S4x256x1024.Idx → EReal) (d : S4x768x1024.Idx → EReal) (q : Fin 4) (j : Fin 256) (k : Fin 1024) :
    concatenate S4x3072x1024 1 [⟨S4x1024x1024, a⟩, ⟨S4x1024x1024, b⟩, ⟨S4x256x1024, f⟩, ⟨S4x768x1024, d⟩]
      concatenates_S4x1024x1024_S4x1024x1024_S4x256x1024_S4x768x1024_S4x3072x1024_d1 (ix3 q ⟨2048 + j.val, by omega⟩ k) = f (ix3 q j k) := by
  pointwise
  rw [dif_neg (by omega), dif_neg (by omega), dif_pos (by omega)]
  exact congrArg (fun y => f (ix3 q y k)) (Fin.ext (by simp; omega))
/-- An array of 1024 rows as four shards of 256. -/
theorem shards (x : S1024x1024.Idx → EReal) (q : Fin 4) (j : Fin 256) (k : Fin 1024) :
    shapeCast S4x256x1024 x shapeCasts_S1024x1024_S4x256x1024 (ix3 q j k) = x (ix2 ⟨256 * q.val + j.val, by omega⟩ k) := by
  refine shapeCast_apply x _ _ _ ?_
  rw [Shape.rowMajor_val_two, Shape.rowMajor_val_three]
  simp; omega
theorem h9_out (q : Fin 4) (j : Fin 256) (k : Fin 1024) : V m c main_v8 (ix3 q ⟨2048 + j.val, by omega⟩ k) = woS (args m c) (ix3 q j k) := by
  rw [h9, third]
  exact shards _ q j k

/-- Where each window's block lies. -/
theorem idx : ∀ t : Fin cfg0.N, win0_0.index t = ![t.val, 0] ∧ win0_1.index t = ![t.val, 0] ∧ win0_2.index t = ![0, 8, 0]
    ∧ win0_3.index t = ![0, 0] ∧ win0_4.index t = ![0, 0, 0] ∧ win0_5.index t = ![0, 1, 0] ∧ win0_6.index t = ![t.val, 0]
    ∧ win0_7.index t = ![t.val, 0] ∧ win0_8.index t = ![t.val, 0] ∧ win0_9.index t = ![t.val, 0] :=
  (by decide +kernel : ∀ t : Fin grid0.N, _)

/-- A grid point as one of the 8 blocks of tokens. -/
def pt (t : Fin cfg0.N) : Fin 8 := ⟨t.val, by have h := t.isLt; have := N_0; change t.val < grid0.N at h; omega⟩

theorem i0 (t : Fin cfg0.N) : iblk m c 0 t = bk (pt t) (args m c).h := by
  funext y
  blk_simp [iblk]
  rw [V_main_arg0]
  exact two_at _ (tok (pt t) (y 0)) (y 1) (by blk_simp [idx t]; simp [tok, pt]; omega) (by blk_simp [idx t])
theorem i1 (t : Fin cfg0.N) : iblk m c 1 t = bk (pt t) (args m c).y := by
  funext y
  blk_simp [iblk]
  rw [V_main_arg1]
  exact two_at _ (tok (pt t) (y 0)) (y 1) (by blk_simp [idx t]; simp [tok, pt]; omega) (by blk_simp [idx t])
theorem i2 (t : Fin cfg0.N) : iblk m c 2 t = woS (args m c) := by
  funext y
  blk_simp [iblk]
  refine (three_at _ (y 0) ⟨2048 + (y 1).val, by idx_bounds y; omega⟩ (y 2) (by blk_simp [idx t]) (by blk_simp [idx t]) (by blk_simp [idx t])).trans ?_
  exact h9_out m c (y 0) (y 1) (y 2)
theorem i3 (t : Fin cfg0.N) : iblk m c 3 t = gR (args m c) := by
  have e : iblk m c 3 t = V m c main_v9 := by blk_ext! [iblk, idx t]
  rw [e, h10]
theorem i4 (t : Fin cfg0.N) : iblk m c 4 t = wuS (args m c) := by
  funext y
  blk_simp [iblk]
  refine (three_at _ (y 0) ⟨(y 1).val, by idx_bounds y; omega⟩ (y 2) (by blk_simp [idx t]) (by blk_simp [idx t]) (by blk_simp [idx t])).trans ?_
  exact h9_up m c (y 0) (y 1) (y 2)
theorem i5 (t : Fin cfg0.N) : iblk m c 5 t = wdS (args m c) := by
  funext y
  blk_simp [iblk]
  refine (three_at _ (y 0) ⟨1024 + (y 1).val, by idx_bounds y; omega⟩ (y 2) (by blk_simp [idx t]) (by blk_simp [idx t]) (by blk_simp [idx t])).trans ?_
  exact h9_down m c (y 0) (y 1) (y 2)

/-! ### The stores at one grid point -/

section
variable (A : Args) (T : Fin 8)

theorem ld_wu (q : Fin 4) (G : ℕ) (hG : G = q.val) (inb) :
    View.ld (Val := Elt Ideal) (e' := .bf16) (S := S4x1024x1024) (wuS A)
      (Rect.unit (s := S4x1024x1024) ![G, 0, 0] ![1, 1024, 1024] inb) = wuB A q := by
  subst hG
  refine ld_of _ _ _ fun x => ?_
  have h0 : (x 0).val < 1 := (x 0).isLt
  exact congrArg₂ A.wu (Fin.ext (by simp)) (Fin.ext (by simp))
theorem ld_wd (q : Fin 4) (G : ℕ) (hG : G = q.val) (inb) :
    View.ld (Val := Elt Ideal) (e' := .bf16) (S := S4x1024x1024) (wdS A)
      (Rect.unit (s := S4x1024x1024) ![G, 0, 0] ![1, 1024, 1024] inb) = wdB A q := by
  subst hG
  refine ld_of _ _ _ fun x => ?_
  have h0 : (x 0).val < 1 := (x 0).isLt
  exact congrArg₂ A.wd (Fin.ext (by simp)) (Fin.ext (by simp))

/-- A stored shard agrees with the block of the whole. -/
theorem at_sl (f : Fin 4096 → Fin 4096 → EReal) (q : Fin 4) (b : ℕ) (hb : b = 1024 * q.val) (inb)
    (x : (Rect.unit (s := S512x4096) ![0, b] ![512, 1024] inb).shape.Idx) :
    bk T (sl q f) x = bk T f ((Rect.unit (s := S512x4096) ![0, b] ![512, 1024] inb).emb x) := by
  subst hb
  exact congrArg₂ f (Fin.ext (by simp [tok])) (Fin.ext (by simp))
/-- Four stored shards agree with the block of the whole. -/
theorem sl_pieces (f : Fin 4096 → Fin 4096 → EReal) : View.PiecesOf (e := .bf16) (s := S512x4096) (Val := Elt Ideal) (bk T f) [
    ⟨Rect.unit (s := S512x4096) ![0, 3072] ![512, 1024] (by decide), bk T (sl 3 f)⟩,
    ⟨Rect.unit (s := S512x4096) ![0, 2048] ![512, 1024] (by decide), bk T (sl 2 f)⟩,
    ⟨Rect.unit (s := S512x4096) ![0, 1024] ![512, 1024] (by decide), bk T (sl 1 f)⟩,
    ⟨Rect.unit (s := S512x4096) ![0, 0] ![512, 1024] (by decide), bk T (sl 0 f)⟩] :=
  ⟨fun x => at_sl T f 3 _ (by decide) (by decide) x, fun x => at_sl T f 2 _ (by decide) (by decide) x,
    fun x => at_sl T f 1 _ (by decide) (by decide) x, fun x => at_sl T f 0 _ (by decide) (by decide) x, trivial⟩

/-- The normalized block, as the body binds it. -/
theorem p15 : k0_pay15 (F := Ideal) (bk T A.h) (bk T A.y) (woS A) (gR A) (wuS A) (wdS A) = bk T (hn A) := by
  refine Eq.trans ?_ (p5 A T)
  have e0 : View.ld (Val := Elt Ideal) (e' := .f32) (bk T A.h) r0_0 = bk T A.h := View.ld_unit_lit _ _ (by decide)
  have e1 : View.ld (Val := Elt Ideal) (e' := .bf16) (bk T A.y) r0_0 = bk T A.y := View.ld_unit_lit _ _ (by decide)
  have e2 : View.ld (Val := Elt Ideal) (e' := .bf16) (woS A) r0_1 = woS A := View.ld_unit_lit _ _ (by decide)
  have e3 : View.ld (Val := Elt Ideal) (e' := .f32) (gR A) r0_2 = gR A := View.ld_unit_lit _ _ (by decide)
  unfold k0_pay15
  rw [e0, e1, e2, e3]

theorem e6 : out0_6 (F := Ideal) (bk T A.h) (bk T A.y) (woS A) (gR A) (wuS A) (wdS A) = bk T (h1 A) := by
  frame_out
  rw [p4]
theorem e8 : out0_8 (F := Ideal) (bk T A.h) (bk T A.y) (woS A) (gR A) (wuS A) (wdS A) = bk T (hn A) := by
  frame_out
  rw [p5]
theorem e7 : out0_7 (F := Ideal) (bk T A.h) (bk T A.y) (woS A) (gR A) (wuS A) (wdS A) = bk T (h2 A) := by
  frame_out
  simp only [ld_wu A 0 0 rfl, ld_wu A 1 1 rfl, ld_wu A 2 2 rfl, ld_wu A 3 3 rfl, ld_wd A 0 0 rfl, ld_wd A 1 1 rfl, ld_wd A 2 2 rfl, ld_wd A 3 3 rfl, p15, p4, p7, p11, p14, p3]
theorem e9 : out0_9 (F := Ideal) (bk T A.h) (bk T A.y) (woS A) (gR A) (wuS A) (wdS A) = bk T (r A) := by
  frame_out
  simp only [ld_wu A 0 0 rfl, ld_wu A 1 1 rfl, ld_wu A 2 2 rfl, ld_wu A 3 3 rfl, p15, p2, p13, p10, p8]
  exact canon_of _ _ ![512, 1024] (by sl_kernel_rfl) (sl_pieces T (r A))
end

/-! ### The arrays -/

/-- The stream after the mixer. -/
theorem r6 : (dats m 0 c).arrAt 6 cfg0.N = arr (h1 (args m c)) := by
  refine (dats m 0 c).arrAt_eq_of_covers 6 _ (by decide +kernel) fun t hf y => ?_
  blk_simp
  rw [after0_6, i0, i1, i2, i3, i4, i5, e6]
  exact (arr_at _ _ (tok (pt t) (y 0)) (y 1) (by blk_simp [idx t]; simp [tok, pt]; omega) (by blk_simp [idx t])).symm
/-- The stream after the layer. -/
theorem r7 : (dats m 0 c).arrAt 7 cfg0.N = arr (h2 (args m c)) := by
  refine (dats m 0 c).arrAt_eq_of_covers 7 _ (by decide +kernel) fun t hf y => ?_
  blk_simp
  rw [after0_7, i0, i1, i2, i3, i4, i5, e7]
  exact (arr_at _ _ (tok (pt t) (y 0)) (y 1) (by blk_simp [idx t]; simp [tok, pt]; omega) (by blk_simp [idx t])).symm
/-- The normalized stream. -/
theorem r8 : (dats m 0 c).arrAt 8 cfg0.N = arr (hn (args m c)) := by
  refine (dats m 0 c).arrAt_eq_of_covers 8 _ (by decide +kernel) fun t hf y => ?_
  blk_simp
  rw [after0_8, i0, i1, i2, i3, i4, i5, e8]
  exact (arr_at _ _ (tok (pt t) (y 0)) (y 1) (by blk_simp [idx t]; simp [tok, pt]; omega) (by blk_simp [idx t])).symm
/-- The positive part of the up projection. -/
theorem r9 : (dats m 0 c).arrAt 9 cfg0.N = arr (r (args m c)) := by
  refine (dats m 0 c).arrAt_eq_of_covers 9 _ (by decide +kernel) fun t hf y => ?_
  blk_simp
  rw [after0_9, i0, i1, i2, i3, i4, i5, e9]
  exact (arr_at _ _ (tok (pt t) (y 0)) (y 1) (by blk_simp [idx t]; simp [tok, pt]; omega) (by blk_simp [idx t])).symm

end Cert.Mla

end
-- ==== Proof.MlaRef.lean ====
/- The reference's forward layer: each of its values is the quantity that the kernel's is. -/
module

public import proofs.«01_k».proof.Proof.MlaFinal
public import proofs.«01_k».proof.Proof.MixRef
public import proofs.«01_k».proof.Proof.Gen.Reference11Ideal.Read

@[expose] public section

set_option maxRecDepth 16384

noncomputable section

namespace Cert.Mla.Val

open Idealize.ShloMosaic Idealize.ShloMosaic.TcCoe Idealize.SL.Sem
open Cert.Reference11Ideal Cert.Reference11Ideal.Gen Cert.Reference11Ideal.Read Cert.Coe
open Cert.Mix (sl sum_shards tok arr bk cube arr_ix bk_ix cube_ix)
open Cert.Mix.Val (one div_1024 arr_eq one_eq)
open Cert.Mla

variable (A : Args)

theorem w2 : val_main_v2 (F := Ideal) (arr A.h) (arr A.y) (arr A.wo) = arr (h1 A) := by
  funext i; idx_vars i
  simp only [val_main_v2_apply, val_main_v1_apply, val_main_v0_apply]
  pointwise; rfl
theorem w10 (t : Fin 4096) (q : Fin 1) : val_main_v10 (F := Ideal) (arr A.h) (arr A.y) (arr A.wo) (ix2 t q) = rs A t := by
  simp only [val_main_v10_apply, val_main_v9_apply, val_main_v8_apply, val_main_cst_1_apply, val_main_v7_apply, val_main_v6_apply, val_main_cst_0_apply, val_main_v5_apply, val_main_v4_apply, val_main_cst_apply, val_main_v3_apply, w2 A]
  pointwise
  simp only [c_1024, c_eps, c_zero, zero_up.symm, zero_add, div_1024]; rfl
theorem w15 : val_main_v15 (F := Ideal) (arr A.h) (arr A.y) (arr A.wo) (one A.g) = arr (hn A) := by
  funext i; idx_vars i
  simp only [val_main_v15_apply, val_main_v14_apply, val_main_v13_apply, val_main_v12_apply, val_main_v11_apply, w2 A]
  pointwise
  refine congrArg₂ (fun x y : EReal => x * y) (congrArg₂ (fun x y : EReal => x * y) rfl ?_) rfl
  refine Eq.trans (congrArg _ ?_) (w10 A i0 0)
  exact eq_ix2 _
theorem w17 : val_main_v17 (F := Ideal) (arr A.h) (arr A.y) (arr A.wo) (one A.g) (arr A.wu) = arr (r A) := by
  funext i; idx_vars i
  simp only [val_main_v17_apply, val_main_call0_v0_apply, val_main_call0_cst_apply, val_main_v16_apply, w15 A]
  pointwise
  refine congrArg₂ (fun x y : EReal => max x y) rfl ?_
  first | exact c_zero | (simp only [zero_up])
theorem w20 : val_main_v20 (F := Ideal) (arr A.h) (arr A.y) (arr A.wo) (one A.g) (arr A.wu) (arr A.wd) = arr (h2 A) := by
  funext i; idx_vars i
  simp only [val_main_v20_apply, val_main_v19_apply, val_main_v18_apply, w17 A, w2 A]
  pointwise; rfl
theorem w21 : val_main_v21 (F := Ideal) (arr A.h) (arr A.y) (arr A.wo) (one A.g) = arr (hn A) := by
  funext i; idx_vars i
  simp only [val_main_v21_apply, w15 A]
  pointwise
theorem w24 : val_main_v24 (F := Ideal) (arr A.h) (arr A.y) (arr A.wo) (one A.g) (arr A.wu) = arr (r A) := by
  funext i; idx_vars i
  simp only [val_main_v24_apply, val_main_v23_apply, val_main_call1_v0_apply, val_main_call1_cst_apply, val_main_v22_apply, w15 A]
  pointwise
  refine congrArg₂ (fun x y : EReal => max x y) rfl ?_
  first | exact c_zero | (simp only [zero_up])

/-! ### Over the arrays themselves -/

variable (x0 : S4096x1024.Idx → EReal) (x1 : S4096x1024.Idx → EReal) (x2 : S1024x1024.Idx → EReal) (x3 : S1024.Idx → EReal)
    (x4 : S1024x4096.Idx → EReal) (x5 : S4096x1024.Idx → EReal)

theorem e0 : arr (argsOf x0 x1 x2 x3 x4 x5).h = x0 := arr_eq x0
theorem e1 : arr (argsOf x0 x1 x2 x3 x4 x5).y = x1 := arr_eq x1
theorem e2 : arr (argsOf x0 x1 x2 x3 x4 x5).wo = x2 := arr_eq x2
theorem e3 : one (argsOf x0 x1 x2 x3 x4 x5).g = x3 := one_eq x3
theorem e4 : arr (argsOf x0 x1 x2 x3 x4 x5).wu = x4 := arr_eq x4
theorem e5 : arr (argsOf x0 x1 x2 x3 x4 x5).wd = x5 := arr_eq x5
theorem v2 : val_main_v2 (F := Ideal) x0 x1 x2 = arr (h1 (argsOf x0 x1 x2 x3 x4 x5)) := by
  have e := w2 (argsOf x0 x1 x2 x3 x4 x5)
  rwa [e0 x0 x1 x2 x3 x4 x5, e1 x0 x1 x2 x3 x4 x5, e2 x0 x1 x2 x3 x4 x5] at e
theorem v20 : val_main_v20 (F := Ideal) x0 x1 x2 x3 x4 x5 = arr (h2 (argsOf x0 x1 x2 x3 x4 x5)) := by
  have e := w20 (argsOf x0 x1 x2 x3 x4 x5)
  rwa [e0 x0 x1 x2 x3 x4 x5, e1 x0 x1 x2 x3 x4 x5, e2 x0 x1 x2 x3 x4 x5, e3 x0 x1 x2 x3 x4 x5, e4 x0 x1 x2 x3 x4 x5, e5 x0 x1 x2 x3 x4 x5] at e
theorem v21 : val_main_v21 (F := Ideal) x0 x1 x2 x3 = arr (hn (argsOf x0 x1 x2 x3 x4 x5)) := by
  have e := w21 (argsOf x0 x1 x2 x3 x4 x5)
  rwa [e0 x0 x1 x2 x3 x4 x5, e1 x0 x1 x2 x3 x4 x5, e2 x0 x1 x2 x3 x4 x5, e3 x0 x1 x2 x3 x4 x5] at e
theorem v24 : val_main_v24 (F := Ideal) x0 x1 x2 x3 x4 = arr (r (argsOf x0 x1 x2 x3 x4 x5)) := by
  have e := w24 (argsOf x0 x1 x2 x3 x4 x5)
  rwa [e0 x0 x1 x2 x3 x4 x5, e1 x0 x1 x2 x3 x4 x5, e2 x0 x1 x2 x3 x4 x5, e3 x0 x1 x2 x3 x4 x5, e4 x0 x1 x2 x3 x4 x5] at e

end Cert.Mla.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Finite
public import proofs.«01_k».proof.Proof.FfnFinite
public import proofs.«01_k».proof.Proof.Down
public import proofs.«01_k».proof.Proof.Up
public import proofs.«01_k».proof.Proof.In
public import proofs.«01_k».proof.Proof.Out
public import proofs.«01_k».proof.Proof.MixRef
public import proofs.«01_k».proof.Proof.FwdRef
public import proofs.«01_k».proof.Proof.DownMla
public import proofs.«01_k».proof.Proof.UpMla
public import proofs.«01_k».proof.Proof.MlaRef
public import Idealize.ShloMosaic.Lib.Quiescent
public import Idealize.ShloMosaic.Adequacy
public import Idealize.ShloMosaic.Init
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Reference11Ideal

@[expose] public section

noncomputable section

namespace Cert.Proof

open Idealize.ShloMosaic Idealize.SL.Sem

/-- The reference ends with its arguments unchanged and every semaphore at zero. -/
theorem ref_frame : Cert.quiescent_ReferenceIdeal := fun m ρ _ =>
  (θ_run Cert.ReferenceIdeal.defs _ _).mono (fun r h => ⟨fun c => (h c).2.2.2.2.2.2.2.2, Idealize.ShloMosaic.sem_eq_zero_of_no_sems (by decide) r.2⟩)
    (Cert.ReferenceIdeal.Value.run (F := Ideal) m ρ)

/-- On finite arguments the kernel and the reference leave the same results. -/
theorem algebraic [h : Cert.Pre_finite.Facts] : Cert.algebraic_KernelIdeal_ReferenceIdeal_pre_finite := by
  intro m ρ m' ρ' hp ha
  have H := Cert.Fin.has m hp
  have H' : ∀ c, Cert.ReferenceIdeal.Val.Has (Idealize.ShloMosaic.StableHlo.launchContents m' c) (Cert.Fin.args m c) := fun c => by
    obtain ⟨h0, h1, h2, h3, h4, h5, h6, h7, h8⟩ := ha c
    exact ⟨h0.trans (H c).a0, h1.trans (H c).a1, h2.trans (H c).a2, h3.trans (H c).a3, h4.trans (H c).a4, h5.trans (H c).a5, h6.trans (H c).a6, h7.trans (H c).a7, h8.trans (H c).a8⟩
  refine ⟨fun c => Cert.Coe.up (Cert.KernelIdeal.Pay.mat (Cert.Spec.dh (Cert.Fin.args m c))), fun c => Cert.Coe.up (Cert.KernelIdeal.Pay.mat (Cert.Spec.hn (Cert.Fin.args m c))), fun c => Cert.Coe.up (Cert.KernelIdeal.Pay.mat (Cert.Spec.dpre (Cert.Fin.args m c))), fun c => Cert.Coe.up (Cert.KernelIdeal.Pay.ten (Cert.Spec.dws (Cert.Fin.args m c))), fun c => Cert.Coe.up (Cert.KernelIdeal.Pay.mat (Cert.Spec.dbs (Cert.Fin.args m c))), fun c => Cert.Coe.up (Cert.KernelIdeal.Pay.mat (M := 8) fun _ => Cert.Spec.dlg (Cert.Fin.args m c)), fun c => Cert.Coe.up (Cert.KernelIdeal.Pay.mat (M := 8) fun _ => Cert.Spec.dlb (Cert.Fin.args m c)), fun c => Cert.Coe.up (Cert.KernelIdeal.Pay.mat (M := 8) fun _ => Cert.Spec.dg (Cert.Fin.args m c)),
    (θ_run Cert.KernelIdeal.defs _ _).mono (fun r h c => ?_) (Cert.KernelIdeal.Value.run_blocks (F := Ideal) m ρ),
    (θ_run Cert.ReferenceIdeal.defs _ _).mono (fun r h c => ?_) (Cert.ReferenceIdeal.Value.run (F := Ideal) m' ρ')⟩
  · obtain ⟨h0, h1, h2, h3, h4, h5, h6, h7, hr⟩ := h c
    exact ⟨h0.trans (Cert.KernelIdeal.Final.r13 (H c)), h1.trans (Cert.KernelIdeal.Final.r14 (H c)), h2.trans (Cert.KernelIdeal.Final.r15 (H c)), h3.trans (Cert.KernelIdeal.Final.r16 (H c)), h4.trans (Cert.KernelIdeal.Final.r17 (H c)), h5.trans (Cert.KernelIdeal.Final.r18 (H c)), h6.trans (Cert.KernelIdeal.Final.r19 (H c)), h7.trans (Cert.KernelIdeal.Final.r20 (H c)), hr⟩
  · obtain ⟨h0, h1, h2, h3, h4, h5, h6, h7, hr⟩ := h c
    exact ⟨h0.trans ((Cert.ReferenceIdeal.Read.val_main_v164_eq _).trans (Cert.ReferenceIdeal.Val.r164 (H' c))), h1.trans ((Cert.ReferenceIdeal.Read.val_main_v178_eq _).trans (Cert.ReferenceIdeal.Val.r178 (H' c))), h2.trans ((Cert.ReferenceIdeal.Read.val_main_v179_eq _).trans (Cert.ReferenceIdeal.Val.r179 (H' c))), h3.trans ((Cert.ReferenceIdeal.Read.val_main_v97_eq _).trans (Cert.ReferenceIdeal.Val.r97 (H' c))), h4.trans ((Cert.ReferenceIdeal.Read.val_main_v91_eq _).trans (Cert.ReferenceIdeal.Val.r91 (H' c))), h5.trans ((Cert.ReferenceIdeal.Read.val_main_v180_eq _).trans (Cert.ReferenceIdeal.Val.r180 (H' c))), h6.trans ((Cert.ReferenceIdeal.Read.val_main_v181_eq _).trans (Cert.ReferenceIdeal.Val.r181 (H' c))), h7.trans ((Cert.ReferenceIdeal.Read.val_main_v182_eq _).trans (Cert.ReferenceIdeal.Val.r182 (H' c))), hr⟩

/-- Reference 2 ends with its arguments unchanged and every semaphore at zero. -/
theorem ref_frame2 : Cert.quiescent_Reference2Ideal := fun m ρ _ =>
  (θ_run Cert.Reference2Ideal.defs _ _).mono (fun r h => ⟨fun c => (h c).2.2.2.2.2.2, Idealize.ShloMosaic.sem_eq_zero_of_no_sems (by decide) r.2⟩)
    (Cert.Reference2Ideal.Value.run (F := Ideal) m ρ)

/-- Reference 3 ends with its arguments unchanged and every semaphore at zero. -/
theorem ref_frame3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Reference 4 ends with its arguments unchanged and every semaphore at zero. -/
theorem ref_frame4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Reference 5 ends with its arguments unchanged and every semaphore at zero. -/
theorem ref_frame5 : Cert.quiescent_Reference5Ideal := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

/-- Reference 6 ends with its arguments unchanged and every semaphore at zero. -/
theorem ref_frame6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- Reference 7 ends with its arguments unchanged and every semaphore at zero. -/
theorem ref_frame7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- Reference 8 ends with its arguments unchanged and every semaphore at zero. -/
theorem ref_frame8 : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

/-- Reference 9 ends with its arguments unchanged and every semaphore at zero. -/
theorem ref_frame9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- Reference 10 ends with its arguments unchanged and every semaphore at zero. -/
theorem ref_frame10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- Reference 11 ends with its arguments unchanged and every semaphore at zero. -/
theorem ref_frame11 : Cert.quiescent_Reference11Ideal := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)

/-- On finite arguments the feed-forward backward kernel and its reference leave the same results. -/
theorem algebraic2 [h : Cert.Pre_finite2.Facts] : Cert.algebraic_Kernel2Ideal_Reference2Ideal_pre_finite2 := by
  intro m ρ m' ρ' hp ha
  have H := Cert.Ffn.has m hp
  have H' : ∀ c : Dev Cert.Reference2Ideal.nD, Cert.Ffn.Val.Has (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (Cert.Ffn.args m c) := fun c => by
    obtain ⟨h0, h1, h2, h3, h4⟩ := ha c
    exact ⟨h0.trans (H c).a0, h1.trans (H c).a1, h2.trans (H c).a2, h3.trans (H c).a3, h4.trans (H c).a4⟩
  refine ⟨fun c => Cert.Coe.up (Cert.KernelIdeal.Pay.mat (Cert.Ffn.dh (Cert.Ffn.args m c))), fun c => Cert.Coe.up (Cert.KernelIdeal.Pay.mat (Cert.Ffn.dh (Cert.Ffn.args m c))), fun c => Cert.Coe.up (Cert.KernelIdeal.Pay.mat (Cert.Ffn.du (Cert.Ffn.args m c))), fun c => Cert.Coe.up (Cert.KernelIdeal.Pay.mat (Cert.Ffn.a (Cert.Ffn.args m c))), fun c => Cert.Coe.up (Cert.KernelIdeal.Pay.mat (M := 8) fun _ => Cert.Ffn.dg (Cert.Ffn.args m c)), fun c => Cert.Coe.up (Cert.KernelIdeal.Pay.mat (Cert.Ffn.args m c).ct),
    (θ_run Cert.Kernel2Ideal.defs _ _).mono (fun r h c => ?_) (Cert.Kernel2Ideal.Value.run_blocks (F := Ideal) m ρ),
    (θ_run Cert.Reference2Ideal.defs _ _).mono (fun r h c => ?_) (Cert.Reference2Ideal.Value.run (F := Ideal) m' ρ')⟩
  · obtain ⟨h0, h1, h2, h3, h4, h5, hr⟩ := h c
    exact ⟨h0.trans (Cert.Ffn.r6 (H c)), h1.trans (Cert.Ffn.r7 (H c)), h2.trans (Cert.Ffn.r8 (H c)), h3.trans (Cert.Ffn.r9 (H c)), h4.trans (Cert.Ffn.r10 (H c)), h5.trans (Cert.Ffn.r11 (H c)), hr⟩
  · obtain ⟨h0, h1, h2, h3, h4, h5, hr⟩ := h c
    exact ⟨h0.trans ((Cert.Reference2Ideal.Read.val_main_v50_eq m' c).trans (Cert.Ffn.Val.r50 (H' c))), h1.trans ((Cert.Reference2Ideal.Read.val_main_v51_eq m' c).trans (Cert.Ffn.Val.r51 (H' c))), h2.trans ((Cert.Reference2Ideal.Read.val_main_v52_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans (Cert.Ffn.Val.r52 (H' c))), h3.trans ((Cert.Reference2Ideal.Read.val_main_v53_eq (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))).trans (Cert.Ffn.Val.r53 (H' c))), h4.trans ((Cert.Reference2Ideal.Read.val_main_v54_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))).trans (Cert.Ffn.Val.r54 (H' c))), h5.trans ((Cert.Reference2Ideal.Read.val_main_v55_eq (m' ((c.tc : Thread Cert.Reference2Ideal.nD Cert.Reference2Ideal.τ).loc Cert.Reference2Ideal.main_arg0))).trans (Cert.Ffn.Val.r55 (H' c))), hr⟩

/-- The kernel of the down weights' gradient and its reference leave the same result. -/
theorem algebraic3 : Cert.algebraic_Kernel3Ideal_Reference3Ideal := by
  intro m ρ m' ρ' _ ha
  refine ⟨fun c => Cert.Down.out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    (θ_run Cert.Kernel3Ideal.defs _ _).mono (fun r h c => ?_) (Cert.Kernel3Ideal.Value.run_blocks (F := Ideal) m ρ),
    (θ_run Cert.Reference3Ideal.defs _ _).mono (fun r h c => ?_) (Cert.Reference3Ideal.Value.run (F := Ideal) m' ρ')⟩
  · obtain ⟨h0, hr⟩ := h c
    exact ⟨h0.trans (Cert.Down.final m c), hr⟩
  · obtain ⟨h0, hr⟩ := h c
    obtain ⟨e0, e1, e2⟩ := ha c
    exact ⟨h0.trans ((Cert.Reference3Ideal.Read.val_main_v7_eq ..).trans ((Cert.Down.ref _ _ _).trans (by rw [e0, e1, e2]))), hr⟩

/-- The kernel of the up weights' gradient and its reference leave the same result. -/
theorem algebraic4 : Cert.algebraic_Kernel4Ideal_Reference4Ideal := by
  intro m ρ m' ρ' _ ha
  refine ⟨fun c => Cert.Up.out (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    (θ_run Cert.Kernel4Ideal.defs _ _).mono (fun r h c => ?_) (Cert.Kernel4Ideal.Value.run_blocks (F := Ideal) m ρ),
    (θ_run Cert.Reference4Ideal.defs _ _).mono (fun r h c => ?_) (Cert.Reference4Ideal.Value.run (F := Ideal) m' ρ')⟩
  · obtain ⟨h0, hr⟩ := h c
    exact ⟨h0.trans (Cert.Up.final m c), hr⟩
  · obtain ⟨h0, hr⟩ := h c
    obtain ⟨e0, e1, e2⟩ := ha c
    exact ⟨h0.trans ((Cert.Reference4Ideal.Read.val_main_v14_eq ..).trans ((Cert.Up.ref _ _ _).trans (by rw [e0, e1, e2]))), hr⟩

/-- The forward mixing and feed-forward kernel and its reference leave the same results. -/
theorem algebraic5 : Cert.algebraic_Kernel5Ideal_Reference5Ideal := by
  intro m ρ m' ρ' _ ha
  have e : ∀ c : Dev Cert.Reference5Ideal.nD, Cert.Mix.argsOf (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = Cert.Mix.args m c := fun c => by
    obtain ⟨e0, e1, e2, e3, e4, e5⟩ := ha c
    rw [e0, e1, e2, e3, e4, e5]; rfl
  refine ⟨fun c => Cert.Mix.arr (Cert.Mix.h1 (Cert.Mix.args m c)), fun c => Cert.Mix.arr (Cert.Mix.h2 (Cert.Mix.args m c)), fun c => Cert.Mix.arr (Cert.Mix.hn (Cert.Mix.args m c)), fun c => Cert.Mix.arr (Cert.Mix.r (Cert.Mix.args m c)),
    (θ_run Cert.Kernel5Ideal.defs _ _).mono (fun r h c => ?_) (Cert.Kernel5Ideal.Value.run_blocks (F := Ideal) m ρ),
    (θ_run Cert.Reference5Ideal.defs _ _).mono (fun r h c => ?_) (Cert.Reference5Ideal.Value.run (F := Ideal) m' ρ')⟩
  · obtain ⟨h0, h1, h2, h3, hr⟩ := h c
    exact ⟨h0.trans (Cert.Mix.r6 m c), h1.trans (Cert.Mix.r7 m c), h2.trans (Cert.Mix.r8 m c), h3.trans (Cert.Mix.r9 m c), hr⟩
  · obtain ⟨h0, h1, h2, h3, hr⟩ := h c
    exact ⟨h0.trans ((Cert.Reference5Ideal.Read.val_main_v2_eq ..).trans ((Cert.Mix.Val.v2 _ _ _ _ _ _).trans (congrArg (fun a => Cert.Mix.arr (Cert.Mix.h1 a)) (e c)))), h1.trans ((Cert.Reference5Ideal.Read.val_main_v20_eq ..).trans ((Cert.Mix.Val.v20 _ _ _ _ _ _).trans (congrArg (fun a => Cert.Mix.arr (Cert.Mix.h2 a)) (e c)))), h2.trans ((Cert.Reference5Ideal.Read.val_main_v21_eq ..).trans ((Cert.Mix.Val.v21 _ _ _ _ _ _).trans (congrArg (fun a => Cert.Mix.arr (Cert.Mix.hn a)) (e c)))), h3.trans ((Cert.Reference5Ideal.Read.val_main_v24_eq ..).trans ((Cert.Mix.Val.v24 _ _ _ _ _ _).trans (congrArg (fun a => Cert.Mix.arr (Cert.Mix.r a)) (e c)))), hr⟩

/-- The kernel of the output weights' gradient and its reference leave the same result. -/
theorem algebraic6 : Cert.algebraic_Kernel6Ideal_Reference6Ideal := by
  intro m ρ m' ρ' _ ha
  refine ⟨fun c => Cert.Out.out (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    (θ_run Cert.Kernel6Ideal.defs _ _).mono (fun r h c => ?_) (Cert.Kernel6Ideal.Value.run_blocks (F := Ideal) m ρ),
    (θ_run Cert.Reference6Ideal.defs _ _).mono (fun r h c => ?_) (Cert.Reference6Ideal.Value.run (F := Ideal) m' ρ')⟩
  · obtain ⟨h0, hr⟩ := h c
    exact ⟨h0.trans (Cert.Out.final m c), hr⟩
  · obtain ⟨h0, hr⟩ := h c
    obtain ⟨e0, e1, e2⟩ := ha c
    exact ⟨h0.trans ((Cert.Reference6Ideal.Read.val_main_v7_eq ..).trans ((Cert.Out.ref _ _ _).trans (by rw [e0, e1, e2]))), hr⟩

/-- The kernel of the input weights' gradient and its reference leave the same result. -/
theorem algebraic7 : Cert.algebraic_Kernel7Ideal_Reference7Ideal := by
  intro m ρ m' ρ' _ ha
  refine ⟨fun c => Cert.In.out (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    (θ_run Cert.Kernel7Ideal.defs _ _).mono (fun r h c => ?_) (Cert.Kernel7Ideal.Value.run_blocks (F := Ideal) m ρ),
    (θ_run Cert.Reference7Ideal.defs _ _).mono (fun r h c => ?_) (Cert.Reference7Ideal.Value.run (F := Ideal) m' ρ')⟩
  · obtain ⟨h0, hr⟩ := h c
    exact ⟨h0.trans (Cert.In.final m c), hr⟩
  · obtain ⟨h0, hr⟩ := h c
    obtain ⟨e0, e1, e2⟩ := ha c
    exact ⟨h0.trans ((Cert.Reference7Ideal.Read.val_main_v15_eq ..).trans ((Cert.In.ref _ _ _).trans (by rw [e0, e1, e2]))), hr⟩

/-- The kernel of the down weights' gradient in a buffer of 3072 rows and its reference leave the same result. -/
theorem algebraic9 : Cert.algebraic_Kernel9Ideal_Reference9Ideal := by
  intro m ρ m' ρ' _ ha
  refine ⟨fun c => Cert.DownMla.out (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    (θ_run Cert.Kernel9Ideal.defs _ _).mono (fun r h c => ?_) (Cert.Kernel9Ideal.Value.run_blocks (F := Ideal) m ρ),
    (θ_run Cert.Reference9Ideal.defs _ _).mono (fun r h c => ?_) (Cert.Reference9Ideal.Value.run (F := Ideal) m' ρ')⟩
  · obtain ⟨h0, hr⟩ := h c
    exact ⟨h0.trans (Cert.DownMla.final m c), hr⟩
  · obtain ⟨h0, hr⟩ := h c
    obtain ⟨e0, e1, e2⟩ := ha c
    exact ⟨h0.trans ((Cert.Reference9Ideal.Read.val_main_v7_eq ..).trans ((Cert.DownMla.ref _ _ _).trans (by rw [e0, e1, e2]))), hr⟩

/-- The kernel of the up weights' gradient in a buffer of 3072 rows and its reference leave the same result. -/
theorem algebraic10 : Cert.algebraic_Kernel10Ideal_Reference10Ideal := by
  intro m ρ m' ρ' _ ha
  refine ⟨fun c => Cert.UpMla.out (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    (θ_run Cert.Kernel10Ideal.defs _ _).mono (fun r h c => ?_) (Cert.Kernel10Ideal.Value.run_blocks (F := Ideal) m ρ),
    (θ_run Cert.Reference10Ideal.defs _ _).mono (fun r h c => ?_) (Cert.Reference10Ideal.Value.run (F := Ideal) m' ρ')⟩
  · obtain ⟨h0, hr⟩ := h c
    exact ⟨h0.trans (Cert.UpMla.final m c), hr⟩
  · obtain ⟨h0, hr⟩ := h c
    obtain ⟨e0, e1, e2⟩ := ha c
    exact ⟨h0.trans ((Cert.Reference10Ideal.Read.val_main_v14_eq ..).trans ((Cert.UpMla.ref _ _ _).trans (by rw [e0, e1, e2]))), hr⟩

/-- The forward mixing and feed-forward kernel of an MLA layer and its reference leave the same results. -/
theorem algebraic11 : Cert.algebraic_Kernel11Ideal_Reference11Ideal := by
  intro m ρ m' ρ' _ ha
  have e : ∀ c : Dev Cert.Reference11Ideal.nD, Cert.Mla.argsOf (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) = Cert.Mla.args m c := fun c => by
    obtain ⟨e0, e1, e2, e3, e4, e5⟩ := ha c
    rw [e0, e1, e2, e3, e4, e5]; rfl
  refine ⟨fun c => Cert.Mix.arr (Cert.Mla.h1 (Cert.Mla.args m c)), fun c => Cert.Mix.arr (Cert.Mla.h2 (Cert.Mla.args m c)), fun c => Cert.Mix.arr (Cert.Mla.hn (Cert.Mla.args m c)), fun c => Cert.Mix.arr (Cert.Mla.r (Cert.Mla.args m c)),
    (θ_run Cert.Kernel11Ideal.defs _ _).mono (fun r h c => ?_) (Cert.Kernel11Ideal.Value.run_blocks (F := Ideal) m ρ),
    (θ_run Cert.Reference11Ideal.defs _ _).mono (fun r h c => ?_) (Cert.Reference11Ideal.Value.run (F := Ideal) m' ρ')⟩
  · obtain ⟨h0, h1, h2, h3, hr⟩ := h c
    exact ⟨h0.trans (Cert.Mla.r6 m c), h1.trans (Cert.Mla.r7 m c), h2.trans (Cert.Mla.r8 m c), h3.trans (Cert.Mla.r9 m c), hr⟩
  · obtain ⟨h0, h1, h2, h3, hr⟩ := h c
    exact ⟨h0.trans ((Cert.Reference11Ideal.Read.val_main_v2_eq ..).trans ((Cert.Mla.Val.v2 _ _ _ _ _ _).trans (congrArg (fun a => Cert.Mix.arr (Cert.Mla.h1 a)) (e c)))), h1.trans ((Cert.Reference11Ideal.Read.val_main_v20_eq ..).trans ((Cert.Mla.Val.v20 _ _ _ _ _ _).trans (congrArg (fun a => Cert.Mix.arr (Cert.Mla.h2 a)) (e c)))), h2.trans ((Cert.Reference11Ideal.Read.val_main_v21_eq ..).trans ((Cert.Mla.Val.v21 _ _ _ _ _ _).trans (congrArg (fun a => Cert.Mix.arr (Cert.Mla.hn a)) (e c)))), h3.trans ((Cert.Reference11Ideal.Read.val_main_v24_eq ..).trans ((Cert.Mla.Val.v24 _ _ _ _ _ _).trans (congrArg (fun a => Cert.Mix.arr (Cert.Mla.r a)) (e c)))), hr⟩

/-- The forward mixer kernel and its reference leave the same results. -/
theorem algebraic8 : Cert.algebraic_Kernel8Ideal_Reference8Ideal := by
  intro m ρ m' ρ' _ ha
  have e : ∀ c : Dev Cert.Reference8Ideal.nD, Cert.Fwd.argsOf (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6)) = Cert.Fwd.args m c := fun c => by
    obtain ⟨e0, e1, e2, e3, e4, e5, e6⟩ := ha c
    rw [e0, e1, e2, e3, e4, e5, e6]; rfl
  refine ⟨fun c => Cert.Mix.arr (Cert.Fwd.y (Cert.Fwd.args m c)), fun c => Cert.Mix.arr (Cert.Fwd.pre (Cert.Fwd.args m c)),
    (θ_run Cert.Kernel8Ideal.defs _ _).mono (fun r h c => ?_) (Cert.Kernel8Ideal.Value.run_blocks (F := Ideal) m ρ),
    (θ_run Cert.Reference8Ideal.defs _ _).mono (fun r h c => ?_) (Cert.Reference8Ideal.Value.run (F := Ideal) m' ρ')⟩
  · obtain ⟨h0, h1, hr⟩ := h c
    exact ⟨h0.trans (Cert.Fwd.r7 m c), h1.trans (Cert.Fwd.r8 m c), hr⟩
  · obtain ⟨h0, h1, hr⟩ := h c
    exact ⟨h0.trans ((Cert.Reference8Ideal.Read.val_main_v66_eq m' c).trans ((Cert.Fwd.Val.v66 _ _ _ _ _ _ _).trans (congrArg (fun a => Cert.Mix.arr (Cert.Fwd.y a)) (e c)))),
      h1.trans ((Cert.Reference8Ideal.Read.val_main_v67_eq ..).trans ((Cert.Fwd.Val.v67 (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6))).trans (congrArg (fun a => Cert.Mix.arr (Cert.Fwd.pre a)) (e c)))), hr⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Fin.facts, Cert.Ffn.facts,
  fun m ρ _ => Cert.Kernel.Gen.frame m ρ, fun m ρ _ => Cert.KernelIdeal.Gen.frame m ρ, fun m ρ _ => Cert.KernelIdeal.Gen.frame m ρ, ref_frame, fun m ρ _ => ref_frame m ρ trivial,
  fun m ρ _ => Cert.Kernel2.Gen.frame m ρ, fun m ρ _ => Cert.Kernel2Ideal.Gen.frame m ρ, fun m ρ _ => Cert.Kernel2Ideal.Gen.frame m ρ, ref_frame2, fun m ρ _ => ref_frame2 m ρ trivial,
  fun m ρ _ => Cert.Kernel3.Gen.frame m ρ, fun m ρ _ => Cert.Kernel3Ideal.Gen.frame m ρ, ref_frame3,
  fun m ρ _ => Cert.Kernel4.Gen.frame m ρ, fun m ρ _ => Cert.Kernel4Ideal.Gen.frame m ρ, ref_frame4,
  fun m ρ _ => Cert.Kernel5.Gen.frame m ρ, fun m ρ _ => Cert.Kernel5Ideal.Gen.frame m ρ, ref_frame5,
  fun m ρ _ => Cert.Kernel6.Gen.frame m ρ, fun m ρ _ => Cert.Kernel6Ideal.Gen.frame m ρ, ref_frame6,
  fun m ρ _ => Cert.Kernel7.Gen.frame m ρ, fun m ρ _ => Cert.Kernel7Ideal.Gen.frame m ρ, ref_frame7,
  fun m ρ _ => Cert.Kernel8.Gen.frame m ρ, fun m ρ _ => Cert.Kernel8Ideal.Gen.frame m ρ, ref_frame8,
  fun m ρ _ => Cert.Kernel9.Gen.frame m ρ, fun m ρ _ => Cert.Kernel9Ideal.Gen.frame m ρ, ref_frame9,
  fun m ρ _ => Cert.Kernel10.Gen.frame m ρ, fun m ρ _ => Cert.Kernel10Ideal.Gen.frame m ρ, ref_frame10,
  fun m ρ _ => Cert.Kernel11.Gen.frame m ρ, fun m ρ _ => Cert.Kernel11Ideal.Gen.frame m ρ, ref_frame11,
  ⟨IdealRules.named_const.statement Cert.KernelIdeal.κ "c" .f32 0x3D372713#32 ((8943 / 200000 : ℝ) : EReal) rfl,
    IdealRules.named_const.statement Cert.KernelIdeal.κ "three_c" .f32 0x3E095D4F#32 ((26829 / 200000 : ℝ) : EReal) rfl⟩,
  haveI := Cert.Fin.facts; algebraic,
  trivial, haveI := Cert.Ffn.facts; algebraic2, trivial, algebraic3, trivial, algebraic4, trivial, algebraic5, trivial, algebraic6, trivial, algebraic7,
  IdealRules.named_const.statement Cert.Kernel8Ideal.κ "c" .f32 0x3D372713#32 ((8943 / 200000 : ℝ) : EReal) rfl, algebraic8, trivial, algebraic9, trivial, algebraic10, trivial, algebraic11⟩

end Cert.Proof

end
